-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x1536 : Shape := ⟨3, ![3, 640, 1536]⟩
abbrev S1536x4608 : Shape := ⟨2, ![1536, 4608]⟩
abbrev S4608 : Shape := ⟨1, ![4608]⟩
abbrev S96 : Shape := ⟨1, ![96]⟩
abbrev S96x16 : Shape := ⟨2, ![96, 16]⟩
abbrev S1536 : Shape := ⟨1, ![1536]⟩
abbrev S1x1536 : Shape := ⟨2, ![1, 1536]⟩
abbrev S1x4608 : Shape := ⟨2, ![1, 4608]⟩
abbrev S3x5x128 : Shape := ⟨3, ![3, 5, 128]⟩
abbrev S3x1x1536 : Shape := ⟨3, ![3, 1, 1536]⟩
abbrev S6x3x1536x256 : Shape := ⟨4, ![6, 3, 1536, 256]⟩
abbrev S3x640x128 : Shape := ⟨3, ![3, 640, 128]⟩
abbrev S2x640x256 : Shape := ⟨3, ![2, 640, 256]⟩
abbrev S3 : Shape := ⟨1, ![3]⟩
abbrev S6 : Shape := ⟨1, ![6]⟩
abbrev S_ : Shape := ⟨0, ![]⟩
abbrev S1 : Shape := ⟨1, ![1]⟩
abbrev S1x640x1536 : Shape := ⟨3, ![1, 640, 1536]⟩
abbrev S640x1536 : Shape := ⟨2, ![640, 1536]⟩
abbrev S1x1x1536x256 : Shape := ⟨4, ![1, 1, 1536, 256]⟩
abbrev S1536x256 : Shape := ⟨2, ![1536, 256]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x1x128 : Shape := ⟨3, ![1, 1, 128]⟩
abbrev S1x5x128 : Shape := ⟨3, ![1, 5, 128]⟩
abbrev S5x128 : Shape := ⟨2, ![5, 128]⟩
abbrev S640x256 : Shape := ⟨2, ![640, 256]⟩
abbrev S1x640x128 : Shape := ⟨3, ![1, 640, 128]⟩
abbrev S640x128 : Shape := ⟨2, ![640, 128]⟩
abbrev S1x256 : Shape := ⟨2, ![1, 256]⟩
abbrev S1x640x256 : Shape := ⟨3, ![1, 640, 256]⟩
abbrev S256 : Shape := ⟨1, ![256]⟩
abbrev S1x1x256 : Shape := ⟨3, ![1, 1, 256]⟩
abbrev S3x640x1 : Shape := ⟨3, ![3, 640, 1]⟩

abbrev nBuf : Space → Nat
  | .hbm => 15
  | .vmem => 13
  | .smem => 0
  | _ => 0

abbrev bufTy : (tb : Table) → Fin (tcTables nBuf tb) → BufTy
  | .hbm, ⟨0, _⟩ => ⟨S3x640x1536, .bf16⟩
  | .hbm, ⟨1, _⟩ => ⟨S1536x4608, .fp8e4m3⟩
  | .hbm, ⟨2, _⟩ => ⟨S4608, .f32⟩
  | .hbm, ⟨3, _⟩ => ⟨S96, .f32⟩
  | .hbm, ⟨4, _⟩ => ⟨S3x640x1536, .f32⟩
  | .hbm, ⟨5, _⟩ => ⟨S96x16, .f32⟩
  | .hbm, ⟨6, _⟩ => ⟨S1536, .f32⟩
  | .hbm, ⟨7, _⟩ => ⟨S1x1536, .f32⟩
  | .hbm, ⟨8, _⟩ => ⟨S1x4608, .f32⟩
  | .hbm, ⟨9, _⟩ => ⟨S3x640x1536, .bf16⟩
  | .hbm, ⟨10, _⟩ => ⟨S3x640x1536, .fp8e4m3⟩
  | .hbm, ⟨11, _⟩ => ⟨S3x5x128, .f32⟩
  | .hbm, ⟨12, _⟩ => ⟨S3x640x1536, .fp8e4m3⟩
  | .hbm, ⟨13, _⟩ => ⟨S3x1x1536, .f32⟩
  | .hbm, ⟨14, _⟩ => ⟨S3x640x1, .f32⟩
  | .local _ .vmem, ⟨0, _⟩ => ⟨S1x4608, .f32⟩
  | .local _ .vmem, ⟨1, _⟩ => ⟨S1x1536, .f32⟩
  | .local _ .vmem, ⟨2, _⟩ => ⟨S3x640x1536, .f32⟩
  | .local _ .vmem, ⟨3, _⟩ => ⟨S3x640x1536, .bf16⟩
  | .local _ .vmem, ⟨4, _⟩ => ⟨S6x3x1536x256, .fp8e4m3⟩
  | .local _ .vmem, ⟨5, _⟩ => ⟨S3x640x1536, .fp8e4m3⟩
  | .local _ .vmem, ⟨6, _⟩ => ⟨S3x640x128, .f32⟩
  | .local _ .vmem, ⟨7, _⟩ => ⟨S3x5x128, .f32⟩
  | .local _ .vmem, ⟨8, _⟩ => ⟨S2x640x256, .f32⟩
  | .local _ .vmem, ⟨9, _⟩ => ⟨S2x640x256, .f32⟩
  | .local _ .vmem, ⟨10, _⟩ => ⟨S3x640x1536, .fp8e4m3⟩
  | .local _ .vmem, ⟨11, _⟩ => ⟨S3x1x1536, .f32⟩
  | .local _ .vmem, ⟨12, _⟩ => ⟨S3x640x1536, .bf16⟩
  | _, _ => ⟨S3x640x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1x4608 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S3x640x1536 : Shape := ⟨3, ![3, 640, 1536]⟩
abbrev S1536x4608 : Shape := ⟨2, ![1536, 4608]⟩
abbrev S4608 : Shape := ⟨1, ![4608]⟩
abbrev S96 : Shape := ⟨1, ![96]⟩
abbrev S96x1 : Shape := ⟨2, ![96, 1]⟩
abbrev S96x16 : Shape := ⟨2, ![96, 16]⟩
abbrev S1x1536 : Shape := ⟨2, ![1, 1536]⟩
abbrev S1x4608 : Shape := ⟨2, ![1, 4608]⟩
abbrev S3x640x1 : Shape := ⟨3, ![3, 640, 1]⟩
abbrev S3x1x1536 : Shape := ⟨3, ![3, 1, 1536]⟩
abbrev S1x640x1536 : Shape := ⟨3, ![1, 640, 1536]⟩
abbrev S640x1536 : Shape := ⟨2, ![640, 1536]⟩
abbrev S640 : Shape := ⟨1, ![640]⟩
abbrev S640x1 : Shape := ⟨2, ![640, 1]⟩
abbrev S1x253 : Shape := ⟨2, ![1, 253]⟩
abbrev S640x253 : Shape := ⟨2, ![640, 253]⟩
abbrev S1x640x1 : Shape := ⟨3, ![1, 640, 1]⟩
abbrev S640x4608 : Shape := ⟨2, ![640, 4608]⟩
abbrev S1536 : Shape := ⟨1, ![1536]⟩
abbrev S253x1 : Shape := ⟨2, ![253, 1]⟩
abbrev S253x1536 : Shape := ⟨2, ![253, 1536]⟩
abbrev S1x1x1536 : Shape := ⟨3, ![1, 1, 1536]⟩

abbrev nBuf : Space → Nat
  | .hbm => 14
  | .vmem => 10
  | .smem => 0
  | _ => 0

abbrev bufTy : (tb : Table) → Fin (tcTables nBuf tb) → BufTy
  | .hbm, ⟨0, _⟩ => ⟨S3x640x1536, .bf16⟩
  | .hbm, ⟨1, _⟩ => ⟨S1536x4608, .fp8e4m3⟩
  | .hbm, ⟨2, _⟩ => ⟨S4608, .f32⟩
  | .hbm, ⟨3, _⟩ => ⟨S96, .f32⟩
  | .hbm, ⟨4, _⟩ => ⟨S3x640x1536, .f32⟩
  | .hbm, ⟨5, _⟩ => ⟨S96x1, .f32⟩
  | .hbm, ⟨6, _⟩ => ⟨S96x16, .f32⟩
  | .hbm, ⟨7, _⟩ => ⟨S1x1536, .f32⟩
  | .hbm, ⟨8, _⟩ => ⟨S1x4608, .f32⟩
  | .hbm, ⟨9, _⟩ => ⟨S3x640x1536, .bf16⟩
  | .hbm, ⟨10, _⟩ => ⟨S3x640x1536, .fp8e4m3⟩
  | .hbm, ⟨11, _⟩ => ⟨S3x640x1, .f32⟩
  | .hbm, ⟨12, _⟩ => ⟨S3x640x1536, .fp8e4m3⟩
  | .hbm, ⟨13, _⟩ => ⟨S3x1x1536, .f32⟩
  | .local _ .vmem, ⟨0, _⟩ => ⟨S3x640x1536, .bf16⟩
  | .local _ .vmem, ⟨1, _⟩ => ⟨S1536x4608, .fp8e4m3⟩
  | .local _ .vmem, ⟨2, _⟩ => ⟨S1x4608, .f32⟩
  | .local _ .vmem, ⟨3, _⟩ => ⟨S1x1536, .f32⟩
  | .local _ .vmem, ⟨4, _⟩ => ⟨S3x640x1536, .f32⟩
  | .local _ .vmem, ⟨5, _⟩ => ⟨S3x640x1536, .bf16⟩
  | .local _ .vmem, ⟨6, _⟩ => ⟨S3x640x1536, .fp8e4m3⟩
  | .local _ .vmem, ⟨7, _⟩ => ⟨S3x640x1, .f32⟩
  | .local _ .vmem, ⟨8, _⟩ => ⟨S3x640x1536, .fp8e4m3⟩
  | .local _ .vmem, ⟨9, _⟩ => ⟨S3x1x1536, .f32⟩
  | _, _ => ⟨S3x640x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3x640x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x640x1536 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x640x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x640x1536 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Steps.lean ====
/-
  Hand-written, untrusted. The kernel's body restated over its loop indices.

  The printed body is the unrolled kernel. Here every repeated stretch is one definition over the indices it repeats
  at: `b` the batch row, `r` the block of 128 tokens, `c` the block of 128 lanes, `j` the tile of 256 channels, `p`
  which of the three projections a weight block belongs to, `par` which of the two buffers of `z` and of `q` is in use.
  `body_eq` says that the printed body IS this program; the kernel checks it by unfolding.
-/
module

public import proofs.«01_k».proof.Proof.Gen.Kernel

@[expose] public section

noncomputable section

namespace Cert.Kernel.Hand

open Idealize.ShloMosaic Idealize.SL.Sem
open Cert.Kernel Cert.Kernel.Gen

variable {F : FTy → Type} [FloatOps F]

/-! ## What the kernel computes from the vectors it loads -/

/-- A step of the exponent search: `t = ex + k` replaces `ex` where the power of two with biased exponent `min t 254`
    is at most `x`. -/
def searchStep (S : Shape) (x : FVec F S .f32) (ex : IVec S 32) (k : BitVec 32) : IVec S 32 :=
  select (cmpf .oge x (bitcastToFloat .f32 (shli (minsi (addi ex (broadcast S k)) (broadcast S 254#32)) (broadcast S 23#32))))
    (addi ex (broadcast S k)) ex

/-- The exponent search: eight steps from zero. -/
def search (S : Shape) (x : FVec F S .f32) : IVec S 32 :=
  searchStep S x (searchStep S x (searchStep S x (searchStep S x (searchStep S x (searchStep S x (searchStep S x
    (searchStep S x (broadcast S 0#32) 128#32) 64#32) 32#32) 16#32) 8#32) 4#32) 2#32) 1#32

/-- The biased exponent in use: 126 where the search ended at either end of its range. -/
def expo (S : Shape) (x : FVec F S .f32) : IVec S 32 :=
  select (ori (cmpi .eq (search S x) (broadcast S 0#32)) (cmpi .eq (search S x) (broadcast S 255#32))) (broadcast S 126#32) (search S x)

/-- The scale: the power of two above. -/
def scaleOf (S : Shape) (x : FVec F S .f32) : FVec F S .f32 :=
  bitcastToFloat .f32 (shli (addi (expo S x) (broadcast S 1#32)) (broadcast S 23#32))

/-- Its inverse. -/
def invOf (S : Shape) (x : FVec F S .f32) : FVec F S .f32 :=
  bitcastToFloat .f32 (shli (subi (broadcast S 253#32) (expo S x)) (broadcast S 23#32))

/-- The magnitudes of a loaded tile of `u`. -/
def absTile (v : Vec F S1x128x128 .bf16) : FVec F S128x128 .bf16 :=
  absf (shapeCast S128x128 v shapeCasts_S1x128x128_S128x128)

/-- The rows' greatest magnitudes over 448, one value per row across the lanes, from the lanes' greatest magnitudes. -/
def rowX (m : FVec F S128x128 .bf16) : FVec F S128x128 .f32 :=
  mulf (broadcastTo S128x128 (shapeCast S128x1 (shapeCast S128x1 (multiReduction .maximumf [1] S128 (extf .f32 m bitsLt_bf16_f32) 0xFF800000#32 reduces_S128x128_S128 (.inl rfl) rfl)
    shapeCasts_S128_S128x1) shapeCasts_S128x1_S128x1) broadcasts_S128x1_S128x128) (broadcast S128x128 (Scalar.ofBits .f32 0x3B124925#32))

/-- The scales as the row the result holds them in. -/
def scaleRow (sc : FVec F S128x128 .f32) : FVec F S1x1x128 .f32 :=
  shapeCast S1x1x128 (extractStridedSlice S1x128 ![0, 0] (transpose S128x128 [1, 0] sc transposes_S128x128_p1_0_S128x128) slices_S128x128_o0_0_S1x128) shapeCasts_S1x128_S1x1x128

/-- The codes of a tile of `u`. -/
def codeTile (inv : FVec F S128x128 .bf16) (v : Vec F S1x128x128 .bf16) : FVec F S1x128x128 .fp8e4m3 :=
  shapeCast S1x128x128 (truncf .fp8e4m3 (minimumf (maximumf (mulf (shapeCast S128x128 v shapeCasts_S1x128x128_S128x128) inv) (broadcast S128x128 (Scalar.ofBits .bf16 0xC3E0#16)))
    (broadcast S128x128 (Scalar.ofBits .bf16 0x43E0#16))) bitsLt_fp8e4m3_bf16) shapeCasts_S128x128_S1x128x128

/-- A scaled projection tile. -/
def projTile (u : Vec F S1x640x1536 .fp8e4m3) (w : Vec F S1x1x1536x256 .fp8e4m3) (us : Vec F S1x640x128 .f32) (ws : Vec F S1x256 .f32) : FVec F S640x256 .f32 :=
  mulf (mulf (matmul dot_S640x1536_S1536x256_S640x256_1_0_0_1_n_n none (shapeCast S640x1536 u shapeCasts_S1x640x1536_S640x1536) (shapeCast S1536x256 w shapeCasts_S1x1x1536x256_S1536x256)
      (constant S640x256 .f32 0x00000000#32))
    (concatenate S640x256 1 [⟨S640x128, shapeCast S640x128 us shapeCasts_S1x640x128_S640x128⟩, ⟨S640x128, shapeCast S640x128 us shapeCasts_S1x640x128_S640x128⟩] concatenates_S640x128_S640x128_S640x256_d1))
    (broadcastTo S640x256 (shapeCast S1x256 ws shapeCasts_S1x256_S1x256) broadcasts_S1x256_S640x256)

/-- The columns' greatest magnitudes over 448. -/
def colX (z : FVec F S640x256 .f32) : FVec F S1x256 .f32 :=
  mulf (shapeCast S1x256 (multiReduction .maximumf [0] S256 (absf z) 0xFF800000#32 reduces_S640x256_S256 (.inl rfl) rfl) shapeCasts_S256_S1x256)
    (broadcast S1x256 (Scalar.ofBits .f32 0x3B124925#32))

/-- The codes of a tile of `z`. -/
def zCodeTile (z : FVec F S640x256 .f32) : FVec F S1x640x256 .fp8e4m3 :=
  shapeCast S1x640x256 (truncf .fp8e4m3 (minimumf (broadcast S640x256 (Scalar.ofBits .f32 0x43E00000#32))
    (maximumf (broadcast S640x256 (Scalar.ofBits .f32 0xC3E00000#32)) (mulf z (broadcastTo S640x256 (invOf S1x256 (colX z)) broadcasts_S1x256_S640x256)))) bitsLt_fp8e4m3_f32)
    shapeCasts_S640x256_S1x640x256

theorem slicesY (h : Fin 2) : S1x256.Slices ![0, 128 * h.val] S1x128 := by
  fin_cases h
  exacts [slices_S1x256_o0_0_S1x128, slices_S1x256_o0_128_S1x128]

/-- A block of 128 tokens by 128 channels of `y`, channel half `h` of its tile: the query's block times the
    convolution's, scaled by the filters' scales and by `z`'s. -/
def yTile (h : Fin 2) (q ct : Vec F S1x128x128 .f32) (hs : Vec F S1x256 .f32) (zs : FVec F S1x256 .f32) : FVec F S1x128x128 .bf16 :=
  shapeCast S1x128x128 (truncf .bf16 (mulf (shapeCast S128x128 q shapeCasts_S1x128x128_S128x128)
    (mulf (mulf (shapeCast S128x128 ct shapeCasts_S1x128x128_S128x128)
        (broadcastTo S128x128 (extractStridedSlice S1x128 ![0, 128 * h.val] (shapeCast S1x256 hs shapeCasts_S1x256_S1x256) (slicesY h)) broadcasts_S1x128_S128x128))
      (broadcastTo S128x128 (extractStridedSlice S1x128 ![0, 128 * h.val] zs (slicesY h)) broadcasts_S1x128_S128x128))) bitsLt_bf16_f32)
    shapeCasts_S128x128_S1x128x128

/-! ## The memory the steps go through -/

theorem inbU (b : Fin 3) (r : Fin 5) (c : Fin 12) : ∀ a, (![b.val, 128 * r.val, 128 * c.val] : Fin 3 → Nat) a + S1x128x128.size a ≤ S3x640x1536.size a := by
  intro a; fin_cases a <;> simp [Shape.size] <;> omega
theorem packedU (b : Fin 3) (r : Fin 5) (c : Fin 12) : (Rect.unit (s := S3x640x1536) ![b.val, 128 * r.val, 128 * c.val] S1x128x128.size (inbU b r c)).PackedRows (EltTy.packing .fp8e4m3) :=
  .inr ⟨by decide, rfl, .inl ⟨⟨32 * r.val, by show 128 * r.val = 4 * (32 * r.val); omega⟩, ⟨32, rfl⟩⟩⟩
theorem inbSlab (b : Fin 3) : ∀ a, (![b.val, 0, 0] : Fin 3 → Nat) a + S1x640x1536.size a ≤ S3x640x1536.size a := by
  intro a; fin_cases a <;> simp [Shape.size] <;> omega
theorem wordsSlab8 (b : Fin 3) : (Rect.unit (s := S3x640x1536) ![b.val, 0, 0] S1x640x1536.size (inbSlab b)).WholeWords (EltTy.packing .fp8e4m3) :=
  .inr ⟨by decide, rfl, rfl, rfl⟩
theorem wordsSlab16 (b : Fin 3) : (Rect.unit (s := S3x640x1536) ![b.val, 0, 0] S1x640x1536.size (inbSlab b)).WholeWords (EltTy.packing .bf16) :=
  .inr ⟨by decide, rfl, rfl, rfl⟩
theorem inbSR (b : Fin 3) (r : Fin 5) : ∀ a, (![b.val, 128 * r.val, 0] : Fin 3 → Nat) a + S1x128x128.size a ≤ S3x640x128.size a := by
  intro a; fin_cases a <;> simp [Shape.size] <;> omega
theorem inbSS (b : Fin 3) : ∀ a, (![b.val, 0, 0] : Fin 3 → Nat) a + S1x640x128.size a ≤ S3x640x128.size a := by
  intro a; fin_cases a <;> simp [Shape.size] <;> omega
theorem inbSO (b : Fin 3) (r : Fin 5) : ∀ a, (![b.val, r.val, 0] : Fin 3 → Nat) a + S1x1x128.size a ≤ S3x5x128.size a := by
  intro a; fin_cases a <;> simp [Shape.size] <;> omega
theorem inbSOS (b : Fin 3) : ∀ a, (![b.val, 0, 0] : Fin 3 → Nat) a + S1x5x128.size a ≤ S3x5x128.size a := by
  intro a; fin_cases a <;> simp [Shape.size] <;> omega
theorem inbW (j : Fin 6) (p : Fin 3) : ∀ a, (![j.val, p.val, 0, 0] : Fin 4 → Nat) a + S1x1x1536x256.size a ≤ S6x3x1536x256.size a := by
  intro a; fin_cases a <;> simp [Shape.size] <;> omega
theorem wordsW (j : Fin 6) (p : Fin 3) : (Rect.unit (s := S6x3x1536x256) ![j.val, p.val, 0, 0] S1x1x1536x256.size (inbW j p)).WholeWords (EltTy.packing .fp8e4m3) :=
  .inr ⟨by decide, rfl, rfl, rfl⟩
theorem inbWH (j : Fin 6) (p : Fin 3) : ∀ a, (![0, 1536 * p.val + 256 * j.val] : Fin 2 → Nat) a + S1536x256.size a ≤ S1536x4608.size a := by
  intro a; fin_cases a <;> simp [Shape.size] <;> omega
theorem wordsWH (j : Fin 6) (p : Fin 3) : (Rect.unit (s := S1536x4608) ![0, 1536 * p.val + 256 * j.val] S1536x256.size (inbWH j p)).WholeWords (EltTy.packing .fp8e4m3) :=
  .inr ⟨by decide, rfl, rfl, rfl⟩
theorem inbWS (j : Fin 6) (p : Fin 3) : ∀ a, (![0, 1536 * p.val + 256 * j.val] : Fin 2 → Nat) a + S1x256.size a ≤ S1x4608.size a := by
  intro a; fin_cases a <;> simp [Shape.size] <;> omega
theorem inbZ (par : Fin 2) : ∀ a, (![par.val, 0, 0] : Fin 3 → Nat) a + S1x640x256.size a ≤ S2x640x256.size a := by
  intro a; fin_cases a <;> simp [Shape.size] <;> omega
theorem inbZC (b : Fin 3) (j : Fin 6) : ∀ a, (![b.val, 0, 256 * j.val] : Fin 3 → Nat) a + S1x640x256.size a ≤ S3x640x1536.size a := by
  intro a; fin_cases a <;> simp [Shape.size] <;> omega
theorem packedZC (b : Fin 3) (j : Fin 6) : (Rect.unit (s := S3x640x1536) ![b.val, 0, 256 * j.val] S1x640x256.size (inbZC b j)).PackedRows (EltTy.packing .fp8e4m3) :=
  .inr ⟨by decide, rfl, .inl ⟨⟨0, rfl⟩, ⟨160, rfl⟩⟩⟩
theorem wordsZC (b : Fin 3) (j : Fin 6) : (Rect.unit (s := S3x640x1536) ![b.val, 0, 256 * j.val] S1x640x256.size (inbZC b j)).WholeWords (EltTy.packing .fp8e4m3) :=
  .inr ⟨by decide, rfl, rfl, rfl⟩
theorem packedY (b : Fin 3) (r : Fin 5) (c : Fin 12) : (Rect.unit (s := S3x640x1536) ![b.val, 128 * r.val, 128 * c.val] S1x128x128.size (inbU b r c)).PackedRows (EltTy.packing .bf16) :=
  .inr ⟨by decide, rfl, .inl ⟨⟨64 * r.val, by show 128 * r.val = 2 * (64 * r.val); omega⟩, ⟨64, rfl⟩⟩⟩
theorem wordsY (b : Fin 3) (j : Fin 6) : (Rect.unit (s := S3x640x1536) ![b.val, 0, 256 * j.val] S1x640x256.size (inbZC b j)).WholeWords (EltTy.packing .bf16) :=
  .inr ⟨by decide, rfl, rfl, rfl⟩
theorem inbHS (j : Fin 6) : ∀ a, (![0, 256 * j.val] : Fin 2 → Nat) a + S1x256.size a ≤ S1x1536.size a := by
  intro a; fin_cases a <;> simp [Shape.size] <;> omega
theorem inbQ (par : Fin 2) (n : Fin 5) (h : Fin 2) : ∀ a, (![par.val, 128 * n.val, 128 * h.val] : Fin 3 → Nat) a + S1x128x128.size a ≤ S2x640x256.size a := by
  intro a; fin_cases a <;> simp [Shape.size] <;> omega
theorem inbZS (b : Fin 3) (j : Fin 6) : ∀ a, (![b.val, 0, 256 * j.val] : Fin 3 → Nat) a + S1x1x256.size a ≤ S3x1x1536.size a := by
  intro a; fin_cases a <;> simp [Shape.size] <;> omega
theorem inb3 (b : Fin 3) : ∀ a, (![b.val] : Fin 1 → Nat) a + S1.size a ≤ S3.size a := by
  intro a; fin_cases a; simp [Shape.size]; omega
theorem inb6 (b : Fin 6) : ∀ a, (![b.val] : Fin 1 → Nat) a + S1.size a ≤ S6.size a := by
  intro a; fin_cases a; simp [Shape.size]; omega

/-- A tile of 128 tokens by 128 lanes of `u`. -/
abbrev uTile (b : Fin 3) (r : Fin 5) (c : Fin 12) : Rect S3x640x1536 := Rect.unit (s := S3x640x1536) ![b.val, 128 * r.val, 128 * c.val] S1x128x128.size (inbU b r c)
/-- A batch row of `u`, of its codes. -/
abbrev slab (b : Fin 3) : Rect S3x640x1536 := Rect.unit (s := S3x640x1536) ![b.val, 0, 0] S1x640x1536.size (inbSlab b)
/-- 128 tokens of the scales held across lanes; all 640. -/
abbrev srTile (b : Fin 3) (r : Fin 5) : Rect S3x640x128 := Rect.unit (s := S3x640x128) ![b.val, 128 * r.val, 0] S1x128x128.size (inbSR b r)
abbrev srSlab (b : Fin 3) : Rect S3x640x128 := Rect.unit (s := S3x640x128) ![b.val, 0, 0] S1x640x128.size (inbSS b)
/-- 128 tokens of the scales held along lanes; all 640. -/
abbrev soTile (b : Fin 3) (r : Fin 5) : Rect S3x5x128 := Rect.unit (s := S3x5x128) ![b.val, r.val, 0] S1x1x128.size (inbSO b r)
abbrev soSlab (b : Fin 3) : Rect S3x5x128 := Rect.unit (s := S3x5x128) ![b.val, 0, 0] S1x5x128.size (inbSOS b)
/-- A weight block, in VMEM and in HBM, and its scales. -/
abbrev wTile (j : Fin 6) (p : Fin 3) : Rect S6x3x1536x256 := Rect.unit (s := S6x3x1536x256) ![j.val, p.val, 0, 0] S1x1x1536x256.size (inbW j p)
abbrev whTile (j : Fin 6) (p : Fin 3) : Rect S1536x4608 := Rect.unit (s := S1536x4608) ![0, 1536 * p.val + 256 * j.val] S1536x256.size (inbWH j p)
abbrev wsTile (j : Fin 6) (p : Fin 3) : Rect S1x4608 := Rect.unit (s := S1x4608) ![0, 1536 * p.val + 256 * j.val] S1x256.size (inbWS j p)
/-- One of the two buffers of `z`. -/
abbrev zTile (par : Fin 2) : Rect S2x640x256 := Rect.unit (s := S2x640x256) ![par.val, 0, 0] S1x640x256.size (inbZ par)
/-- A tile of `z`'s codes and of its scales. -/
abbrev zcTile (b : Fin 3) (j : Fin 6) : Rect S3x640x1536 := Rect.unit (s := S3x640x1536) ![b.val, 0, 256 * j.val] S1x640x256.size (inbZC b j)
abbrev zsTile (b : Fin 3) (j : Fin 6) : Rect S3x1x1536 := Rect.unit (s := S3x1x1536) ![b.val, 0, 256 * j.val] S1x1x256.size (inbZS b j)
/-- The filters' scales of a tile of channels. -/
abbrev hsTile (j : Fin 6) : Rect S1x1536 := Rect.unit (s := S1x1536) ![0, 256 * j.val] S1x256.size (inbHS j)
/-- The block of 128 channels that is the half `h` of the tile `j`. -/
abbrev laneOf (j : Fin 6) (h : Fin 2) : Fin 12 := ⟨2 * j.val + h.val, by omega⟩
/-- A block of 128 tokens by 128 channels of one of the two buffers of `q`. -/
abbrev qTile (par : Fin 2) (n : Fin 5) (h : Fin 2) : Rect S2x640x256 := Rect.unit (s := S2x640x256) ![par.val, 128 * n.val, 128 * h.val] S1x128x128.size (inbQ par n h)

/-- The buffers. -/
abbrev mU : Memref sig .tc .hbm S3x640x1536 .bf16 := Memref.whole main_arg0
abbrev mW : Memref sig .tc .hbm S1536x4608 .fp8e4m3 := Memref.whole main_arg1
abbrev mWs : Memref sig .tc .vmem S1x4608 .f32 := Memref.whole cc0_stg0_0
abbrev mHs : Memref sig .tc .vmem S1x1536 .f32 := Memref.whole cc0_stg1_0
abbrev mCv : Memref sig .tc .vmem S3x640x1536 .f32 := Memref.whole cc0_stg2_0
abbrev mY : Memref sig .tc .hbm S3x640x1536 .bf16 := Memref.whole main_v4_0
abbrev mUc : Memref sig .tc .hbm S3x640x1536 .fp8e4m3 := Memref.whole main_v4_1
abbrev mUs : Memref sig .tc .hbm S3x5x128 .f32 := Memref.whole main_v4_2
abbrev mZc : Memref sig .tc .hbm S3x640x1536 .fp8e4m3 := Memref.whole main_v4_3
abbrev mZs : Memref sig .tc .hbm S3x1x1536 .f32 := Memref.whole main_v4_4
abbrev vU : Memref sig .tc .vmem S3x640x1536 .bf16 := Memref.whole cc0_scratch0
abbrev vW : Memref sig .tc .vmem S6x3x1536x256 .fp8e4m3 := Memref.whole cc0_scratch1
abbrev vUc : Memref sig .tc .vmem S3x640x1536 .fp8e4m3 := Memref.whole cc0_scratch2
abbrev vSr : Memref sig .tc .vmem S3x640x128 .f32 := Memref.whole cc0_scratch3
abbrev vSo : Memref sig .tc .vmem S3x5x128 .f32 := Memref.whole cc0_scratch4
abbrev vZ : Memref sig .tc .vmem S2x640x256 .f32 := Memref.whole cc0_scratch5
abbrev vQ : Memref sig .tc .vmem S2x640x256 .f32 := Memref.whole cc0_scratch6
abbrev vY : Memref sig .tc .vmem S3x640x1536 .bf16 := Memref.whole cc0_scratch9
abbrev vZc : Memref sig .tc .vmem S3x640x1536 .fp8e4m3 := Memref.whole cc0_scratch7
abbrev vZs : Memref sig .tc .vmem S3x1x1536 .f32 := Memref.whole cc0_scratch8

/-- The semaphores. -/
abbrev uSem (b : Fin 3) : DmaSem sig := ((cc0_scratch10.slice (Rect.unit (s := S3) ![b.val] S1.size (inb3 b))).squeeze S_ squeezes_S1_S_).sem
abbrev wSem (j : Fin 6) : DmaSem sig := ((cc0_scratch11.slice (Rect.unit (s := S6) ![j.val] S1.size (inb6 j))).squeeze S_ squeezes_S1_S_).sem
abbrev oSem : DmaSem sig := cc0_scratch12.sem
abbrev usSem (b : Fin 3) : DmaSem sig := ((cc0_scratch13.slice (Rect.unit (s := S3) ![b.val] S1.size (inb3 b))).squeeze S_ squeezes_S1_S_).sem
abbrev zsSem : DmaSem sig := cc0_scratch14.sem

/-- The ends of the transfers. -/
abbrev uSrc (b : Fin 3) : Memref sig .tc .hbm S640x1536 .bf16 := (mU.slice (slab b) (fun _ => rfl)).squeeze S640x1536 squeezes_S1x640x1536_S640x1536
abbrev uDst (b : Fin 3) : Memref sig .tc .vmem S640x1536 .bf16 := (vU.slice (slab b) (fun _ => rfl)).squeeze S640x1536 squeezes_S1x640x1536_S640x1536
abbrev wSrc (j : Fin 6) (p : Fin 3) : Memref sig .tc .hbm S1536x256 .fp8e4m3 := mW.slice (whTile j p) (fun _ => rfl)
abbrev wDst (j : Fin 6) (p : Fin 3) : Memref sig .tc .vmem S1536x256 .fp8e4m3 := (vW.slice (wTile j p) (fun _ => rfl)).squeeze S1536x256 squeezes_S1x1x1536x256_S1536x256
abbrev ucSrc (b : Fin 3) : Memref sig .tc .vmem S640x1536 .fp8e4m3 := (vUc.slice (slab b) (fun _ => rfl)).squeeze S640x1536 squeezes_S1x640x1536_S640x1536
abbrev ucDst (b : Fin 3) : Memref sig .tc .hbm S640x1536 .fp8e4m3 := (mUc.slice (slab b) (fun _ => rfl)).squeeze S640x1536 squeezes_S1x640x1536_S640x1536
abbrev usSrc (b : Fin 3) : Memref sig .tc .vmem S5x128 .f32 := (vSo.slice (soSlab b) (fun _ => rfl)).squeeze S5x128 squeezes_S1x5x128_S5x128
abbrev usDst (b : Fin 3) : Memref sig .tc .hbm S5x128 .f32 := (mUs.slice (soSlab b) (fun _ => rfl)).squeeze S5x128 squeezes_S1x5x128_S5x128
abbrev zcSrc (b : Fin 3) (j : Fin 6) : Memref sig .tc .vmem S640x256 .fp8e4m3 := (vZc.slice (zcTile b j) (fun _ => rfl)).squeeze S640x256 squeezes_S1x640x256_S640x256
abbrev zcDst (b : Fin 3) (j : Fin 6) : Memref sig .tc .hbm S640x256 .fp8e4m3 := (mZc.slice (zcTile b j) (fun _ => rfl)).squeeze S640x256 squeezes_S1x640x256_S640x256
abbrev ySrc (b : Fin 3) (j : Fin 6) : Memref sig .tc .vmem S640x256 .bf16 := (vY.slice (zcTile b j) (fun _ => rfl)).squeeze S640x256 squeezes_S1x640x256_S640x256
abbrev yDst (b : Fin 3) (j : Fin 6) : Memref sig .tc .hbm S640x256 .bf16 := (mY.slice (zcTile b j) (fun _ => rfl)).squeeze S640x256 squeezes_S1x640x256_S640x256

/-! ## The steps -/

/-- The kernel's programs. -/
abbrev KProg (α : Type) : Type 1 := Prog (TpuEff nD τ sig (Elt F) Λ₀ .tc) α

/-- `f` at every element of a list, in order. -/
def seqAll {α : Type} : List α → (α → Prog (TpuEff nD τ sig (Elt F) Λ₀ .tc) PUnit) → Prog (TpuEff nD τ sig (Elt F) Λ₀ .tc) PUnit
  | [], _ => pure ⟨⟩
  | a :: l, f => do f a; seqAll l f

def uStart (b : Fin 3) : Prog (TpuEff nD τ sig (Elt F) Λ₀ .tc) PUnit :=
  Prog.lift (.enqueueDma (uSrc b) (.here (uDst b)) (.dma (uSem b)) (((Memref.isWhole_whole main_arg0).wordExact_slice rfl _ (wordsSlab16 b)).reshape _ _)
    (((Memref.isWhole_whole cc0_scratch0).wordExact_slice rfl _ (wordsSlab16 b)).reshape _ _) ⟨Or.inl rfl, trivial⟩)
def uWait (b : Fin 3) : Prog (TpuEff nD τ sig (Elt F) Λ₀ .tc) PUnit :=
  Prog.lift (.waitDma2 (uSem b) (uSrc b) (uDst b) (((Memref.isWhole_whole main_arg0).wordExact_slice rfl _ (wordsSlab16 b)).reshape _ _)
    (((Memref.isWhole_whole cc0_scratch0).wordExact_slice rfl _ (wordsSlab16 b)).reshape _ _))
def wStart (j : Fin 6) (p : Fin 3) : Prog (TpuEff nD τ sig (Elt F) Λ₀ .tc) PUnit :=
  Prog.lift (.enqueueDma (wSrc j p) (.here (wDst j p)) (.dma (wSem j)) ((Memref.isWhole_whole main_arg1).wordExact_slice rfl _ (wordsWH j p))
    (((Memref.isWhole_whole cc0_scratch1).wordExact_slice rfl _ (wordsW j p)).reshape _ _) ⟨Or.inl rfl, trivial⟩)
def wWait (j : Fin 6) (p : Fin 3) : Prog (TpuEff nD τ sig (Elt F) Λ₀ .tc) PUnit :=
  Prog.lift (.waitDma2 (wSem j) (wSrc j p) (wDst j p) ((Memref.isWhole_whole main_arg1).wordExact_slice rfl _ (wordsWH j p))
    (((Memref.isWhole_whole cc0_scratch1).wordExact_slice rfl _ (wordsW j p)).reshape _ _))
def ucStart (b : Fin 3) : Prog (TpuEff nD τ sig (Elt F) Λ₀ .tc) PUnit :=
  Prog.lift (.enqueueDma (ucSrc b) (.here (ucDst b)) (.dma oSem) (((Memref.isWhole_whole cc0_scratch2).wordExact_slice rfl _ (wordsSlab8 b)).reshape _ _)
    (((Memref.isWhole_whole main_v4_1).wordExact_slice rfl _ (wordsSlab8 b)).reshape _ _) ⟨Or.inl rfl, trivial⟩)
def ucWait (b : Fin 3) : Prog (TpuEff nD τ sig (Elt F) Λ₀ .tc) PUnit :=
  Prog.lift (.waitDma2 oSem (ucSrc b) (ucDst b) (((Memref.isWhole_whole cc0_scratch2).wordExact_slice rfl _ (wordsSlab8 b)).reshape _ _)
    (((Memref.isWhole_whole main_v4_1).wordExact_slice rfl _ (wordsSlab8 b)).reshape _ _))
def usStart (b : Fin 3) : Prog (TpuEff nD τ sig (Elt F) Λ₀ .tc) PUnit :=
  Prog.lift (.enqueueDma (usSrc b) (.here (usDst b)) (.dma (usSem b)) ((View.wordExact_bits rfl).reshape _ _) ((View.wordExact_bits rfl).reshape _ _) ⟨Or.inl rfl, trivial⟩)
def usWait (b : Fin 3) : Prog (TpuEff nD τ sig (Elt F) Λ₀ .tc) PUnit :=
  Prog.lift (.waitDma2 (usSem b) (usSrc b) (usDst b) ((View.wordExact_bits rfl).reshape _ _) ((View.wordExact_bits rfl).reshape _ _))
def zcStart (b : Fin 3) (j : Fin 6) : Prog (TpuEff nD τ sig (Elt F) Λ₀ .tc) PUnit :=
  Prog.lift (.enqueueDma (zcSrc b j) (.here (zcDst b j)) (.dma oSem) (((Memref.isWhole_whole cc0_scratch7).wordExact_slice rfl _ (wordsZC b j)).reshape _ _)
    (((Memref.isWhole_whole main_v4_3).wordExact_slice rfl _ (wordsZC b j)).reshape _ _) ⟨Or.inl rfl, trivial⟩)
def zcWait (b : Fin 3) (j : Fin 6) : Prog (TpuEff nD τ sig (Elt F) Λ₀ .tc) PUnit :=
  Prog.lift (.waitDma2 oSem (zcSrc b j) (zcDst b j) (((Memref.isWhole_whole cc0_scratch7).wordExact_slice rfl _ (wordsZC b j)).reshape _ _)
    (((Memref.isWhole_whole main_v4_3).wordExact_slice rfl _ (wordsZC b j)).reshape _ _))
def yStart (b : Fin 3) (j : Fin 6) : Prog (TpuEff nD τ sig (Elt F) Λ₀ .tc) PUnit :=
  Prog.lift (.enqueueDma (ySrc b j) (.here (yDst b j)) (.dma oSem) (((Memref.isWhole_whole cc0_scratch9).wordExact_slice rfl _ (wordsY b j)).reshape _ _)
    (((Memref.isWhole_whole main_v4_0).wordExact_slice rfl _ (wordsY b j)).reshape _ _) ⟨Or.inl rfl, trivial⟩)
def yWait (b : Fin 3) (j : Fin 6) : Prog (TpuEff nD τ sig (Elt F) Λ₀ .tc) PUnit :=
  Prog.lift (.waitDma2 oSem (ySrc b j) (yDst b j) (((Memref.isWhole_whole cc0_scratch9).wordExact_slice rfl _ (wordsY b j)).reshape _ _)
    (((Memref.isWhole_whole main_v4_0).wordExact_slice rfl _ (wordsY b j)).reshape _ _))
def zsStart : Prog (TpuEff nD τ sig (Elt F) Λ₀ .tc) PUnit :=
  Prog.lift (.enqueueDma vZs (.here mZs) (.dma zsSem) (Memref.isWhole_whole cc0_scratch8).wordExact (Memref.isWhole_whole main_v4_4).wordExact ⟨Or.inl rfl, trivial⟩)
def zsWait : Prog (TpuEff nD τ sig (Elt F) Λ₀ .tc) PUnit :=
  Prog.lift (.waitDma2 zsSem vZs mZs (Memref.isWhole_whole cc0_scratch8).wordExact (Memref.isWhole_whole main_v4_4).wordExact)

/-- A load of a tile of `u`. -/
def uLoad (b : Fin 3) (r : Fin 5) (c : Fin 12) : Prog (TpuEff nD τ sig (Elt F) Λ₀ .tc) (Vec F S1x128x128 .bf16) :=
  Prog.lift (.load vU (uTile b r c).toLoadRect (View.loadsAt_vmem h_S1x128x128))

/-- The lanes' greatest magnitudes over the given lane blocks. -/
def maxAbs (b : Fin 3) (r : Fin 5) : List (Fin 12) → FVec F S128x128 .bf16 → Prog (TpuEff nD τ sig (Elt F) Λ₀ .tc) (FVec F S128x128 .bf16)
  | [], m => pure m
  | c :: l, m => do let v ← uLoad b r c; maxAbs b r l (maximumf m (absTile v))

/-- The codes of one tile of `u`. -/
def codeStep (b : Fin 3) (r : Fin 5) (inv : FVec F S128x128 .bf16) (c : Fin 12) : Prog (TpuEff nD τ sig (Elt F) Λ₀ .tc) PUnit := do
  let v ← uLoad b r c
  let _ : Vec F S1x128x128 .fp8e4m3 ← Prog.lift (.load vUc (uTile b r c).toLoadRect (View.loadsAt_vmem h_S1x128x128))
  Prog.lift (.store vUc (uTile b r c) (codeTile inv v) Finset.univ
    (View.stores_vmem h_S1x128x128 ((Memref.isWhole_whole cc0_scratch2).storeExact_slice rfl _ (packedU b r c)) (fun _ => rfl)) (.inl rfl))

/-- The scales of 128 tokens, stored both ways. -/
def scaleStep (b : Fin 3) (r : Fin 5) (sc : FVec F S128x128 .f32) : Prog (TpuEff nD τ sig (Elt F) Λ₀ .tc) PUnit := do
  let _ : Vec F S1x128x128 .f32 ← Prog.lift (.load vSr (srTile b r).toLoadRect (View.loadsAt_vmem h_S1x128x128))
  Prog.lift (.store vSr (srTile b r) (shapeCast S1x128x128 sc shapeCasts_S128x128_S1x128x128) Finset.univ (View.stores_vmem_bits_univ h_S1x128x128 rfl) (.inl rfl))
  let _ : Vec F S1x1x128 .f32 ← Prog.lift (.load vSo (soTile b r).toLoadRect (View.loadsAt_vmem h_S1x1x128))
  Prog.lift (.store vSo (soTile b r) (scaleRow sc) Finset.univ (View.stores_vmem_bits_univ h_S1x1x128 rfl) (.inl rfl))

/-- 128 tokens of `u`: their scales, then their codes. -/
def quantRows (b : Fin 3) (r : Fin 5) : Prog (TpuEff nD τ sig (Elt F) Λ₀ .tc) PUnit := do
  let v ← uLoad b r 0
  let m ← maxAbs b r [1, 2, 3, 4, 5, 6, 7, 8, 9, 10, 11] (absTile v)
  scaleStep b r (scaleOf S128x128 (rowX m))
  seqAll [0, 1, 2, 3, 4, 5, 6, 7, 8, 9, 10, 11] (codeStep b r (truncf .bf16 (invOf S128x128 (rowX m)) bitsLt_bf16_f32))

/-- A batch row of `u`, quantised and sent. -/
def quantU (b : Fin 3) : Prog (TpuEff nD τ sig (Elt F) Λ₀ .tc) PUnit := do
  seqAll [0, 1, 2, 3, 4] (quantRows b)
  ucStart b
  usStart b

/-- A scaled tile of the projection `p`. -/
def proj (j : Fin 6) (b : Fin 3) (p : Fin 3) : Prog (TpuEff nD τ sig (Elt F) Λ₀ .tc) (FVec F S640x256 .f32) := do
  let u : Vec F S1x640x1536 .fp8e4m3 ← Prog.lift (.load vUc (slab b).toLoadRect (View.loadsAt_vmem h_S1x640x1536))
  let w : Vec F S1x1x1536x256 .fp8e4m3 ← Prog.lift (.load vW (wTile j p).toLoadRect (View.loadsAt_vmem h_S1x1x1536x256))
  let us : Vec F S1x640x128 .f32 ← Prog.lift (.load vSr (srSlab b).toLoadRect (View.loadsAt_vmem h_S1x640x128))
  let ws : Vec F S1x256 .f32 ← Prog.lift (.load mWs (wsTile j p).toLoadRect (View.loadsAt_vmem h_S1x256))
  pure (projTile u w us ws)

/-- A tile of `z = k · v`. -/
def projZ (j : Fin 6) (b : Fin 3) (par : Fin 2) : Prog (TpuEff nD τ sig (Elt F) Λ₀ .tc) PUnit := do
  let k ← proj j b 1
  let v ← proj j b 2
  let _ : Vec F S1x640x256 .f32 ← Prog.lift (.load vZ (zTile par).toLoadRect (View.loadsAt_vmem h_S1x640x256))
  Prog.lift (.store vZ (zTile par) (shapeCast S1x640x256 (mulf k v) shapeCasts_S640x256_S1x640x256) Finset.univ (View.stores_vmem_bits_univ h_S1x640x256 rfl) (.inl rfl))

/-- A tile of `q`. -/
def projQ (j : Fin 6) (b : Fin 3) (par : Fin 2) : Prog (TpuEff nD τ sig (Elt F) Λ₀ .tc) PUnit := do
  let q ← proj j b 0
  let _ : Vec F S1x640x256 .f32 ← Prog.lift (.load vQ (zTile par).toLoadRect (View.loadsAt_vmem h_S1x640x256))
  Prog.lift (.store vQ (zTile par) (shapeCast S1x640x256 q shapeCasts_S640x256_S1x640x256) Finset.univ (View.stores_vmem_bits_univ h_S1x640x256 rfl) (.inl rfl))

/-- A block of `y`: the channel half `p.1`, the token block `p.2`. -/
def yStep (j : Fin 6) (b : Fin 3) (par : Fin 2) (hs : Vec F S1x256 .f32) (zs : FVec F S1x256 .f32) (p : Fin 2 × Fin 5) : Prog (TpuEff nD τ sig (Elt F) Λ₀ .tc) PUnit := do
  let ct : Vec F S1x128x128 .f32 ← Prog.lift (.load mCv (uTile b p.2 (laneOf j p.1)).toLoadRect (View.loadsAt_vmem h_S1x128x128))
  let q : Vec F S1x128x128 .f32 ← Prog.lift (.load vQ (qTile par p.2 p.1).toLoadRect (View.loadsAt_vmem h_S1x128x128))
  let _ : Vec F S1x128x128 .bf16 ← Prog.lift (.load vY (uTile b p.2 (laneOf j p.1)).toLoadRect (View.loadsAt_vmem h_S1x128x128))
  Prog.lift (.store vY (uTile b p.2 (laneOf j p.1)) (yTile p.1 q ct hs zs) Finset.univ
    (View.stores_vmem h_S1x128x128 ((Memref.isWhole_whole cc0_scratch9).storeExact_slice rfl _ (packedY b p.2 (laneOf j p.1))) (fun _ => rfl)) (.inl rfl))

/-- The ten blocks of a tile of `y`, in the order they are computed. -/
abbrev yBlocks : List (Fin 2 × Fin 5) := [(0, 0), (0, 1), (0, 2), (0, 3), (0, 4), (1, 0), (1, 1), (1, 2), (1, 3), (1, 4)]

/-- A tile of `z`, quantised and sent, and the tile of `y` over it. -/
def post (j : Fin 6) (b : Fin 3) (par : Fin 2) : Prog (TpuEff nD τ sig (Elt F) Λ₀ .tc) PUnit := do
  let z : Vec F S1x640x256 .f32 ← Prog.lift (.load vZ (zTile par).toLoadRect (View.loadsAt_vmem h_S1x640x256))
  let _ : Vec F S1x1x256 .f32 ← Prog.lift (.load vZs (zsTile b j).toLoadRect (View.loadsAt_vmem h_S1x1x256))
  Prog.lift (.store vZs (zsTile b j) (shapeCast S1x1x256 (scaleOf S1x256 (colX (shapeCast S640x256 z shapeCasts_S1x640x256_S640x256))) shapeCasts_S1x256_S1x1x256) Finset.univ
    (View.stores_vmem_bits_univ h_S1x1x256 rfl) (.inl rfl))
  let _ : Vec F S1x640x256 .fp8e4m3 ← Prog.lift (.load vZc (zcTile b j).toLoadRect (View.loadsAt_vmem h_S1x640x256))
  Prog.lift (.store vZc (zcTile b j) (zCodeTile (shapeCast S640x256 z shapeCasts_S1x640x256_S640x256)) Finset.univ
    (View.stores_vmem h_S1x640x256 ((Memref.isWhole_whole cc0_scratch7).storeExact_slice rfl _ (packedZC b j)) (fun _ => rfl)) (.inl rfl))
  let hs : Vec F S1x256 .f32 ← Prog.lift (.load mHs (hsTile j).toLoadRect (View.loadsAt_vmem h_S1x256))
  seqAll yBlocks (yStep j b par hs (scaleOf S1x256 (colX (shapeCast S640x256 z shapeCasts_S1x640x256_S640x256))))
  zcStart b j
  yStart b j

/-- The next weight tile's arrival. -/
def wWaits (j : Fin 6) : Prog (TpuEff nD τ sig (Elt F) Λ₀ .tc) PUnit := do
  wWait j 0; wWait j 1; wWait j 2

def wStarts (j : Fin 6) : Prog (TpuEff nD τ sig (Elt F) Λ₀ .tc) PUnit := do
  wStart j 0; wStart j 1; wStart j 2

/-- The loop's work over a weight tile `j` up to where the next tile's weights are waited for: `q` is the buffer of
    its first batch row, `q'` the other. The query's tile of the first batch row is computed before it. -/
def tileSteps (j : Fin 6) (q q' : Fin 2) : Prog (TpuEff nD τ sig (Elt F) Λ₀ .tc) PUnit := do
  projZ j 0 q
  projQ j 1 q'
  post j 0 q
  projZ j 1 q'
  projQ j 2 q

/-- From there to where the next tile's first query tile is computed. -/
def tileEnd (j : Fin 6) (q q' : Fin 2) : Prog (TpuEff nD τ sig (Elt F) Λ₀ .tc) PUnit := do
  post j 1 q'
  projZ j 2 q

/-- The body. -/
def bodyR : Prog (TpuEff nD τ sig (Elt F) Λ₀ .tc) PUnit := do
  uStart 0
  wStarts 0
  uStart 1
  uStart 2
  seqAll [1, 2, 3, 4, 5] wStarts
  uWait 0
  quantU 0
  wWaits 0
  projQ 0 0 0
  uWait 1
  quantU 1
  projZ 0 0 0
  projQ 0 1 1
  uWait 2
  quantU 2
  post 0 0 0
  projZ 0 1 1
  projQ 0 2 0
  wWaits 1
  tileEnd 0 0 1
  projQ 1 0 1
  post 0 2 0
  tileSteps 1 1 0
  wWaits 2
  tileEnd 1 1 0
  projQ 2 0 0
  post 1 2 1
  tileSteps 2 0 1
  wWaits 3
  tileEnd 2 0 1
  projQ 3 0 1
  post 2 2 0
  tileSteps 3 1 0
  wWaits 4
  tileEnd 3 1 0
  projQ 4 0 0
  post 3 2 1
  tileSteps 4 0 1
  wWaits 5
  tileEnd 4 0 1
  projQ 5 0 1
  post 4 2 0
  tileSteps 5 1 0
  tileEnd 5 1 0
  post 5 2 1
  zsStart
  seqAll [0, 1, 2] fun b => do ucWait b; usWait b
  seqAll [0, 1, 2, 3, 4, 5] fun j => seqAll [0, 1, 2] fun b => do zcWait b j; yWait b j
  zsWait

end Cert.Kernel.Hand

end
-- ==== Proof.Tools.lean ====
/-
  Hand-written, untrusted. The rules a step of the body is proved by, stated at the kernel's own threads and logic:
  loads and stores through a rectangle of a buffer, copies and waits. Each says what the step does to the CONTENTS.
-/
module

public import proofs.«01_k».proof.Proof.Steps
public import proofs.«01_k».proof.Proof.Gen.Kernel.Launch
public import Idealize.ShloMosaic.Lib.Pipeline.FrameBody
public import Idealize.ShloMosaic.Lib.MixedBatch
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
notation "𝕄" F => MT nD τ sig Unit (Elt F) ℕ (Pipeline.UD sig nD τ) ℕ

/-- A program of the kernel's thread on the device `c`. -/
abbrev WP (c : Dev nD) {α : Type} (p : Prog (TpuEff nD τ sig (Elt F) Λ₀ .tc) α) (K : α → sProp (𝕄 F)) : sProp (𝕄 F) :=
  wp frame (wpE (defs₀ (F := F)) Variants.none (c : Thread nD τ) none) Set.univ p K

/-- The transfers' counters. -/
abbrev EC : UEmb Counters (𝕄 F) := countersEmb (U := Pipeline.UD sig nD τ)

/-- The core owes nothing, whatever it has waited for. -/
def Ow (c : Dev nD) : sProp (𝕄 F) := iprop(∃ W, owes (c : Thread nD τ) 0 W)

/-- The contents of a buffer on the device's own core. -/
abbrev BufAt (F : FTy → Type) [FloatOps F] (c : Dev nD) (b : Ref sig .tc) : Type := Buf (Elt F) ((c : Thread nD τ).loc b)

section Ops
variable (c : Dev nD) {s : Shape} {e : EltTy} (m : Memref sig .tc .vmem s e)

/-- The buffer of `m` on `S`, holding what `spec` says on every rectangle of `L`. -/
def Part (S : Finset (Idx (m.view.loc (c : Thread nD τ)))) (spec : Buf (Elt F) (m.view.loc (c : Thread nD τ))) (L : List (Rect s)) : sProp (𝕄 F) :=
  iprop(∃ f : Buf (Elt F) (m.view.loc (c : Thread nD τ)), ⌜∀ r ∈ L, ∀ x, f ((m.access r).emb x) = spec ((m.access r).emb x)⌝ ∗ (m.view.loc (c : Thread nD τ) ↦[S]{fullShare} f))

theorem part_nil (S : Finset (Idx (m.view.loc (c : Thread nD τ)))) (spec f : Buf (Elt F) (m.view.loc (c : Thread nD τ))) :
    (m.view.loc (c : Thread nD τ) ↦[S]{fullShare} f) ⊢ Part c m S spec [] := by
  unfold Part
  iintro H
  iexists f
  isplitr
  · ipureintro; simp
  iexact H

/-- Once the rectangles cover `S`, the contents are `spec`. -/
theorem part_done (S : Finset (Idx (m.view.loc (c : Thread nD τ)))) (spec : Buf (Elt F) (m.view.loc (c : Thread nD τ))) (L : List (Rect s))
    (h : ∀ i ∈ S, ∃ r ∈ L, i ∈ (m.access r).set) : Part c m S spec L ⊢ (m.view.loc (c : Thread nD τ) ↦[S]{fullShare} spec) := by
  unfold Part
  iintro ⟨%f, %hf, H⟩
  have e : ∀ i ∈ S, f i = spec i := by
    intro i hi
    obtain ⟨r, hr, hir⟩ := h i hi
    obtain ⟨x, -, rfl⟩ := Finset.mem_map.mp hir
    exact hf r hr x
  iapply (Entails.of_eq (pointsTo_congr e)) $$ H

variable {r : Rect s} {S : Finset (Idx (m.view.loc (c : Thread nD τ)))} {q : PosShare TreeShare} {f spec : Buf (Elt F) (m.view.loc (c : Thread nD τ))} {L : List (Rect s)}

/-- A load through a rectangle of a buffer whose contents are known. -/
theorem load_at {hl : m.view.LoadsAt r.toLoadRect} {K : (r.shape.Idx → Elt F e) → sProp (𝕄 F)} (hS : (m.access r).set ⊆ S) :
    (m.view.loc (c : Thread nD τ) ↦[S]{q} f)
      ⊢ iprop(((m.view.loc (c : Thread nD τ) ↦[S]{q} f) -∗ K ((m.access r).read (Elt F) f))
        -∗ WP c (Prog.lift (.load (cs := .vmem) m r.toLoadRect hl)) K) := by
  refine (wp_load_rect (cs := .vmem) (m := m) (r := r) (k := .ret) (Q := K) (f := f) (q := q) (S := S) (hl := hl)
    (defs := defs₀ (F := F)) (Γ := .empty) Variants.none (c : Thread nD τ) none Set.univ hS).trans ?_
  exact wand_mono_left (wand_mono_right fupd_intro)

/-- A load through a rectangle whose value is not used. -/
theorem load_part {hl : m.view.LoadsAt r.toLoadRect} {K : (r.shape.Idx → Elt F e) → sProp (𝕄 F)} (hS : (m.access r).set ⊆ S) :
    Part c m S spec L ⊢ iprop((∀ v, Part c m S spec L -∗ K v) -∗ WP c (Prog.lift (.load (cs := .vmem) m r.toLoadRect hl)) K) := by
  unfold Part
  iintro ⟨%f, %hf, H⟩ HK
  iapply (load_at c m hS) $$ H
  iintro H
  iapply HK
  iexists f
  isplitr
  · ipureintro; exact hf
  iexact H

/-- A load of a rectangle written before. -/
theorem load_written {hl : m.view.LoadsAt r.toLoadRect} {K : (r.shape.Idx → Elt F e) → sProp (𝕄 F)} (hS : (m.access r).set ⊆ S) (hL : r ∈ L) :
    Part c m S spec L ⊢ iprop((Part c m S spec L -∗ K ((m.access r).read (Elt F) spec))
        -∗ WP c (Prog.lift (.load (cs := .vmem) m r.toLoadRect hl)) K) := by
  unfold Part
  iintro ⟨%f, %hf, H⟩ HK
  iapply (load_at c m hS) $$ H
  iintro H
  rw [show (m.access r).read (Elt F) f = (m.access r).read (Elt F) spec from funext fun x => congrArg (cast _) (hf r hL x)]
  iapply HK
  iexists f
  isplitr
  · ipureintro; exact hf
  iexact H

/-- A store of what `spec` says on the rectangle. -/
theorem store_part {w : r.shape.Idx → Elt F e} {hx : (m.access r).Stores Finset.univ} {hm : Finset.univ = Finset.univ ∨ ∀ a, r.stride a = 1}
    {K : PUnit → sProp (𝕄 F)} (hS : (m.access r).set ⊆ S)
    (hw : ∀ x, cast (congrArg (Elt F) (m.access r).elt_eq.symm) (w x) = spec ((m.access r).emb x)) :
    Part c m S spec L ⊢ iprop((Part c m S spec (r :: L) -∗ K ⟨⟩)
        -∗ WP c (Prog.lift (.store (cs := .vmem) m r w Finset.univ hx hm)) K) := by
  unfold Part
  iintro ⟨%f, %hf, H⟩ HK
  iapply (wp_store (cs := .vmem) (m := m) (r := r) (k := .ret) (Q := K) (f := f) (S := S) (hx := hx) (hm := hm) (w := w)
    (defs := defs₀ (F := F)) (Γ := .empty) Variants.none (c : Thread nD τ) none Set.univ hS) $$ H
  iintro H
  iapply (le_wp_ret _ _ _ _ _)
  iapply HK
  iexists ((m.access r).write (Elt F) f w Finset.univ)
  isplitr
  · ipureintro
    have hr : ∀ x, (m.access r).write (Elt F) f w Finset.univ ((m.access r).emb x) = spec ((m.access r).emb x) := fun x =>
      (View.write_emb_of_mem (v := m.access r) (Val := Elt F) f w (Finset.mem_univ x)).trans (hw x)
    intro r' hr' x
    rcases List.mem_cons.mp hr' with rfl | hr'
    · exact hr x
    · by_cases hin : (m.access r').emb x ∈ (m.access r).set
      · obtain ⟨y, -, hy⟩ := Finset.mem_map.mp hin
        have := hr y
        rw [hy] at this; exact this
      · exact (View.write_of_not_mem (v := m.access r) (Val := Elt F) f w Finset.univ (i := (m.access r').emb x) hin).trans (hf r' hr' x)
  iexact H

end Ops

/-! ## Copies -/

section Copies
variable (c : Dev nD) {sp sp' : Space} {s : Shape} {e : EltTy} {src : Memref sig .tc sp s e} {dst : Memref sig .tc sp' s e}

/-- What a copy delivers: its destination holding `g`, its source lent back. -/
def Deliv (src : Memref sig .tc sp s e) (dst : Memref sig .tc sp' s e) (q : PosShare TreeShare) (fs : Buf (Elt F) (src.view.loc (c : Thread nD τ)))
    (g : Buf (Elt F) (dst.view.loc (c : Thread nD τ))) : sProp (𝕄 F) :=
  iprop((dst.view.loc (c : Thread nD τ) ↦[dst.view.set]{fullShare} g) ∗ (src.view.loc (c : Thread nD τ) ↦[src.view.set]{q} fs))

instance (q : PosShare TreeShare) (fs : Buf (Elt F) (src.view.loc (c : Thread nD τ))) (g : Buf (Elt F) (dst.view.loc (c : Thread nD τ))) :
    Storable (upEmb : UEmb _ (𝕄 F)) (Deliv c src dst q fs g) := by unfold Deliv; infer_instance

theorem deliv_of {q : PosShare TreeShare} {fs : Buf (Elt F) (src.view.loc (c : Thread nD τ))} {fd g : Buf (Elt F) (dst.view.loc (c : Thread nD τ))}
    (hg : ∀ x, cast (congrArg (Elt F) dst.view.elt_eq.symm) (src.view.read (Elt F) fs x) = g (dst.view.emb x)) :
    iprop((dst.view.loc (c : Thread nD τ) ↦[dst.view.set]{fullShare} (dst.view.write (Elt F) fd ((ReadAs.same : ReadAs (Elt F) s e s e).apply (src.view.read (Elt F) fs)) Finset.univ))
      ∗ (src.view.loc (c : Thread nD τ) ↦[src.view.set]{q} fs)) ⊢ Deliv c src dst q fs g := by
  unfold Deliv
  iintro ⟨Hd, Hs⟩
  isplitl [Hd]
  · have e : ∀ i ∈ dst.view.set, (dst.view.write (Elt F) fd ((ReadAs.same : ReadAs (Elt F) s e s e).apply (src.view.read (Elt F) fs)) Finset.univ) i = g i := by
      intro i hi
      obtain ⟨x, -, rfl⟩ := Finset.mem_map.mp hi
      rw [View.write_emb_of_mem (v := dst.view) (Val := Elt F) fd _ (Finset.mem_univ x)]
      exact hg x
    iapply (Entails.of_eq (pointsTo_congr e)) $$ Hd
  iexact Hs

variable {K : PUnit → sProp (𝕄 F)} {hsrc : src.view.WordExact} {hdst : dst.view.WordExact} {sem : DmaSem sig}

/-- A copy under way on a semaphore of its own, which will deliver `D`. -/
def Sent (sem : DmaSem sig) (N : ℕ) (D : sProp (𝕄 F)) : sProp (𝕄 F) :=
  iprop(∃ D' : sProp (𝕄 F), ⌜D' ⊢ D⌝ ∗ Transfers.Flight EC (c : Thread nD τ) (.dma sem) () N D')

/-- A copy on a semaphore of its own starts. -/
theorem start_alone {hsem : DmaTarget.Typed (nD := nD) sp (.dma sem) (.here (p := (Proc.tc : Proc τ)) dst)} {q : PosShare TreeShare} {fs : Buf (Elt F) (src.view.loc (c : Thread nD τ))}
    {g : Buf (Elt F) (dst.view.loc (c : Thread nD τ))} (hn : 0 < s.numel) (fd : Buf (Elt F) (dst.view.loc (c : Thread nD τ)))
    (hg : ∀ x, cast (congrArg (Elt F) dst.view.elt_eq.symm) (src.view.read (Elt F) fs x) = g (dst.view.emb x)) :
    iprop((src.view.loc (c : Thread nD τ) ↦[src.view.set]{q} fs) ∗ (dst.view.loc (c : Thread nD τ) ↦[dst.view.set]{fullShare} fd) ∗ semVal ((c : Thread nD τ), .dma sem) 0)
      ⊢ iprop((Sent c sem dst.view.dmaCredit (Deliv c src dst q fs g) -∗ K ⟨⟩)
        -∗ WP c (Prog.lift (.enqueueDma src (.here (p := (Proc.tc : Proc τ)) dst) (.dma sem) hsrc hdst hsem)) K) := by
  iintro ⟨Hs, Hd, Hv⟩ HK
  iapply (Transfers.wp_dmaLocal EC Variants.none (c : Thread nD τ) none () dst.view.dmaCredit rfl (View.dmaCredit_pos dst.view hn) (Finset.Subset.refl _) (k := .ret) (Q := K) (src := src) (dst := dst)
    (via := ReadAs.same) (defs := defs₀ (F := F)) (sm := .dma sem) (hsrc := hsrc) (hdst := hdst) (hsem := hsem) (q := q) (fs := fs) (fd := fd)) $$ [Hs Hd Hv]
  · isplitl [Hs]; · iexact Hs
    isplitl [Hd]; · iexact Hd
    iexact Hv
  iintro HF
  iapply (le_wp_ret _ _ _ _ _)
  iapply HK
  unfold Sent
  iexists iprop((dst.view.loc (c : Thread nD τ) ↦[dst.view.set]{fullShare} (dst.view.write (Elt F) fd ((ReadAs.same : ReadAs (Elt F) s e s e).apply (src.view.read (Elt F) fs)) Finset.univ))
      ∗ (src.view.loc (c : Thread nD τ) ↦[src.view.set]{q} fs))
  isplitr
  · ipureintro; exact deliv_of c hg
  iexact HF

/-- The wait for it. -/
theorem wait_alone {D : sProp (𝕄 F)} :
    iprop(Sent c sem dst.view.dmaCredit D ∗ Ow c)
      ⊢ iprop((iprop(D ∗ semVal ((c : Thread nD τ), .dma sem) 0 ∗ Ow c) -∗ K ⟨⟩)
        -∗ WP c (Prog.lift (.waitDma2 sem src dst hsrc hdst)) K) := by
  unfold Ow Sent
  iintro ⟨⟨%D', %hD, HF⟩, %W, HO⟩ HK
  iapply (Transfers.wp_waitLocal EC Variants.none (c : Thread nD τ) none () rfl (k := .ret) (Q := K) (srcw := src) (dstw := dst) (defs := defs₀ (F := F)) (sem := sem) (hsrc := hsrc) (hdst := hdst) (W := W) (D := D')) $$ [HF HO]
  · isplitl [HF]; · iexact HF
    iexact HO
  iintro ⟨HD, Hv, HO⟩
  iapply (le_wp_ret _ _ _ _ _)
  iapply HK
  isplitl [HD]; · iapply hD $$ HD
  isplitl [Hv]; · iexact Hv
  iexists _; iexact HO

/-- A batch's next copy starts. -/
theorem start_batch {n : ℕ} {A : Fin n → ℕ} {D : Fin n → sProp (𝕄 F)} {hsem : DmaTarget.Typed (nD := nD) sp (.dma sem) (.here (p := (Proc.tc : Proc τ)) dst)} {q : PosShare TreeShare}
    {fs : Buf (Elt F) (src.view.loc (c : Thread nD τ))} {g : Buf (Elt F) (dst.view.loc (c : Thread nD τ))} (fd : Buf (Elt F) (dst.view.loc (c : Thread nD τ)))
    (k : ℕ) (hk : k < n) (hA : dst.view.dmaCredit = A ⟨k, hk⟩) (hD : D ⟨k, hk⟩ = Deliv c src dst q fs g)
    (hg : ∀ x, cast (congrArg (Elt F) dst.view.elt_eq.symm) (src.view.read (Elt F) fs x) = g (dst.view.emb x)) :
    iprop((src.view.loc (c : Thread nD τ) ↦[src.view.set]{q} fs) ∗ (dst.view.loc (c : Thread nD τ) ↦[dst.view.set]{fullShare} fd)
        ∗ Transfers.MixedBatch EC (c : Thread nD τ) (.dma sem) () A D k 0)
      ⊢ iprop((Transfers.MixedBatch EC (c : Thread nD τ) (.dma sem) () A D (k + 1) 0 -∗ K ⟨⟩)
        -∗ WP c (Prog.lift (.enqueueDma src (.here (p := (Proc.tc : Proc τ)) dst) (.dma sem) hsrc hdst hsem)) K) := by
  iintro ⟨Hs, Hd, HB⟩ HK
  iapply (Transfers.wp_dmaMixedBatch EC Variants.none (c : Thread nD τ) none () A (Finset.Subset.refl _) hk hA (Nat.zero_le _) ((deliv_of c hg).trans (Entails.of_eq hD.symm)) (k := .ret) (Q := K) (src := src) (dst := dst)
    (via := ReadAs.same) (defs := defs₀ (F := F)) (sm := .dma sem) (hsrc := hsrc) (hdst := hdst) (hsem := hsem) (q := q) (fs := fs) (fd := fd)) $$ [Hs Hd HB]
  · isplitl [Hs]; · iexact Hs
    isplitl [Hd]; · iexact Hd
    iexact HB
  iintro HF
  iapply (le_wp_ret _ _ _ _ _)
  iapply HK
  iexact HF

/-- A wait on a batch's cell. -/
theorem wait_batch {n : ℕ} {A : Fin n → ℕ} {D : Fin n → sProp (𝕄 F)} {k u : ℕ} (J : ℕ) (hJ : dst.view.dmaCredit = J) (hu : u + J ≤ Transfers.sumTo A k) :
    iprop(Transfers.MixedBatch EC (c : Thread nD τ) (.dma sem) () A D k u ∗ Ow c)
      ⊢ iprop((iprop(Transfers.MixedBatch EC (c : Thread nD τ) (.dma sem) () A D k (u + J) ∗ Ow c) -∗ K ⟨⟩)
        -∗ WP c (Prog.lift (.waitDma2 sem src dst hsrc hdst)) K) := by
  unfold Ow
  iintro ⟨HF, %W, HO⟩ HK
  iapply (Transfers.wp_waitMixedBatch EC Variants.none (c : Thread nD τ) none () hJ hu (k := .ret) (Q := K) (srcw := src) (dstw := dst) (defs := defs₀ (F := F)) (sem := sem) (hsrc := hsrc) (hdst := hdst) (W := W) (D := D)) $$ [HF HO]
  · isplitl [HF]; · iexact HF
    iexact HO
  iintro ⟨HD, HO⟩
  iapply (le_wp_ret _ _ _ _ _)
  iapply HK
  isplitl [HD]; · iexact HD
  iexists _; iexact HO

end Copies

end Cert.Kernel.Hand

end
-- ==== Proof.Spec.lean ====
/-
  Hand-written, untrusted. What every buffer holds at the end, as a function of the arguments' contents: each buffer is
  written tile by tile, and `glue` puts the tiles together.
-/
module

public import proofs.«01_k».proof.Proof.Steps

@[expose] public section

noncomputable section

namespace Cert.Kernel.Hand

open Cert.Kernel Cert.Kernel.Gen
open Idealize.ShloMosaic Idealize.SL.Sem

variable {F : FTy → Type} [FloatOps F]

/-! ## Tiles put together -/

/-- The contents that hold `w i` on tile `i`, and `d` off every tile. -/
def glue {ι : Type} {β : ι → Type} {γ α : Type} (e : ∀ i, β i ↪ γ) (w : ∀ i, β i → α) (d : α) (y : γ) : α :=
  open Classical in if h : ∃ p : Σ i, β i, e p.1 p.2 = y then w h.choose.1 h.choose.2 else d

theorem glue_emb {ι : Type} {β : ι → Type} {γ α : Type} (e : ∀ i, β i ↪ γ) (w : ∀ i, β i → α) (d : α)
    (hinj : ∀ i x j y, e i x = e j y → i = j) (i : ι) (x : β i) : glue e w d (e i x) = w i x := by
  have h : ∃ p : Σ i, β i, e p.1 p.2 = e i x := ⟨⟨i, x⟩, rfl⟩
  unfold glue
  rw [dif_pos h]
  have hc := h.choose_spec
  generalize h.choose = p at hc
  obtain ⟨j, y⟩ := p
  obtain rfl := hinj _ _ _ _ hc
  rw [(e j).injective hc]

/-- Two elements of unit rectangles that are one index: their coordinates agree. -/
theorem coords_eq {s : Shape} {off off' : Fin s.rank → ℕ} {size size' : Fin s.rank → ℕ} {h h'} {x : (Rect.unit (s := s) off size h).shape.Idx}
    {y : (Rect.unit (s := s) off' size' h').shape.Idx} (e : (Rect.unit (s := s) off size h).emb x = (Rect.unit (s := s) off' size' h').emb y) (a : Fin s.rank) :
    off a + (x a).val = off' a + (y a).val ∧ (x a).val < size a ∧ (y a).val < size' a := by
  refine ⟨?_, (x a).isLt, (y a).isLt⟩
  have := congrArg (fun i => (i a).val) e
  simpa [Rect.emb_apply] using this

/-! ## The families of tiles -/

/-- A tile of the codes of `u`. -/
def uE (i : Fin 3 × Fin 5 × Fin 12) : S1x128x128.Idx ↪ S3x640x1536.Idx := (uTile i.1 i.2.1 i.2.2).emb
/-- A tile of the scales held across lanes. -/
def srE (i : Fin 3 × Fin 5) : S1x128x128.Idx ↪ S3x640x128.Idx := (srTile i.1 i.2).emb
/-- A tile of the scales held along lanes. -/
def soE (i : Fin 3 × Fin 5) : S1x1x128.Idx ↪ S3x5x128.Idx := (soTile i.1 i.2).emb
/-- A tile of the codes of `z`, batch row first. -/
def zcE (i : Fin 3 × Fin 6) : S1x640x256.Idx ↪ S3x640x1536.Idx := (zcTile i.1 i.2).emb
/-- A tile of its scales. -/
def zsE (i : Fin 3 × Fin 6) : S1x1x256.Idx ↪ S3x1x1536.Idx := (zsTile i.1 i.2).emb
/-- A weight block in VMEM. -/
def wE (i : Fin 6 × Fin 3) : S1536x256.Idx ↪ S6x3x1536x256.Idx := (wDst i.1 i.2).view.emb

theorem uE_inj : ∀ i x j y, uE i x = uE j y → i = j := by
  rintro ⟨b, r, c⟩ x ⟨b', r', c'⟩ y h
  have h0 := coords_eq h 0; have h1 := coords_eq h 1; have h2 := coords_eq h 2
  simp [Shape.size] at h0 h1 h2
  refine Prod.ext (Fin.ext ?_) (Prod.ext (Fin.ext ?_) (Fin.ext ?_)) <;> simp only <;> omega

theorem srE_inj : ∀ i x j y, srE i x = srE j y → i = j := by
  rintro ⟨b, r⟩ x ⟨b', r'⟩ y h
  have h0 := coords_eq h 0; have h1 := coords_eq h 1
  simp [Shape.size] at h0 h1
  refine Prod.ext (Fin.ext ?_) (Fin.ext ?_) <;> simp only <;> omega

theorem soE_inj : ∀ i x j y, soE i x = soE j y → i = j := by
  rintro ⟨b, r⟩ x ⟨b', r'⟩ y h
  have h0 := coords_eq h 0; have h1 := coords_eq h 1
  simp [Shape.size] at h0 h1
  refine Prod.ext (Fin.ext ?_) (Fin.ext ?_) <;> simp only <;> omega

theorem zcE_inj : ∀ i x j y, zcE i x = zcE j y → i = j := by
  rintro ⟨b, r⟩ x ⟨b', r'⟩ y h
  have h0 := coords_eq h 0; have h2 := coords_eq h 2
  simp [Shape.size] at h0 h2
  refine Prod.ext (Fin.ext ?_) (Fin.ext ?_) <;> simp only <;> omega

theorem zsE_inj : ∀ i x j y, zsE i x = zsE j y → i = j := by
  rintro ⟨b, r⟩ x ⟨b', r'⟩ y h
  have h0 := coords_eq h 0; have h2 := coords_eq h 2
  simp [Shape.size] at h0 h2
  refine Prod.ext (Fin.ext ?_) (Fin.ext ?_) <;> simp only <;> omega

theorem wE_inj : ∀ i x j y, wE i x = wE j y → i = j := by
  rintro ⟨b, r⟩ x ⟨b', r'⟩ y h
  have h' : (wTile b r).emb (Shape.reshapeEquiv (s := S1x1x1536x256) (s' := S1536x256) (by decide) x) = (wTile b' r').emb (Shape.reshapeEquiv (s := S1x1x1536x256) (s' := S1536x256) (by decide) y) := h
  have h0 := coords_eq h' 0; have h2 := coords_eq h' 1
  simp [Shape.size] at h0 h2
  refine Prod.ext (Fin.ext ?_) (Fin.ext ?_) <;> simp only <;> omega

/-! ## The contents -/

section Contents
variable (U : Vec F S3x640x1536 .bf16) (W : Vec F S1536x4608 .fp8e4m3) (Ws : Vec F S1x4608 .f32) (Hs : Vec F S1x1536 .f32) (Cv : Vec F S3x640x1536 .f32)

/-- A tile of `u`. -/
def uT (b : Fin 3) (r : Fin 5) (c : Fin 12) : Vec F S1x128x128 .bf16 := fun x => U ((uTile b r c).emb x)

/-- The lanes' greatest magnitudes over the given lane blocks. -/
def maxAbsV (b : Fin 3) (r : Fin 5) : List (Fin 12) → FVec F S128x128 .bf16 → FVec F S128x128 .bf16
  | [], m => m
  | c :: l, m => maxAbsV b r l (maximumf m (absTile (uT U b r c)))

/-- 128 rows' greatest magnitudes over 448. -/
def xU (b : Fin 3) (r : Fin 5) : FVec F S128x128 .f32 := rowX (maxAbsV U b r [1, 2, 3, 4, 5, 6, 7, 8, 9, 10, 11] (absTile (uT U b r 0)))

/-- The codes of `u`. -/
def specUC : Vec F S3x640x1536 .fp8e4m3 :=
  glue uE (fun i x => codeTile (truncf .bf16 (invOf S128x128 (xU U i.1 i.2.1)) bitsLt_bf16_f32) (uT U i.1 i.2.1 i.2.2) x) (Scalar.ofBits .fp8e4m3 0#8)

/-- The scales of `u`, across lanes. -/
def specSR : Vec F S3x640x128 .f32 :=
  glue srE (fun i x => shapeCast S1x128x128 (scaleOf S128x128 (xU U i.1 i.2)) shapeCasts_S128x128_S1x128x128 x) (Scalar.ofBits .f32 0#32)

/-- The scales of `u`, along lanes. -/
def specSO : Vec F S3x5x128 .f32 :=
  glue soE (fun i x => scaleRow (scaleOf S128x128 (xU U i.1 i.2)) x) (Scalar.ofBits .f32 0#32)

/-- The weight codes, block by block. -/
def wV : Vec F S6x3x1536x256 .fp8e4m3 :=
  glue wE (fun i x => W ((whTile i.1 i.2).emb x)) (Scalar.ofBits .fp8e4m3 0#8)

/-- A scaled tile of the projection `p`. -/
def prj (j : Fin 6) (b : Fin 3) (p : Fin 3) : FVec F S640x256 .f32 :=
  projTile (fun x => specUC U ((slab b).emb x)) (fun x => wV W ((wTile j p).emb x)) (fun x => specSR U ((srSlab b).emb x)) (fun x => Ws ((wsTile j p).emb x))

/-- A tile of `z = k · v`, as a plane of its buffer. -/
def zL (j : Fin 6) (b : Fin 3) : Vec F S1x640x256 .f32 :=
  shapeCast S1x640x256 (mulf (prj U W Ws j b 1) (prj U W Ws j b 2)) shapeCasts_S640x256_S1x640x256

/-- The codes of `z`. -/
def specZC : Vec F S3x640x1536 .fp8e4m3 :=
  glue zcE (fun i x => zCodeTile (shapeCast S640x256 (zL U W Ws i.2 i.1) shapeCasts_S1x640x256_S640x256) x) (Scalar.ofBits .fp8e4m3 0#8)

/-- The scales of `z`. -/
def specZS : Vec F S3x1x1536 .f32 :=
  glue zsE (fun i x => shapeCast S1x1x256 (scaleOf S1x256 (colX (shapeCast S640x256 (zL U W Ws i.2 i.1) shapeCasts_S1x640x256_S640x256))) shapeCasts_S1x256_S1x1x256 x)
    (Scalar.ofBits .f32 0#32)

/-- A tile of `q`, as a plane of its buffer. -/
def qL (j : Fin 6) (b : Fin 3) : Vec F S1x640x256 .f32 := shapeCast S1x640x256 (prj U W Ws j b 0) shapeCasts_S640x256_S1x640x256

theorem inbQB (n : Fin 5) (h : Fin 2) : ∀ a, (![0, 128 * n.val, 128 * h.val] : Fin 3 → Nat) a + S1x128x128.size a ≤ S1x640x256.size a := by
  intro a; fin_cases a <;> simp [Shape.size] <;> omega
/-- A block of 128 tokens by 128 channels of a plane. -/
abbrev qB (n : Fin 5) (h : Fin 2) : Rect S1x640x256 := Rect.unit (s := S1x640x256) ![0, 128 * n.val, 128 * h.val] S1x128x128.size (inbQB n h)

/-- A block of `y`. -/
def yVal (b : Fin 3) (n : Fin 5) (j : Fin 6) (h : Fin 2) : FVec F S1x128x128 .bf16 :=
  yTile h (fun x => qL U W Ws j b ((qB n h).emb x)) (fun x => Cv ((uTile b n (laneOf j h)).emb x)) (fun x => Hs ((hsTile j).emb x))
    (scaleOf S1x256 (colX (shapeCast S640x256 (zL U W Ws j b) shapeCasts_S1x640x256_S640x256)))

/-- The result `y`. -/
def specY : Vec F S3x640x1536 .bf16 :=
  glue uE (fun i x => yVal U W Ws Hs Cv i.1 i.2.1 ⟨i.2.2.val / 2, by omega⟩ ⟨i.2.2.val % 2, by omega⟩ x) (Scalar.ofBits .bf16 0#16)

theorem specUC_at (b : Fin 3) (r : Fin 5) (c : Fin 12) (x : S1x128x128.Idx) :
    specUC U ((uTile b r c).emb x) = codeTile (truncf .bf16 (invOf S128x128 (xU U b r)) bitsLt_bf16_f32) (uT U b r c) x :=
  glue_emb uE _ _ uE_inj (b, r, c) x
theorem specSR_at (b : Fin 3) (r : Fin 5) (x : S1x128x128.Idx) :
    specSR U ((srTile b r).emb x) = shapeCast S1x128x128 (scaleOf S128x128 (xU U b r)) shapeCasts_S128x128_S1x128x128 x :=
  glue_emb srE _ _ srE_inj (b, r) x
theorem specSO_at (b : Fin 3) (r : Fin 5) (x : S1x1x128.Idx) : specSO U ((soTile b r).emb x) = scaleRow (scaleOf S128x128 (xU U b r)) x :=
  glue_emb soE _ _ soE_inj (b, r) x
theorem wV_at (j : Fin 6) (p : Fin 3) (x : S1536x256.Idx) : wV W ((wDst j p).view.emb x) = W ((whTile j p).emb x) :=
  glue_emb wE _ _ wE_inj (j, p) x
theorem specZC_at (b : Fin 3) (j : Fin 6) (x : S1x640x256.Idx) :
    specZC U W Ws ((zcTile b j).emb x) = zCodeTile (shapeCast S640x256 (zL U W Ws j b) shapeCasts_S1x640x256_S640x256) x :=
  glue_emb zcE _ _ zcE_inj (b, j) x
theorem specZS_at (b : Fin 3) (j : Fin 6) (x : S1x1x256.Idx) :
    specZS U W Ws ((zsTile b j).emb x) = shapeCast S1x1x256 (scaleOf S1x256 (colX (shapeCast S640x256 (zL U W Ws j b) shapeCasts_S1x640x256_S640x256))) shapeCasts_S1x256_S1x1x256 x :=
  glue_emb zsE _ _ zsE_inj (b, j) x
theorem specY_at (b : Fin 3) (n : Fin 5) (j : Fin 6) (h : Fin 2) (x : S1x128x128.Idx) :
    specY U W Ws Hs Cv ((uTile b n (laneOf j h)).emb x) = yVal U W Ws Hs Cv b n j h x := by
  refine (glue_emb uE _ _ uE_inj (b, n, laneOf j h) x).trans ?_
  have h1 : (⟨(laneOf j h).val / 2, by omega⟩ : Fin 6) = j := Fin.ext (by simp only; omega)
  have h2 : (⟨(laneOf j h).val % 2, by omega⟩ : Fin 2) = h := Fin.ext (by simp only; omega)
  exact congrFun (congrArg₂ (yVal U W Ws Hs Cv b n) h1 h2) x

end Contents

end Cert.Kernel.Hand

end
-- ==== Proof.Triples.lean ====
/-
  Hand-written, untrusted. What one step of the body does, step by step: the quantisation of `u`.
-/
module

public import proofs.«01_k».proof.Proof.Tools
public import proofs.«01_k».proof.Proof.Spec

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The buffer `b` on `S` at the share `q`, holding `f`. -/
abbrev Pt (c : Dev nD) (b : Ref sig .tc) (S : Finset b.ty.Idx) (q : PosShare TreeShare) (f : BufAt F c b) : sProp (𝕄 F) :=
  ((c : Thread nD τ).loc b ↦[S]{q} f)

/-! ## Where the tiles lie -/

/-- A unit rectangle inside another: decided on the coordinates. -/
theorem unit_subset {s : Shape} {off off' size size' : Fin s.rank → ℕ} {h h'} (hs : ∀ a, off' a ≤ off a ∧ off a + size a ≤ off' a + size' a) :
    (Rect.unit (s := s) off size h).set ⊆ (Rect.unit (s := s) off' size' h').set := by
  intro i hi
  rw [Rect.mem_set_unit] at hi ⊢
  intro a
  have := hi a; have := hs a
  omega

theorem uTile_sub (b : Fin 3) (r : Fin 5) (k : Fin 12) : (uTile b r k).set ⊆ (slab b).set :=
  unit_subset fun a => by fin_cases a <;> simp [Shape.size] <;> omega
theorem srTile_sub (b : Fin 3) (r : Fin 5) : (srTile b r).set ⊆ (srSlab b).set :=
  unit_subset fun a => by fin_cases a <;> simp [Shape.size] <;> omega
theorem soTile_sub (b : Fin 3) (r : Fin 5) : (soTile b r).set ⊆ (soSlab b).set :=
  unit_subset fun a => by fin_cases a <;> simp [Shape.size] <;> omega

section
variable (c : Dev nD) (U : Vec F S3x640x1536 .bf16)

/-! ## A batch row of `u` -/

theorem uLoad_spec (b : Fin 3) (r : Fin 5) (k : Fin 12) {K : Vec F S1x128x128 .bf16 → sProp (𝕄 F)} :
    Pt c cc0_scratch0 (slab b).set fullShare U ⊢ iprop((Pt c cc0_scratch0 (slab b).set fullShare U -∗ K (uT U b r k)) -∗ WP c (uLoad b r k) K) :=
  load_at c vU (r := uTile b r k) (by rw [View.set_slice_whole]; exact uTile_sub b r k)

theorem maxAbs_spec (b : Fin 3) (r : Fin 5) (l : List (Fin 12)) : ∀ (m : FVec F S128x128 .bf16) {K : FVec F S128x128 .bf16 → sProp (𝕄 F)},
    Pt c cc0_scratch0 (slab b).set fullShare U ⊢ iprop((Pt c cc0_scratch0 (slab b).set fullShare U -∗ K (maxAbsV U b r l m)) -∗ WP c (maxAbs b r l m) K) := by
  induction l with
  | nil =>
    intro m K
    unfold maxAbsV
    iintro H HK
    iapply (le_wp_ret _ _ _ m K)
    iapply HK $$ H
  | cons k l ih =>
    intro m K
    unfold maxAbs maxAbsV
    iintro H HK
    iapply (Entails.of_eq (wp_bind _ _ _ _ _ _).symm)
    iapply (uLoad_spec c U b r k) $$ H
    iintro H
    iapply (ih _) $$ H HK

/-- The reciprocals of the scales of 128 tokens, as the codes are computed with them. -/
abbrev invU (b : Fin 3) (r : Fin 5) : FVec F S128x128 .bf16 := truncf .bf16 (invOf S128x128 (xU U b r)) bitsLt_bf16_f32

theorem codeStep_spec (b : Fin 3) (r : Fin 5) (k : Fin 12) (L : List (Rect S3x640x1536)) {K : PUnit → sProp (𝕄 F)} :
    iprop(Pt c cc0_scratch0 (slab b).set fullShare U ∗ Part c vUc (slab b).set (specUC U) L)
      ⊢ iprop((iprop(Pt c cc0_scratch0 (slab b).set fullShare U ∗ Part c vUc (slab b).set (specUC U) (uTile b r k :: L)) -∗ K ⟨⟩)
        -∗ WP c (codeStep b r (invU U b r) k) K) := by
  unfold codeStep
  iintro ⟨HU, HP⟩ HK
  iapply (Entails.of_eq (wp_bind _ _ _ _ _ _).symm)
  iapply (uLoad_spec c U b r k) $$ HU
  iintro HU
  iapply (Entails.of_eq (wp_bind _ _ _ _ _ _).symm)
  iapply (load_part c vUc (r := uTile b r k) (by rw [View.set_slice_whole]; exact uTile_sub b r k)) $$ HP
  iintro %v HP
  iapply (store_part c vUc (r := uTile b r k) (spec := specUC U) (w := codeTile (invU U b r) (uT U b r k)) (by rw [View.set_slice_whole]; exact uTile_sub b r k) (fun x => (specUC_at U b r k x).symm)) $$ HP
  iintro HP
  iapply HK
  isplitl [HU]
  · iexact HU
  iexact HP

/-- The rectangles of `l` added in front, one after the other. -/
abbrev addAll {α β : Type} (f : α → β) (l : List α) (L : List β) : List β := l.foldl (fun L a => f a :: L) L

theorem codes_spec (b : Fin 3) (r : Fin 5) (l : List (Fin 12)) : ∀ (L : List (Rect S3x640x1536)) {K : PUnit → sProp (𝕄 F)},
    iprop(Pt c cc0_scratch0 (slab b).set fullShare U ∗ Part c vUc (slab b).set (specUC U) L)
      ⊢ iprop((iprop(Pt c cc0_scratch0 (slab b).set fullShare U ∗ Part c vUc (slab b).set (specUC U) (addAll (uTile b r) l L)) -∗ K ⟨⟩)
        -∗ WP c (seqAll l (codeStep b r (invU U b r))) K) := by
  induction l with
  | nil =>
    intro L K
    simp only [addAll, List.foldl]
    iintro H HK
    unfold seqAll
    iapply (le_wp_ret _ _ _ _ K)
    iapply HK $$ H
  | cons k l ih =>
    intro L K
    simp only [addAll, List.foldl]
    unfold seqAll
    iintro H HK
    iapply (Entails.of_eq (wp_bind _ _ _ _ _ _).symm)
    iapply (codeStep_spec c U b r k L) $$ H
    iintro H
    iapply (ih _) $$ H HK

theorem scaleStep_spec (b : Fin 3) (r : Fin 5) (L : List (Rect S3x640x128)) (L' : List (Rect S3x5x128)) {K : PUnit → sProp (𝕄 F)} :
    iprop(Part c vSr (srSlab b).set (specSR U) L ∗ Part c vSo (soSlab b).set (specSO U) L')
      ⊢ iprop((iprop(Part c vSr (srSlab b).set (specSR U) (srTile b r :: L) ∗ Part c vSo (soSlab b).set (specSO U) (soTile b r :: L')) -∗ K ⟨⟩)
        -∗ WP c (scaleStep b r (scaleOf S128x128 (xU U b r))) K) := by
  unfold scaleStep
  iintro ⟨HR, HO⟩ HK
  iapply (Entails.of_eq (wp_bind _ _ _ _ _ _).symm)
  iapply (load_part c vSr (r := srTile b r) (by rw [View.set_slice_whole]; exact srTile_sub b r)) $$ HR
  iintro %v HR
  iapply (Entails.of_eq (wp_bind _ _ _ _ _ _).symm)
  iapply (store_part c vSr (r := srTile b r) (spec := specSR U) (w := shapeCast S1x128x128 (scaleOf S128x128 (xU U b r)) shapeCasts_S128x128_S1x128x128) (by rw [View.set_slice_whole]; exact srTile_sub b r) (fun x => (specSR_at U b r x).symm)) $$ HR
  iintro HR
  iapply (Entails.of_eq (wp_bind _ _ _ _ _ _).symm)
  iapply (load_part c vSo (r := soTile b r) (by rw [View.set_slice_whole]; exact soTile_sub b r)) $$ HO
  iintro %v' HO
  iapply (store_part c vSo (r := soTile b r) (spec := specSO U) (w := scaleRow (scaleOf S128x128 (xU U b r))) (by rw [View.set_slice_whole]; exact soTile_sub b r) (fun x => (specSO_at U b r x).symm)) $$ HO
  iintro HO
  iapply HK
  isplitl [HR]
  · iexact HR
  iexact HO

/-- All twelve lane blocks. -/
abbrev lanes : List (Fin 12) := [0, 1, 2, 3, 4, 5, 6, 7, 8, 9, 10, 11]
/-- All five token blocks. -/
abbrev rows : List (Fin 5) := [0, 1, 2, 3, 4]

/-- What quantising the rows of a batch row needs and leaves. -/
def QState (b : Fin 3) (L : List (Rect S3x640x1536)) (L' : List (Rect S3x640x128)) (L'' : List (Rect S3x5x128)) : sProp (𝕄 F) :=
  iprop(Pt c cc0_scratch0 (slab b).set fullShare U ∗ Part c vUc (slab b).set (specUC U) L ∗ Part c vSr (srSlab b).set (specSR U) L' ∗ Part c vSo (soSlab b).set (specSO U) L'')

theorem quantRows_spec (b : Fin 3) (r : Fin 5) (L L' L'') {K : PUnit → sProp (𝕄 F)} :
    QState c U b L L' L'' ⊢ iprop((QState c U b (addAll (uTile b r) lanes L) (srTile b r :: L') (soTile b r :: L'') -∗ K ⟨⟩)
        -∗ WP c (quantRows b r) K) := by
  unfold quantRows QState
  iintro ⟨HU, HC, HR, HO⟩ HK
  iapply (Entails.of_eq (wp_bind _ _ _ _ _ _).symm)
  iapply (uLoad_spec c U b r 0) $$ HU
  iintro HU
  iapply (Entails.of_eq (wp_bind _ _ _ _ _ _).symm)
  iapply (maxAbs_spec c U b r _ _) $$ HU
  iintro HU
  iapply (Entails.of_eq (wp_bind _ _ _ _ _ _).symm)
  iapply (scaleStep_spec c U b r L' L'') $$ [HR HO]
  · isplitl [HR]
    · iexact HR
    iexact HO
  iintro ⟨HR, HO⟩
  iapply (codes_spec c U b r lanes L) $$ [HU HC]
  · isplitl [HU]
    · iexact HU
    iexact HC
  iintro ⟨HU, HC⟩
  iapply HK
  isplitl [HU]
  · iexact HU
  isplitl [HC]
  · iexact HC
  isplitl [HR]
  · iexact HR
  iexact HO

theorem rows_spec (b : Fin 3) (l : List (Fin 5)) : ∀ (L L' L'') {K : PUnit → sProp (𝕄 F)},
    QState c U b L L' L'' ⊢ iprop((QState c U b (l.foldl (fun L r => addAll (uTile b r) lanes L) L) (addAll (srTile b) l L') (addAll (soTile b) l L'') -∗ K ⟨⟩)
        -∗ WP c (seqAll l (quantRows b)) K) := by
  induction l with
  | nil =>
    intro L L' L'' K
    simp only [addAll, List.foldl]
    iintro H HK
    unfold seqAll
    iapply (le_wp_ret _ _ _ _ K)
    iapply HK $$ H
  | cons k l ih =>
    intro L L' L'' K
    rw [show (k :: l).foldl (fun L r => addAll (uTile b r) lanes L) L = l.foldl (fun L r => addAll (uTile b r) lanes L) (addAll (uTile b k) lanes L) from rfl,
      show addAll (srTile b) (k :: l) L' = addAll (srTile b) l (srTile b k :: L') from rfl, show addAll (soTile b) (k :: l) L'' = addAll (soTile b) l (soTile b k :: L'') from rfl]
    unfold seqAll
    iintro H HK
    iapply (Entails.of_eq (wp_bind _ _ _ _ _ _).symm)
    iapply (quantRows_spec c U b k L L' L'') $$ H
    iintro H
    iapply (ih _ _ _) $$ H HK

end

end Cert.Kernel.Hand

end
-- ==== Proof.Copies.lean ====
/-
  Hand-written, untrusted. What one step of the body does, step by step: the copies in and out, and the tiles of `z`.
-/
module

public import proofs.«01_k».proof.Proof.Triples

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The buffer `b` on `S`, whatever it holds. -/
def Any (F : FTy → Type) [FloatOps F] (c : Dev nD) (b : Ref sig .tc) (S : Finset b.ty.Idx) : sProp (𝕄 F) := iprop(∃ f : BufAt F c b, Pt c b S fullShare f)

theorem pt_any (c : Dev nD) (b : Ref sig .tc) (S : Finset b.ty.Idx) (f : BufAt F c b) : Pt c b S fullShare f ⊢ Any F c b S := by
  unfold Any
  iintro H
  iexists f
  iexact H

/-! ## The lists of written tiles -/

theorem mem_addAll_of_mem {α β : Type} (f : α → β) (l : List α) : ∀ (L : List β) {x : β}, x ∈ L → x ∈ addAll f l L := by
  induction l with
  | nil => intro L x h; exact h
  | cons a l ih => intro L x h; exact ih _ (List.mem_cons_of_mem _ h)

theorem mem_addAll {α β : Type} (f : α → β) (l : List α) : ∀ (L : List β) {a : α}, a ∈ l → f a ∈ addAll f l L := by
  induction l with
  | nil => intro L a h; cases h
  | cons a l ih =>
    intro L x h
    rcases List.mem_cons.mp h with rfl | h
    · exact mem_addAll_of_mem f l _ List.mem_cons_self
    · exact ih _ h

theorem mem_rows_of_mem (b : Fin 3) (l : List (Fin 5)) : ∀ (L : List (Rect S3x640x1536)) {x}, x ∈ L → x ∈ l.foldl (fun L r => addAll (uTile b r) lanes L) L := by
  induction l with
  | nil => intro L x h; exact h
  | cons a l ih => intro L x h; exact ih _ (mem_addAll_of_mem _ _ _ h)

theorem mem_rows (b : Fin 3) (l : List (Fin 5)) : ∀ (L : List (Rect S3x640x1536)) {r : Fin 5} {k : Fin 12}, r ∈ l → k ∈ lanes → uTile b r k ∈ l.foldl (fun L r => addAll (uTile b r) lanes L) L := by
  induction l with
  | nil => intro L r k h; cases h
  | cons a l ih =>
    intro L r k h hk
    rcases List.mem_cons.mp h with rfl | h
    · exact mem_rows_of_mem b l _ (mem_addAll (uTile b r) lanes L hk)
    · exact ih _ h hk

theorem mem_lanes (k : Fin 12) : k ∈ lanes := by revert k; decide
theorem mem_rows5 (r : Fin 5) : r ∈ rows := by revert r; decide

theorem cover_u (b : Fin 3) : ∀ i ∈ (slab b).set, ∃ r ∈ rows.foldl (fun L r => addAll (uTile b r) lanes L) [], i ∈ (vUc.access r).set := by
  intro i hi
  rw [Rect.mem_set_unit] at hi
  have h0 := hi 0; have h1 := hi 1; have h2 := hi 2
  simp [Shape.size] at h0 h1 h2
  refine ⟨uTile b ⟨(i 1).val / 128, by omega⟩ ⟨(i 2).val / 128, by omega⟩, mem_rows b rows [] (mem_rows5 _) (mem_lanes _), ?_⟩
  rw [View.set_slice_whole]
  refine Rect.mem_set_unit.mpr fun a => ?_
  fin_cases a
  · show b.val ≤ (i 0).val ∧ (i 0).val < b.val + 1; omega
  · show 128 * ((i 1).val / 128) ≤ (i 1).val ∧ (i 1).val < 128 * ((i 1).val / 128) + 128; omega
  · show 128 * ((i 2).val / 128) ≤ (i 2).val ∧ (i 2).val < 128 * ((i 2).val / 128) + 128; omega

theorem cover_sr (b : Fin 3) : ∀ i ∈ (srSlab b).set, ∃ r ∈ addAll (srTile b) rows [], i ∈ (vSr.access r).set := by
  intro i hi
  rw [Rect.mem_set_unit] at hi
  have h0 := hi 0; have h1 := hi 1; have h2 := hi 2
  simp [Shape.size] at h0 h1 h2
  refine ⟨srTile b ⟨(i 1).val / 128, by omega⟩, mem_addAll (srTile b) rows [] (mem_rows5 _), ?_⟩
  rw [View.set_slice_whole]
  refine Rect.mem_set_unit.mpr fun a => ?_
  fin_cases a
  · show b.val ≤ (i 0).val ∧ (i 0).val < b.val + 1; omega
  · show 128 * ((i 1).val / 128) ≤ (i 1).val ∧ (i 1).val < 128 * ((i 1).val / 128) + 128; omega
  · show 0 ≤ (i 2).val ∧ (i 2).val < 0 + 128; omega

theorem cover_so (b : Fin 3) : ∀ i ∈ (soSlab b).set, ∃ r ∈ addAll (soTile b) rows [], i ∈ (vSo.access r).set := by
  intro i hi
  rw [Rect.mem_set_unit] at hi
  have h0 := hi 0; have h1 := hi 1; have h2 := hi 2
  simp [Shape.size] at h0 h1 h2
  refine ⟨soTile b ⟨(i 1).val, by omega⟩, mem_addAll (soTile b) rows [] (mem_rows5 _), ?_⟩
  rw [View.set_slice_whole]
  refine Rect.mem_set_unit.mpr fun a => ?_
  fin_cases a
  · show b.val ≤ (i 0).val ∧ (i 0).val < b.val + 1; omega
  · show (i 1).val ≤ (i 1).val ∧ (i 1).val < (i 1).val + 1; omega
  · show 0 ≤ (i 2).val ∧ (i 2).val < 0 + 128; omega

/-! ## The ends of the copies, as elements of their buffers -/

theorem uSrc_set (b : Fin 3) : (uSrc b).view.set = (slab b).set := (View.set_reshape _ _).trans (View.set_slice_whole _ _)
theorem uDst_set (b : Fin 3) : (uDst b).view.set = (slab b).set := (View.set_reshape _ _).trans (View.set_slice_whole _ _)
theorem wSrc_set (j : Fin 6) (p : Fin 3) : (wSrc j p).view.set = (whTile j p).set := View.set_slice_whole _ _
theorem wDst_set (j : Fin 6) (p : Fin 3) : (wDst j p).view.set = (wTile j p).set := (View.set_reshape _ _).trans (View.set_slice_whole _ _)
theorem ucSrc_set (b : Fin 3) : (ucSrc b).view.set = (slab b).set := (View.set_reshape _ _).trans (View.set_slice_whole _ _)
theorem ucDst_set (b : Fin 3) : (ucDst b).view.set = (slab b).set := (View.set_reshape _ _).trans (View.set_slice_whole _ _)
theorem usSrc_set (b : Fin 3) : (usSrc b).view.set = (soSlab b).set := (View.set_reshape _ _).trans (View.set_slice_whole _ _)
theorem usDst_set (b : Fin 3) : (usDst b).view.set = (soSlab b).set := (View.set_reshape _ _).trans (View.set_slice_whole _ _)
theorem zcSrc_set (b : Fin 3) (j : Fin 6) : (zcSrc b j).view.set = (zcTile b j).set := (View.set_reshape _ _).trans (View.set_slice_whole _ _)
theorem zcDst_set (b : Fin 3) (j : Fin 6) : (zcDst b j).view.set = (zcTile b j).set := (View.set_reshape _ _).trans (View.set_slice_whole _ _)
theorem ySrc_set (b : Fin 3) (j : Fin 6) : (ySrc b j).view.set = (zcTile b j).set := (View.set_reshape _ _).trans (View.set_slice_whole _ _)
theorem yDst_set (b : Fin 3) (j : Fin 6) : (yDst b j).view.set = (zcTile b j).set := (View.set_reshape _ _).trans (View.set_slice_whole _ _)

section
variable (c : Dev nD) {sp sp' : Space} {s : Shape} {e : EltTy}

/-- A view's elements, held as elements of its buffer. -/
theorem pt_view (m : Memref sig .tc sp s e) {S : Finset (Idx (m.view.loc (c : Thread nD τ)))} (h : m.view.set = S) (q : PosShare TreeShare) (f : Buf (Elt F) (m.view.loc (c : Thread nD τ))) :
    ((m.view.loc (c : Thread nD τ) ↦[m.view.set]{q} f) : sProp (𝕄 F)) = (m.view.loc (c : Thread nD τ) ↦[S]{q} f) := by rw [h]

theorem deliv_sets (src : Memref sig .tc sp s e) (dst : Memref sig .tc sp' s e) {S : Finset (Idx (src.view.loc (c : Thread nD τ)))} {S' : Finset (Idx (dst.view.loc (c : Thread nD τ)))}
    (h : src.view.set = S) (h' : dst.view.set = S') (q : PosShare TreeShare) (f : Buf (Elt F) (src.view.loc (c : Thread nD τ))) (g : Buf (Elt F) (dst.view.loc (c : Thread nD τ))) :
    Deliv c src dst q f g = iprop((dst.view.loc (c : Thread nD τ) ↦[S']{fullShare} g) ∗ (src.view.loc (c : Thread nD τ) ↦[S]{q} f)) := by
  unfold Deliv; rw [h, h']

end

section
variable (c : Dev nD) (U : Vec F S3x640x1536 .bf16) (W : Vec F S1536x4608 .fp8e4m3) (Ws : Vec F S1x4608 .f32) (Hs : Vec F S1x1536 .f32) (Cv : Vec F S3x640x1536 .f32) {K : PUnit → sProp (𝕄 F)}

/-! ## `u` in -/

/-- A batch row of `u` on its way in. -/
def USent (b : Fin 3) : sProp (𝕄 F) := Sent c (uSem b) (uDst b).view.dmaCredit (Deliv c (uSrc b) (uDst b) fullShare U U)

theorem uStart_spec (b : Fin 3) :
    iprop(Pt c main_arg0 (slab b).set fullShare U ∗ Any F c cc0_scratch0 (slab b).set ∗ semVal ((c : Thread nD τ), .dma (uSem b)) 0)
      ⊢ iprop((USent c U b -∗ K ⟨⟩) -∗ WP c (uStart b) K) := by
  unfold uStart USent Any
  iintro ⟨HS, ⟨%f, HD⟩, Hv⟩ HK
  iapply (start_alone c (src := uSrc b) (dst := uDst b) (q := fullShare) (fs := U) (g := U) (by decide) f (fun x => rfl)) $$ [HS HD Hv]
  · isplitl [HS]
    · iapply (Entails.of_eq (pt_view c (uSrc b) (uSrc_set b) fullShare U).symm) $$ HS
    isplitl [HD]
    · iapply (Entails.of_eq (pt_view c (uDst b) (uDst_set b) fullShare f).symm) $$ HD
    iexact Hv
  iexact HK

theorem uWait_spec (b : Fin 3) :
    iprop(USent c U b ∗ Ow c) ⊢ iprop((iprop(Pt c cc0_scratch0 (slab b).set fullShare U ∗ Pt c main_arg0 (slab b).set fullShare U ∗ semVal ((c : Thread nD τ), .dma (uSem b)) 0 ∗ Ow c) -∗ K ⟨⟩)
      -∗ WP c (uWait b) K) := by
  unfold uWait USent
  iintro H HK
  iapply (wait_alone c (src := uSrc b) (dst := uDst b)) $$ H
  iintro ⟨HD, Hv, HO⟩
  ihave HD := (Entails.of_eq (deliv_sets c (uSrc b) (uDst b) (uSrc_set b) (uDst_set b) fullShare U U)) $$ HD
  icases HD with ⟨HD, HS⟩
  iapply HK
  isplitl [HD]; · iexact HD
  isplitl [HS]; · iexact HS
  isplitl [Hv]; · iexact Hv
  iexact HO

/-! ## The weights in -/

/-- What one weight block's copy credits. -/
def CW : ℕ := (wDst 0 0).view.dmaCredit

/-- The copies of a weight tile, `k` of them started and `n` units waited for. -/
def WB (j : Fin 6) (k n : ℕ) : sProp (𝕄 F) :=
  Transfers.MixedBatch EC (c : Thread nD τ) (.dma (wSem j)) () (fun _ : Fin 3 => CW) (fun p => Deliv c (wSrc j p) (wDst j p) fullShare W (wV W)) k n

theorem CW_pos : 0 < CW := View.dmaCredit_pos _ (by decide)

theorem wStart_spec (j : Fin 6) (p : Fin 3) (k : ℕ) (hk : p.val = k) :
    iprop(Pt c main_arg1 (whTile j p).set fullShare W ∗ Any F c cc0_scratch1 (wTile j p).set ∗ WB c W j k 0) ⊢ iprop((WB c W j (k + 1) 0 -∗ K ⟨⟩) -∗ WP c (wStart j p) K) := by
  subst hk
  unfold wStart WB Any
  iintro ⟨HS, ⟨%f, HD⟩, HB⟩ HK
  iapply (start_batch c (src := wSrc j p) (dst := wDst j p) (q := fullShare) (fs := W) (g := wV W) (A := fun _ : Fin 3 => CW) (D := fun p => Deliv c (wSrc j p) (wDst j p) fullShare W (wV W)) f p.val p.isLt rfl rfl (fun x => (wV_at W j p x).symm)) $$ [HS HD HB]
  · isplitl [HS]
    · iapply (Entails.of_eq (pt_view c (wSrc j p) (wSrc_set j p) fullShare W).symm) $$ HS
    isplitl [HD]
    · iapply (Entails.of_eq (pt_view c (wDst j p) (wDst_set j p) fullShare f).symm) $$ HD
    iexact HB
  iexact HK

/-- A weight block before its copy. -/
def WPre (j : Fin 6) (p : Fin 3) : sProp (𝕄 F) := iprop(Pt c main_arg1 (whTile j p).set fullShare W ∗ Any F c cc0_scratch1 (wTile j p).set)
/-- A weight block after it. -/
def WGot (j : Fin 6) (p : Fin 3) : sProp (𝕄 F) := iprop(Pt c cc0_scratch1 (wTile j p).set fullShare (wV W) ∗ Pt c main_arg1 (whTile j p).set fullShare W)

theorem wb_alloc (j : Fin 6) : semVal ((c : Thread nD τ), .dma (wSem j)) 0 ⊢ (|={Set.univ}=> WB c W j 0 0 : sProp (𝕄 F)) :=
  Transfers.mixedBatch_alloc' (Lvl := ℕ) EC (c : Thread nD τ) () _ _

theorem wStarts_spec (j : Fin 6) :
    iprop(WPre c W j 0 ∗ WPre c W j 1 ∗ WPre c W j 2 ∗ semVal ((c : Thread nD τ), .dma (wSem j)) 0) ⊢ iprop((WB c W j 3 0 -∗ K ⟨⟩) -∗ WP c (wStarts j) K) := by
  unfold wStarts WPre
  iintro ⟨⟨H0, G0⟩, ⟨H1, G1⟩, ⟨H2, G2⟩, Hv⟩ HK
  imod (wb_alloc c W j) $$ Hv with HB
  iapply (Entails.of_eq (wp_bind _ _ _ _ _ _).symm)
  iapply (wStart_spec c W j 0 0 rfl) $$ [H0 G0 HB]
  · isplitl [H0]; · iexact H0
    isplitl [G0]; · iexact G0
    iexact HB
  iintro HB
  iapply (Entails.of_eq (wp_bind _ _ _ _ _ _).symm)
  iapply (wStart_spec c W j 1 1 rfl) $$ [H1 G1 HB]
  · isplitl [H1]; · iexact H1
    isplitl [G1]; · iexact G1
    iexact HB
  iintro HB
  iapply (wStart_spec c W j 2 2 rfl) $$ [H2 G2 HB]
  · isplitl [H2]; · iexact H2
    isplitl [G2]; · iexact G2
    iexact HB
  iexact HK

theorem wWait_spec (j : Fin 6) (p : Fin 3) (u : ℕ) (hu : u + CW ≤ 3 * CW) :
    iprop(WB c W j 3 u ∗ Ow c) ⊢ iprop((iprop(WB c W j 3 (u + CW) ∗ Ow c) -∗ K ⟨⟩) -∗ WP c (wWait j p) K) := by
  unfold wWait WB
  iapply (wait_batch c (src := wSrc j p) (dst := wDst j p) CW rfl (by simpa [Transfers.sumTo] using (by omega : u + CW ≤ CW + CW + CW)))

theorem wWaits_spec (j : Fin 6) :
    iprop(WB c W j 3 0 ∗ Ow c) ⊢ iprop((iprop(WGot c W j 0 ∗ WGot c W j 1 ∗ WGot c W j 2 ∗ semVal ((c : Thread nD τ), .dma (wSem j)) 0 ∗ Ow c) -∗ K ⟨⟩) -∗ WP c (wWaits j) K) := by
  unfold wWaits
  iintro H HK
  iapply (Entails.of_eq (wp_bind _ _ _ _ _ _).symm)
  iapply (wWait_spec c W j 0 0 (by omega)) $$ H
  iintro H
  iapply (Entails.of_eq (wp_bind _ _ _ _ _ _).symm)
  iapply (wWait_spec c W j 1 _ (by omega)) $$ H
  iintro H
  iapply (wp_fupd _ _ _)
  iapply (wWait_spec c W j 2 _ (by omega)) $$ H
  iintro ⟨HB, HO⟩
  unfold WB
  rw [show 0 + CW + CW + CW = Transfers.sumTo (fun _ : Fin 3 => CW) 3 by simp [Transfers.sumTo]]
  imod (Transfers.mixedBatch_collect' EC (c : Thread nD τ) (sm := SemLoc.dma (wSem j)) (fun _ => CW_pos)) $$ HB with ⟨HD, Hv⟩
  ihave HD := (Entails.of_eq (show bigSep Finset.univ (fun p : Fin 3 => Deliv c (wSrc j p) (wDst j p) fullShare W (wV W))
      = iprop(Deliv c (wSrc j 0) (wDst j 0) fullShare W (wV W) ∗ Deliv c (wSrc j 1) (wDst j 1) fullShare W (wV W) ∗ Deliv c (wSrc j 2) (wDst j 2) fullShare W (wV W))
    from by rw [BI.bigSep_univ_eq_bigSepL [(0 : Fin 3), 1, 2] (by decide) (by decide)]; rfl)) $$ HD
  icases HD with ⟨H0, H1, H2⟩
  ihave H0 := (Entails.of_eq (deliv_sets c (wSrc j 0) (wDst j 0) (wSrc_set j 0) (wDst_set j 0) fullShare W (wV W))) $$ H0
  ihave H1 := (Entails.of_eq (deliv_sets c (wSrc j 1) (wDst j 1) (wSrc_set j 1) (wDst_set j 1) fullShare W (wV W))) $$ H1
  ihave H2 := (Entails.of_eq (deliv_sets c (wSrc j 2) (wDst j 2) (wSrc_set j 2) (wDst_set j 2) fullShare W (wV W))) $$ H2
  imodintro
  iapply HK
  unfold WGot
  isplitl [H0]; · iexact H0
  isplitl [H1]; · iexact H1
  isplitl [H2]; · iexact H2
  isplitl [Hv]; · iexact Hv
  iexact HO

/-! ## The results out -/

/-- What a batch row of `u`'s codes, a tile of `z`'s and a tile of `y` credit. -/
def CU : ℕ := (ucDst 0).view.dmaCredit
def CZ : ℕ := (zcDst 0 0).view.dmaCredit
def CY : ℕ := (yDst 0 0).view.dmaCredit
theorem CU_pos : 0 < CU := View.dmaCredit_pos _ (by decide)
theorem CZ_pos : 0 < CZ := View.dmaCredit_pos _ (by decide)
theorem CY_pos : 0 < CY := View.dmaCredit_pos _ (by decide)

/-- What the copies on the shared semaphore credit: three batch rows of `u`'s codes, then eighteen tiles of `z`'s,
    each followed by the tile of `y` over it. -/
def oA (t : Fin 39) : ℕ := if t.val < 3 then CU else if (t.val - 3) % 2 = 0 then CZ else CY

/-- What a batch row's copy delivers. -/
def ucDel (b : Fin 3) : sProp (𝕄 F) := Deliv c (ucSrc b) (ucDst b) fullShare.right (specUC U) (specUC U)
/-- What a tile's copy delivers. -/
def zcDel (b : Fin 3) (j : Fin 6) : sProp (𝕄 F) := Deliv c (zcSrc b j) (zcDst b j) fullShare (specZC U W Ws) (specZC U W Ws)

/-- What the copy of a tile of `y` delivers. -/
def yDel (b : Fin 3) (j : Fin 6) : sProp (𝕄 F) := Deliv c (ySrc b j) (yDst b j) fullShare (specY U W Ws Hs Cv) (specY U W Ws Hs Cv)

/-- What they deliver, in the order they start. -/
def oD (t : Fin 39) : sProp (𝕄 F) :=
  if h : t.val < 3 then ucDel c U ⟨t.val, h⟩
  else if (t.val - 3) % 2 = 0 then zcDel c U W Ws ⟨(t.val - 3) / 2 % 3, by omega⟩ ⟨(t.val - 3) / 6, by omega⟩
  else yDel c U W Ws Hs Cv ⟨(t.val - 3) / 2 % 3, by omega⟩ ⟨(t.val - 3) / 6, by omega⟩

instance (t : Fin 39) : Storable (upEmb : UEmb _ (𝕄 F)) (oD c U W Ws Hs Cv t) := by
  unfold oD; split
  · unfold ucDel; infer_instance
  split
  · unfold zcDel; infer_instance
  · unfold yDel; infer_instance

/-- The shared semaphore's copies, `k` of them started and `n` units waited for. -/
def OB (k n : ℕ) : sProp (𝕄 F) := Transfers.MixedBatch EC (c : Thread nD τ) (.dma oSem) () oA (oD c U W Ws Hs Cv) k n

theorem ob_alloc : semVal ((c : Thread nD τ), .dma oSem) 0 ⊢ (|={Set.univ}=> OB c U W Ws Hs Cv 0 0 : sProp (𝕄 F)) :=
  Transfers.mixedBatch_alloc' (Lvl := ℕ) EC (c : Thread nD τ) () _ _

/-- The scales of a batch row of `u` on their way out. -/
def SSent (b : Fin 3) : sProp (𝕄 F) := Sent c (usSem b) (usDst b).view.dmaCredit (Deliv c (usSrc b) (usDst b) fullShare (specSO U) (specSO U))

theorem ucStart_spec (b : Fin 3) (k : ℕ) (hk : b.val = k) :
    iprop(Pt c cc0_scratch2 (slab b).set fullShare.right (specUC U) ∗ Any F c main_v4_1 (slab b).set ∗ OB c U W Ws Hs Cv k 0)
      ⊢ iprop((OB c U W Ws Hs Cv (k + 1) 0 -∗ K ⟨⟩) -∗ WP c (ucStart b) K) := by
  subst hk
  unfold ucStart OB Any
  iintro ⟨HS, ⟨%f, HD⟩, HB⟩ HK
  iapply (start_batch c (src := ucSrc b) (dst := ucDst b) (q := fullShare.right) (fs := specUC U) (g := specUC U) (A := oA) (D := oD c U W Ws Hs Cv) f b.val (by omega)
    (by unfold oA; rw [if_pos (by exact b.isLt)]; rfl) (by unfold oD; rw [dif_pos (by exact b.isLt)]; rfl) (fun x => rfl)) $$ [HS HD HB]
  · isplitl [HS]
    · iapply (Entails.of_eq (pt_view c (ucSrc b) (ucSrc_set b) fullShare.right (specUC U)).symm) $$ HS
    isplitl [HD]
    · iapply (Entails.of_eq (pt_view c (ucDst b) (ucDst_set b) fullShare f).symm) $$ HD
    iexact HB
  iexact HK

theorem usStart_spec (b : Fin 3) :
    iprop(Pt c cc0_scratch4 (soSlab b).set fullShare (specSO U) ∗ Any F c main_v4_2 (soSlab b).set ∗ semVal ((c : Thread nD τ), .dma (usSem b)) 0)
      ⊢ iprop((SSent c U b -∗ K ⟨⟩) -∗ WP c (usStart b) K) := by
  unfold usStart SSent Any
  iintro ⟨HS, ⟨%f, HD⟩, Hv⟩ HK
  iapply (start_alone c (src := usSrc b) (dst := usDst b) (q := fullShare) (fs := specSO U) (g := specSO U) (by decide) f (fun x => rfl)) $$ [HS HD Hv]
  · isplitl [HS]
    · iapply (Entails.of_eq (pt_view c (usSrc b) (usSrc_set b) fullShare (specSO U)).symm) $$ HS
    isplitl [HD]
    · iapply (Entails.of_eq (pt_view c (usDst b) (usDst_set b) fullShare f).symm) $$ HD
    iexact Hv
  iexact HK

/-- What quantising a batch row needs besides `u`. -/
def QPre (b : Fin 3) : sProp (𝕄 F) :=
  iprop(Any F c cc0_scratch2 (slab b).set ∗ Any F c cc0_scratch3 (srSlab b).set ∗ Any F c cc0_scratch4 (soSlab b).set ∗ Any F c main_v4_1 (slab b).set
    ∗ Any F c main_v4_2 (soSlab b).set ∗ semVal ((c : Thread nD τ), .dma (usSem b)) 0)

/-- What the projections read of a batch row. -/
def QGot (b : Fin 3) : sProp (𝕄 F) :=
  iprop(Pt c cc0_scratch2 (slab b).set fullShare.left (specUC U) ∗ Pt c cc0_scratch3 (srSlab b).set fullShare (specSR U))

theorem quantU_spec (b : Fin 3) (k : ℕ) (hk : b.val = k) :
    iprop(Pt c cc0_scratch0 (slab b).set fullShare U ∗ QPre c b ∗ OB c U W Ws Hs Cv k 0)
      ⊢ iprop((iprop(Pt c cc0_scratch0 (slab b).set fullShare U ∗ QGot c U b ∗ SSent c U b ∗ OB c U W Ws Hs Cv (k + 1) 0) -∗ K ⟨⟩) -∗ WP c (quantU b) K) := by
  unfold quantU QPre QGot Any
  iintro ⟨HU, ⟨⟨%f2, H2⟩, ⟨%f3, H3⟩, ⟨%f4, H4⟩, HC, HS, Hv⟩, HB⟩ HK
  iapply (Entails.of_eq (wp_bind _ _ _ _ _ _).symm)
  iapply (rows_spec c U b rows [] [] []) $$ [HU H2 H3 H4]
  · unfold QState
    isplitl [HU]; · iexact HU
    isplitl [H2]; · iapply (part_nil c vUc (slab b).set (specUC U) f2) $$ H2
    isplitl [H3]; · iapply (part_nil c vSr (srSlab b).set (specSR U) f3) $$ H3
    iapply (part_nil c vSo (soSlab b).set (specSO U) f4) $$ H4
  unfold QState
  iintro ⟨HU, H2, H3, H4⟩
  ihave H2 := (part_done c vUc (slab b).set (specUC U) _ (cover_u b)) $$ H2
  ihave H3 := (part_done c vSr (srSlab b).set (specSR U) _ (cover_sr b)) $$ H3
  ihave H4 := (part_done c vSo (soSlab b).set (specSO U) _ (cover_so b)) $$ H4
  ihave H2 := (pointsTo_share (PosShare.mem_left_op_right fullShare)).1 $$ H2
  icases H2 with ⟨H2, H2'⟩
  iapply (Entails.of_eq (wp_bind _ _ _ _ _ _).symm)
  iapply (ucStart_spec c U W Ws Hs Cv b k hk) $$ [H2' HC HB]
  · isplitl [H2']; · iexact H2'
    unfold Any
    isplitl [HC]; · iexact HC
    iexact HB
  iintro HB
  iapply (usStart_spec c U b) $$ [H4 HS Hv]
  · isplitl [H4]; · iexact H4
    unfold Any
    isplitl [HS]; · iexact HS
    iexact Hv
  iintro HF
  iapply HK
  isplitl [HU]; · iexact HU
  isplitl [H2 H3]
  · isplitl [H2]; · iexact H2
    iexact H3
  isplitl [HF]; · iexact HF
  iexact HB

/-! ## The tiles of `z` -/

theorem proj_spec (j : Fin 6) (b : Fin 3) (p : Fin 3) {K : FVec F S640x256 .f32 → sProp (𝕄 F)} :
    iprop(QGot c U b ∗ Pt c cc0_scratch1 (wTile j p).set fullShare (wV W) ∗ Pt c cc0_stg0_0 Finset.univ fullShare Ws)
      ⊢ iprop((iprop(QGot c U b ∗ Pt c cc0_scratch1 (wTile j p).set fullShare (wV W) ∗ Pt c cc0_stg0_0 Finset.univ fullShare Ws) -∗ K (prj U W Ws j b p)) -∗ WP c (proj j b p) K) := by
  unfold proj QGot
  iintro ⟨⟨HC, HR⟩, HW, HS⟩ HK
  iapply (Entails.of_eq (wp_bind _ _ _ _ _ _).symm)
  iapply (load_at c vUc (r := slab b) (f := specUC U) (q := fullShare.left) (S := (slab b).set) (by rw [View.set_slice_whole])) $$ HC
  iintro HC
  iapply (Entails.of_eq (wp_bind _ _ _ _ _ _).symm)
  iapply (load_at c vW (r := wTile j p) (f := wV W) (q := fullShare) (S := (wTile j p).set) (by rw [View.set_slice_whole])) $$ HW
  iintro HW
  iapply (Entails.of_eq (wp_bind _ _ _ _ _ _).symm)
  iapply (load_at c vSr (r := srSlab b) (f := specSR U) (q := fullShare) (S := (srSlab b).set) (by rw [View.set_slice_whole])) $$ HR
  iintro HR
  iapply (Entails.of_eq (wp_bind _ _ _ _ _ _).symm)
  iapply (load_at c mWs (r := wsTile j p) (f := Ws) (q := fullShare) (S := Finset.univ) (Finset.subset_univ _)) $$ HS
  iintro HS
  rw [show projTile ((vUc.access (slab b)).read (Elt F) (specUC U)) ((vW.access (wTile j p)).read (Elt F) (wV W)) ((vSr.access (srSlab b)).read (Elt F) (specSR U))
      ((mWs.access (wsTile j p)).read (Elt F) Ws) = prj U W Ws j b p from rfl]
  iapply (le_wp_ret _ _ _ _ K)
  iapply HK
  isplitl [HC HR]
  · isplitl [HC]; · iexact HC
    iexact HR
  isplitl [HW]; · iexact HW
  iexact HS

/-- The buffer of `z` whose plane `par` holds the tile. -/
def zBuf (par : Fin 2) (j : Fin 6) (b : Fin 3) : Vec F S2x640x256 .f32 :=
  glue (ι := Unit) (β := fun _ => S1x640x256.Idx) (fun _ => (zTile par).emb) (fun _ x => zL U W Ws j b x) (Scalar.ofBits .f32 0#32)

theorem zBuf_at (par : Fin 2) (j : Fin 6) (b : Fin 3) (x : S1x640x256.Idx) : zBuf U W Ws par j b ((zTile par).emb x) = zL U W Ws j b x :=
  glue_emb (ι := Unit) (β := fun _ => S1x640x256.Idx) (fun _ => (zTile par).emb) _ _ (fun _ _ _ _ _ => rfl) () x

/-- What every projection reads of the weights of tile `j`. -/
def ZIn (j : Fin 6) : sProp (𝕄 F) :=
  iprop(Pt c cc0_scratch1 (wTile j 1).set fullShare (wV W) ∗ Pt c cc0_scratch1 (wTile j 2).set fullShare (wV W) ∗ Pt c cc0_stg0_0 Finset.univ fullShare Ws)

theorem projZ_spec (j : Fin 6) (b : Fin 3) (par : Fin 2) :
    iprop(QGot c U b ∗ ZIn c W Ws j ∗ Any F c cc0_scratch5 (zTile par).set)
      ⊢ iprop((iprop(QGot c U b ∗ ZIn c W Ws j ∗ Pt c cc0_scratch5 (zTile par).set fullShare (zBuf U W Ws par j b)) -∗ K ⟨⟩) -∗ WP c (projZ j b par) K) := by
  unfold projZ ZIn Any
  iintro ⟨HQ, ⟨H1, H2, HS⟩, %f, HZ⟩ HK
  iapply (Entails.of_eq (wp_bind _ _ _ _ _ _).symm)
  iapply (proj_spec c U W Ws j b 1) $$ [HQ H1 HS]
  · isplitl [HQ]; · iexact HQ
    isplitl [H1]; · iexact H1
    iexact HS
  iintro ⟨HQ, H1, HS⟩
  iapply (Entails.of_eq (wp_bind _ _ _ _ _ _).symm)
  iapply (proj_spec c U W Ws j b 2) $$ [HQ H2 HS]
  · isplitl [HQ]; · iexact HQ
    isplitl [H2]; · iexact H2
    iexact HS
  iintro ⟨HQ, H2, HS⟩
  ihave HZ := (part_nil c vZ (zTile par).set (zBuf U W Ws par j b) f) $$ HZ
  iapply (Entails.of_eq (wp_bind _ _ _ _ _ _).symm)
  iapply (load_part c vZ (r := zTile par) (by rw [View.set_slice_whole])) $$ HZ
  iintro %v HZ
  iapply (store_part c vZ (r := zTile par) (spec := zBuf U W Ws par j b) (w := zL U W Ws j b) (by rw [View.set_slice_whole]) (fun x => (zBuf_at U W Ws par j b x).symm)) $$ HZ
  iintro HZ
  iapply HK
  isplitl [HQ]; · iexact HQ
  isplitl [H1 H2 HS]
  · isplitl [H1]; · iexact H1
    isplitl [H2]; · iexact H2
    iexact HS
  iapply (part_done c vZ (zTile par).set (zBuf U W Ws par j b) [zTile par] (fun i hi => ⟨zTile par, List.mem_singleton_self _, by rw [View.set_slice_whole]; exact hi⟩)) $$ HZ

theorem zcStart_spec (b : Fin 3) (j : Fin 6) (k : ℕ) (hk : 3 + 2 * (3 * j.val + b.val) = k) :
    iprop(Pt c cc0_scratch7 (zcTile b j).set fullShare (specZC U W Ws) ∗ Any F c main_v4_3 (zcTile b j).set ∗ OB c U W Ws Hs Cv k 0)
      ⊢ iprop((OB c U W Ws Hs Cv (k + 1) 0 -∗ K ⟨⟩) -∗ WP c (zcStart b j) K) := by
  subst hk
  unfold zcStart OB Any
  iintro ⟨HS, ⟨%f, HD⟩, HB⟩ HK
  iapply (start_batch c (src := zcSrc b j) (dst := zcDst b j) (q := fullShare) (fs := specZC U W Ws) (g := specZC U W Ws) (A := oA) (D := oD c U W Ws Hs Cv) f (3 + 2 * (3 * j.val + b.val)) (by omega)
    (by unfold oA; rw [if_neg (by simp only; omega), if_pos (by simp only; omega)]; rfl)
    (by
      unfold oD; rw [dif_neg (by simp only; omega), if_pos (by simp only; omega)]
      have h1 : (⟨(3 + 2 * (3 * j.val + b.val) - 3) / 2 % 3, by omega⟩ : Fin 3) = b := Fin.ext (by simp only; omega)
      have h2 : (⟨(3 + 2 * (3 * j.val + b.val) - 3) / 6, by omega⟩ : Fin 6) = j := Fin.ext (by simp only; omega)
      exact (congrArg₂ (zcDel c U W Ws) h1 h2)) (fun x => rfl)) $$ [HS HD HB]
  · isplitl [HS]
    · iapply (Entails.of_eq (pt_view c (zcSrc b j) (zcSrc_set b j) fullShare (specZC U W Ws)).symm) $$ HS
    isplitl [HD]
    · iapply (Entails.of_eq (pt_view c (zcDst b j) (zcDst_set b j) fullShare f).symm) $$ HD
    iexact HB
  iexact HK

theorem yStart_spec (b : Fin 3) (j : Fin 6) (k : ℕ) (hk : 3 + 2 * (3 * j.val + b.val) + 1 = k) :
    iprop(Pt c cc0_scratch9 (zcTile b j).set fullShare (specY U W Ws Hs Cv) ∗ Any F c main_v4_0 (zcTile b j).set ∗ OB c U W Ws Hs Cv k 0)
      ⊢ iprop((OB c U W Ws Hs Cv (k + 1) 0 -∗ K ⟨⟩) -∗ WP c (yStart b j) K) := by
  subst hk
  unfold yStart OB Any
  iintro ⟨HS, ⟨%f, HD⟩, HB⟩ HK
  iapply (start_batch c (src := ySrc b j) (dst := yDst b j) (q := fullShare) (fs := specY U W Ws Hs Cv) (g := specY U W Ws Hs Cv) (A := oA) (D := oD c U W Ws Hs Cv) f (3 + 2 * (3 * j.val + b.val) + 1) (by omega)
    (by unfold oA; rw [if_neg (by simp only; omega), if_neg (by simp only; omega)]; rfl)
    (by
      unfold oD; rw [dif_neg (by simp only; omega), if_neg (by simp only; omega)]
      have h1 : (⟨(3 + 2 * (3 * j.val + b.val) + 1 - 3) / 2 % 3, by omega⟩ : Fin 3) = b := Fin.ext (by simp only; omega)
      have h2 : (⟨(3 + 2 * (3 * j.val + b.val) + 1 - 3) / 6, by omega⟩ : Fin 6) = j := Fin.ext (by simp only; omega)
      exact (congrArg₂ (yDel c U W Ws Hs Cv) h1 h2)) (fun x => rfl)) $$ [HS HD HB]
  · isplitl [HS]
    · iapply (Entails.of_eq (pt_view c (ySrc b j) (ySrc_set b j) fullShare (specY U W Ws Hs Cv)).symm) $$ HS
    isplitl [HD]
    · iapply (Entails.of_eq (pt_view c (yDst b j) (yDst_set b j) fullShare f).symm) $$ HD
    iexact HB
  iexact HK

/-! ## The tiles of `y` -/

/-- The buffer of `q` whose plane `par` holds the tile. -/
def qBuf (par : Fin 2) (j : Fin 6) (b : Fin 3) : Vec F S2x640x256 .f32 :=
  glue (ι := Unit) (β := fun _ => S1x640x256.Idx) (fun _ => (zTile par).emb) (fun _ x => qL U W Ws j b x) (Scalar.ofBits .f32 0#32)

theorem qBuf_at (par : Fin 2) (j : Fin 6) (b : Fin 3) (x : S1x640x256.Idx) : qBuf U W Ws par j b ((zTile par).emb x) = qL U W Ws j b x :=
  glue_emb (ι := Unit) (β := fun _ => S1x640x256.Idx) (fun _ => (zTile par).emb) _ _ (fun _ _ _ _ _ => rfl) () x

theorem qTile_emb (par : Fin 2) (n : Fin 5) (h : Fin 2) (x : S1x128x128.Idx) : (qTile par n h).emb x = (zTile par).emb ((qB n h).emb x) := by
  funext a
  refine Fin.ext ?_
  rw [Rect.emb_apply, Rect.emb_apply, Rect.emb_apply]
  fin_cases a
  · show par.val + 1 * (x 0).val = par.val + 1 * (0 + 1 * (x 0).val); omega
  · show 128 * n.val + 1 * (x 1).val = 0 + 1 * (128 * n.val + 1 * (x 1).val); omega
  · show 128 * h.val + 1 * (x 2).val = 0 + 1 * (128 * h.val + 1 * (x 2).val); omega

theorem projQ_spec (j : Fin 6) (b : Fin 3) (par : Fin 2) :
    iprop(QGot c U b ∗ iprop(Pt c cc0_scratch1 (wTile j 0).set fullShare (wV W) ∗ Pt c cc0_stg0_0 Finset.univ fullShare Ws) ∗ Any F c cc0_scratch6 (zTile par).set)
      ⊢ iprop((iprop(QGot c U b ∗ iprop(Pt c cc0_scratch1 (wTile j 0).set fullShare (wV W) ∗ Pt c cc0_stg0_0 Finset.univ fullShare Ws)
        ∗ Pt c cc0_scratch6 (zTile par).set fullShare (qBuf U W Ws par j b)) -∗ K ⟨⟩) -∗ WP c (projQ j b par) K) := by
  unfold projQ Any
  iintro ⟨HQ, ⟨H1, HS⟩, %f, HZ⟩ HK
  iapply (Entails.of_eq (wp_bind _ _ _ _ _ _).symm)
  iapply (proj_spec c U W Ws j b 0) $$ [HQ H1 HS]
  · isplitl [HQ]; · iexact HQ
    isplitl [H1]; · iexact H1
    iexact HS
  iintro ⟨HQ, H1, HS⟩
  ihave HZ := (part_nil c vQ (zTile par).set (qBuf U W Ws par j b) f) $$ HZ
  iapply (Entails.of_eq (wp_bind _ _ _ _ _ _).symm)
  iapply (load_part c vQ (r := zTile par) (by rw [View.set_slice_whole])) $$ HZ
  iintro %v HZ
  iapply (store_part c vQ (r := zTile par) (spec := qBuf U W Ws par j b) (w := qL U W Ws j b) (by rw [View.set_slice_whole]) (fun x => (qBuf_at U W Ws par j b x).symm)) $$ HZ
  iintro HZ
  iapply HK
  isplitl [HQ]; · iexact HQ
  isplitl [H1 HS]
  · isplitl [H1]; · iexact H1
    iexact HS
  iapply (part_done c vQ (zTile par).set (qBuf U W Ws par j b) [zTile par] (fun i hi => ⟨zTile par, List.mem_singleton_self _, by rw [View.set_slice_whole]; exact hi⟩)) $$ HZ

theorem yTile_sub (b : Fin 3) (n : Fin 5) (j : Fin 6) (h : Fin 2) : (uTile b n (laneOf j h)).set ⊆ (zcTile b j).set :=
  unit_subset fun a => by fin_cases a <;> simp [Shape.size] <;> omega
theorem qTile_sub (par : Fin 2) (n : Fin 5) (h : Fin 2) : (qTile par n h).set ⊆ (zTile par).set :=
  unit_subset fun a => by fin_cases a <;> simp [Shape.size] <;> omega

/-- What the blocks of a tile of `y` read. -/
def YIn (par : Fin 2) (j : Fin 6) (b : Fin 3) : sProp (𝕄 F) :=
  iprop(Pt c cc0_stg2_0 Finset.univ fullShare Cv ∗ Pt c cc0_scratch6 (zTile par).set fullShare (qBuf U W Ws par j b))

theorem yStep_spec (j : Fin 6) (b : Fin 3) (par : Fin 2) (p : Fin 2 × Fin 5) (L : List (Rect S3x640x1536)) :
    iprop(YIn c U W Ws Cv par j b ∗ Part c vY (zcTile b j).set (specY U W Ws Hs Cv) L)
      ⊢ iprop((iprop(YIn c U W Ws Cv par j b ∗ Part c vY (zcTile b j).set (specY U W Ws Hs Cv) (uTile b p.2 (laneOf j p.1) :: L)) -∗ K ⟨⟩)
        -∗ WP c (yStep j b par (fun x => Hs ((hsTile j).emb x)) (scaleOf S1x256 (colX (shapeCast S640x256 (zL U W Ws j b) shapeCasts_S1x640x256_S640x256))) p) K) := by
  unfold yStep YIn
  iintro ⟨⟨HC, HQ⟩, HP⟩ HK
  iapply (Entails.of_eq (wp_bind _ _ _ _ _ _).symm)
  iapply (load_at c mCv (r := uTile b p.2 (laneOf j p.1)) (f := Cv) (q := fullShare) (S := Finset.univ) (Finset.subset_univ _)) $$ HC
  iintro HC
  iapply (Entails.of_eq (wp_bind _ _ _ _ _ _).symm)
  iapply (load_at c vQ (r := qTile par p.2 p.1) (f := qBuf U W Ws par j b) (q := fullShare) (S := (zTile par).set) (by rw [View.set_slice_whole]; exact qTile_sub par p.2 p.1)) $$ HQ
  rw [show (vQ.access (qTile par p.2 p.1)).read (Elt F) (qBuf U W Ws par j b) = (fun x => qL U W Ws j b ((qB p.2 p.1).emb x)) from
    funext fun x => (congrArg (qBuf U W Ws par j b) (qTile_emb par p.2 p.1 x)).trans (qBuf_at U W Ws par j b _)]
  iintro HQ
  iapply (Entails.of_eq (wp_bind _ _ _ _ _ _).symm)
  iapply (load_part c vY (r := uTile b p.2 (laneOf j p.1)) (by rw [View.set_slice_whole]; exact yTile_sub b p.2 j p.1)) $$ HP
  iintro %v HP
  iapply (store_part c vY (r := uTile b p.2 (laneOf j p.1)) (spec := specY U W Ws Hs Cv) (w := yVal U W Ws Hs Cv b p.2 j p.1) (by rw [View.set_slice_whole]; exact yTile_sub b p.2 j p.1)
    (fun x => (specY_at U W Ws Hs Cv b p.2 j p.1 x).symm)) $$ HP
  iintro HP
  iapply HK
  isplitl [HC HQ]
  · isplitl [HC]; · iexact HC
    iexact HQ
  iexact HP

theorem ySteps_spec (j : Fin 6) (b : Fin 3) (par : Fin 2) (l : List (Fin 2 × Fin 5)) : ∀ (L : List (Rect S3x640x1536)) {K : PUnit → sProp (𝕄 F)},
    iprop(YIn c U W Ws Cv par j b ∗ Part c vY (zcTile b j).set (specY U W Ws Hs Cv) L)
      ⊢ iprop((iprop(YIn c U W Ws Cv par j b ∗ Part c vY (zcTile b j).set (specY U W Ws Hs Cv) (addAll (fun p : Fin 2 × Fin 5 => uTile b p.2 (laneOf j p.1)) l L)) -∗ K ⟨⟩)
        -∗ WP c (seqAll l (yStep j b par (fun x => Hs ((hsTile j).emb x)) (scaleOf S1x256 (colX (shapeCast S640x256 (zL U W Ws j b) shapeCasts_S1x640x256_S640x256))))) K) := by
  induction l with
  | nil =>
    intro L K
    simp only [addAll, List.foldl]
    iintro H HK
    unfold seqAll
    iapply (le_wp_ret _ _ _ _ K)
    iapply HK $$ H
  | cons k l ih =>
    intro L K
    simp only [addAll, List.foldl]
    unfold seqAll
    iintro H HK
    iapply (Entails.of_eq (wp_bind _ _ _ _ _ _).symm)
    iapply (yStep_spec c U W Ws Hs Cv j b par k L) $$ H
    iintro H
    iapply (ih _) $$ H HK

theorem mem_yBlocks (p : Fin 2 × Fin 5) : p ∈ yBlocks := by revert p; decide

theorem cover_y (b : Fin 3) (j : Fin 6) : ∀ i ∈ (zcTile b j).set, ∃ r ∈ addAll (fun p : Fin 2 × Fin 5 => uTile b p.2 (laneOf j p.1)) yBlocks [], i ∈ (vY.access r).set := by
  intro i hi
  rw [Rect.mem_set_unit] at hi
  have h0 := hi 0; have h1 := hi 1; have h2 := hi 2
  simp [Shape.size] at h0 h1 h2
  refine ⟨uTile b ⟨(i 1).val / 128, by omega⟩ (laneOf j ⟨((i 2).val - 256 * j.val) / 128, by omega⟩),
    mem_addAll (fun p : Fin 2 × Fin 5 => uTile b p.2 (laneOf j p.1)) yBlocks [] (mem_yBlocks (⟨((i 2).val - 256 * j.val) / 128, by omega⟩, ⟨(i 1).val / 128, by omega⟩)), ?_⟩
  rw [View.set_slice_whole]
  refine Rect.mem_set_unit.mpr fun a => ?_
  fin_cases a
  · show b.val ≤ (i 0).val ∧ (i 0).val < b.val + 1; omega
  · show 128 * ((i 1).val / 128) ≤ (i 1).val ∧ (i 1).val < 128 * ((i 1).val / 128) + 128; omega
  · show 128 * (2 * j.val + ((i 2).val - 256 * j.val) / 128) ≤ (i 2).val ∧ (i 2).val < 128 * (2 * j.val + ((i 2).val - 256 * j.val) / 128) + 128; omega

/-- A tile of `z`'s codes and of `y` before its step. -/
def ZPre (b : Fin 3) (j : Fin 6) : sProp (𝕄 F) :=
  iprop((Any F c cc0_scratch7 (zcTile b j).set ∗ Any F c main_v4_3 (zcTile b j).set) ∗ Any F c cc0_scratch9 (zcTile b j).set ∗ Any F c main_v4_0 (zcTile b j).set)

theorem post_spec (j : Fin 6) (b : Fin 3) (par : Fin 2) (L : List (Rect S3x1x1536)) (k : ℕ) (hk : 3 + 2 * (3 * j.val + b.val) = k) :
    iprop(iprop(Pt c cc0_stg1_0 Finset.univ fullShare Hs ∗ YIn c U W Ws Cv par j b) ∗ Pt c cc0_scratch5 (zTile par).set fullShare (zBuf U W Ws par j b) ∗ Part c vZs Finset.univ (specZS U W Ws) L ∗ ZPre c b j ∗ OB c U W Ws Hs Cv k 0)
      ⊢ iprop((iprop(iprop(Pt c cc0_stg1_0 Finset.univ fullShare Hs ∗ YIn c U W Ws Cv par j b) ∗ Any F c cc0_scratch5 (zTile par).set ∗ Part c vZs Finset.univ (specZS U W Ws) (zsTile b j :: L) ∗ OB c U W Ws Hs Cv (k + 1 + 1) 0) -∗ K ⟨⟩) -∗ WP c (post j b par) K) := by
  unfold post ZPre
  iintro ⟨⟨HH, HY⟩, HZ, HS, ⟨⟨HC, HD⟩, HC', HD'⟩, HB⟩ HK
  iapply (Entails.of_eq (wp_bind _ _ _ _ _ _).symm)
  iapply (load_at c vZ (r := zTile par) (f := zBuf U W Ws par j b) (q := fullShare) (S := (zTile par).set) (by rw [View.set_slice_whole])) $$ HZ
  rw [show (vZ.access (zTile par)).read (Elt F) (zBuf U W Ws par j b) = zL U W Ws j b from funext (zBuf_at U W Ws par j b)]
  iintro HZ
  iapply (Entails.of_eq (wp_bind _ _ _ _ _ _).symm)
  iapply (load_part c vZs (r := zsTile b j) (Finset.subset_univ _)) $$ HS
  iintro %v HS
  iapply (Entails.of_eq (wp_bind _ _ _ _ _ _).symm)
  iapply (store_part c vZs (r := zsTile b j) (spec := specZS U W Ws)
    (w := shapeCast S1x1x256 (scaleOf S1x256 (colX (shapeCast S640x256 (zL U W Ws j b) shapeCasts_S1x640x256_S640x256))) shapeCasts_S1x256_S1x1x256)
    (Finset.subset_univ _) (fun x => (specZS_at U W Ws b j x).symm)) $$ HS
  iintro HS
  unfold Any
  icases HC with ⟨%f, HC⟩
  ihave HC := (part_nil c vZc (zcTile b j).set (specZC U W Ws) f) $$ HC
  iapply (Entails.of_eq (wp_bind _ _ _ _ _ _).symm)
  iapply (load_part c vZc (r := zcTile b j) (by rw [View.set_slice_whole])) $$ HC
  iintro %v' HC
  iapply (Entails.of_eq (wp_bind _ _ _ _ _ _).symm)
  iapply (store_part c vZc (r := zcTile b j) (spec := specZC U W Ws) (w := zCodeTile (shapeCast S640x256 (zL U W Ws j b) shapeCasts_S1x640x256_S640x256))
    (by rw [View.set_slice_whole]) (fun x => (specZC_at U W Ws b j x).symm)) $$ HC
  iintro HC
  ihave HC := (part_done c vZc (zcTile b j).set (specZC U W Ws) [zcTile b j] (fun i hi => ⟨zcTile b j, List.mem_singleton_self _, by rw [View.set_slice_whole]; exact hi⟩)) $$ HC
  iapply (Entails.of_eq (wp_bind _ _ _ _ _ _).symm)
  iapply (load_at c mHs (r := hsTile j) (f := Hs) (q := fullShare) (S := Finset.univ) (Finset.subset_univ _)) $$ HH
  rw [show (mHs.access (hsTile j)).read (Elt F) Hs = (fun x => Hs ((hsTile j).emb x)) from rfl]
  iintro HH
  icases HC' with ⟨%f', HC'⟩
  ihave HC' := (part_nil c vY (zcTile b j).set (specY U W Ws Hs Cv) f') $$ HC'
  iapply (Entails.of_eq (wp_bind _ _ _ _ _ _).symm)
  iapply (ySteps_spec c U W Ws Hs Cv j b par yBlocks []) $$ [HY HC']
  · isplitl [HY]; · iexact HY
    iexact HC'
  iintro ⟨HY, HC'⟩
  ihave HC' := (part_done c vY (zcTile b j).set (specY U W Ws Hs Cv) _ (cover_y b j)) $$ HC'
  iapply (Entails.of_eq (wp_bind _ _ _ _ _ _).symm)
  iapply (zcStart_spec c U W Ws Hs Cv b j k hk) $$ [HC HD HB]
  · isplitl [HC]; · iexact HC
    unfold Any
    isplitl [HD]; · iexact HD
    iexact HB
  iintro HB
  iapply (yStart_spec c U W Ws Hs Cv b j (k + 1) (by omega)) $$ [HC' HD' HB]
  · isplitl [HC']; · iexact HC'
    unfold Any
    isplitl [HD']; · iexact HD'
    iexact HB
  iintro HB
  iapply HK
  isplitl [HH HY]
  · isplitl [HH]; · iexact HH
    iexact HY
  isplitl [HZ]
  · iexists _; iexact HZ
  isplitl [HS]; · iexact HS
  iexact HB

end

end Cert.Kernel.Hand

end
-- ==== Proof.Tiles.lean ====
/-
  Hand-written, untrusted. What the whole body does, from its steps.
-/
module

public import proofs.«01_k».proof.Proof.Copies

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (c : Dev nD) (U : Vec F S3x640x1536 .bf16) (W : Vec F S1536x4608 .fp8e4m3) (Ws : Vec F S1x4608 .f32) (Hs : Vec F S1x1536 .f32) (Cv : Vec F S3x640x1536 .f32)

/-! ## What the body holds before and after, part by part -/

/-- A batch row of `u` before it comes in, and after. -/
def UPre (b : Fin 3) : sProp (𝕄 F) := iprop(Pt c main_arg0 (slab b).set fullShare U ∗ Any F c cc0_scratch0 (slab b).set ∗ semVal ((c : Thread nD τ), .dma (uSem b)) 0)
def UPost (b : Fin 3) : sProp (𝕄 F) := iprop(Pt c cc0_scratch0 (slab b).set fullShare U ∗ Pt c main_arg0 (slab b).set fullShare U ∗ semVal ((c : Thread nD τ), .dma (uSem b)) 0)
/-- A weight tile before it comes in, and after. -/
def WAll (j : Fin 6) : sProp (𝕄 F) := iprop(WPre c W j 0 ∗ WPre c W j 1 ∗ WPre c W j 2 ∗ semVal ((c : Thread nD τ), .dma (wSem j)) 0)
def WPost (j : Fin 6) : sProp (𝕄 F) := iprop(WGot c W j 0 ∗ WGot c W j 1 ∗ WGot c W j 2 ∗ semVal ((c : Thread nD τ), .dma (wSem j)) 0)
/-- The weights' scales, the filters' and the convolution's sums. -/
def Stg : sProp (𝕄 F) := iprop(Pt c cc0_stg0_0 Finset.univ fullShare Ws ∗ Pt c cc0_stg1_0 Finset.univ fullShare Hs ∗ Pt c cc0_stg2_0 Finset.univ fullShare Cv)
/-- A plane of `z`'s buffer and of `q`'s, whatever they hold. -/
def Plane (F : FTy → Type) [FloatOps F] (c : Dev nD) (par : Fin 2) : sProp (𝕄 F) := iprop(Any F c cc0_scratch5 (zTile par).set ∗ Any F c cc0_scratch6 (zTile par).set)
/-- The plane holding a tile of `q`. -/
def PlaneQ (par : Fin 2) (j : Fin 6) (b : Fin 3) : sProp (𝕄 F) :=
  iprop(Any F c cc0_scratch5 (zTile par).set ∗ Pt c cc0_scratch6 (zTile par).set fullShare (qBuf U W Ws par j b))
/-- The plane holding a tile of `q` and of `z`. -/
def PlaneZ (par : Fin 2) (j : Fin 6) (b : Fin 3) : sProp (𝕄 F) :=
  iprop(Pt c cc0_scratch5 (zTile par).set fullShare (zBuf U W Ws par j b) ∗ Pt c cc0_scratch6 (zTile par).set fullShare (qBuf U W Ws par j b))
/-- The scales of `z`, the tiles of `L` written. -/
def ZS (L : List (Rect S3x1x1536)) : sProp (𝕄 F) := Part c vZs Finset.univ (specZS U W Ws) L
/-- The three batch rows quantised. -/
def Q3 : sProp (𝕄 F) := iprop(QGot c U 0 ∗ QGot c U 1 ∗ QGot c U 2)
/-- The codes of the tiles of `z` over the weight tile `j` before their steps. -/
def Z3 (F : FTy → Type) [FloatOps F] (c : Dev nD) (j : Fin 6) : sProp (𝕄 F) := iprop(ZPre (F := F) c 0 j ∗ ZPre c 1 j ∗ ZPre c 2 j)

variable {K : PUnit → sProp (𝕄 F)}

theorem wArrive (j : Fin 6) : iprop(WB c W j 3 0 ∗ Ow c) ⊢ iprop((iprop(WPost c W j ∗ Ow c) -∗ K ⟨⟩) -∗ WP c (wWaits j) K) := by
  iintro H HK
  iapply (wWaits_spec c W j) $$ H
  iintro ⟨H0, H1, H2, Hv, HO⟩
  iapply HK
  unfold WPost
  isplitl [H0 H1 H2 Hv]
  · isplitl [H0]; · iexact H0
    isplitl [H1]; · iexact H1
    isplitl [H2]; · iexact H2
    iexact Hv
  iexact HO

theorem zStep (j : Fin 6) (b : Fin 3) (par : Fin 2) :
    iprop(QGot c U b ∗ WPost c W j ∗ Stg c Ws Hs Cv ∗ PlaneQ c U W Ws par j b)
      ⊢ iprop((iprop(QGot c U b ∗ WPost c W j ∗ Stg c Ws Hs Cv ∗ PlaneZ c U W Ws par j b) -∗ K ⟨⟩) -∗ WP c (projZ j b par) K) := by
  unfold WPost WGot Stg PlaneQ PlaneZ
  iintro ⟨HQ, ⟨H0, ⟨H1, G1⟩, ⟨H2, G2⟩, Hv⟩, ⟨HS, HR⟩, HZ, HY⟩ HK
  iapply (projZ_spec c U W Ws j b par) $$ [HQ H1 H2 HS HZ]
  · isplitl [HQ]; · iexact HQ
    isplitl [H1 H2 HS]
    · unfold ZIn
      isplitl [H1]; · iexact H1
      isplitl [H2]; · iexact H2
      iexact HS
    iexact HZ
  unfold ZIn
  iintro ⟨HQ, ⟨H1, H2, HS⟩, HZ⟩
  iapply HK
  isplitl [HQ]; · iexact HQ
  isplitl [H0 H1 G1 H2 G2 Hv]
  · isplitl [H0]; · iexact H0
    isplitl [H1 G1]
    · isplitl [H1]; · iexact H1
      iexact G1
    isplitl [H2 G2]
    · isplitl [H2]; · iexact H2
      iexact G2
    iexact Hv
  isplitl [HS HR]
  · isplitl [HS]; · iexact HS
    iexact HR
  isplitl [HZ]; · iexact HZ
  iexact HY

theorem qStep (j : Fin 6) (b : Fin 3) (par : Fin 2) :
    iprop(QGot c U b ∗ WPost c W j ∗ Stg c Ws Hs Cv ∗ Plane F c par)
      ⊢ iprop((iprop(QGot c U b ∗ WPost c W j ∗ Stg c Ws Hs Cv ∗ PlaneQ c U W Ws par j b) -∗ K ⟨⟩) -∗ WP c (projQ j b par) K) := by
  unfold WPost WGot Stg Plane PlaneQ
  iintro ⟨HQ, ⟨⟨H0, G0⟩, H1⟩, ⟨HS, HR⟩, HZ, HY⟩ HK
  iapply (projQ_spec c U W Ws j b par) $$ [HQ H0 HS HY]
  · isplitl [HQ]; · iexact HQ
    isplitl [H0 HS]
    · isplitl [H0]; · iexact H0
      iexact HS
    iexact HY
  iintro ⟨HQ, ⟨H0, HS⟩, HY⟩
  iapply HK
  isplitl [HQ]; · iexact HQ
  isplitl [H0 G0 H1]
  · isplitl [H0 G0]
    · isplitl [H0]; · iexact H0
      iexact G0
    iexact H1
  isplitl [HS HR]
  · isplitl [HS]; · iexact HS
    iexact HR
  isplitl [HZ]; · iexact HZ
  iexact HY

theorem zPost (j : Fin 6) (b : Fin 3) (par : Fin 2) (L : List (Rect S3x1x1536)) (k k' : ℕ) (hk : 3 + 2 * (3 * j.val + b.val) = k) (hk' : k + 2 = k') :
    iprop(Stg c Ws Hs Cv ∗ PlaneZ c U W Ws par j b ∗ ZS c U W Ws L ∗ ZPre c b j ∗ OB c U W Ws Hs Cv k 0)
      ⊢ iprop((iprop(Stg c Ws Hs Cv ∗ Plane F c par ∗ ZS c U W Ws (zsTile b j :: L) ∗ OB c U W Ws Hs Cv k' 0) -∗ K ⟨⟩) -∗ WP c (post j b par) K) := by
  subst hk'
  unfold Stg PlaneZ Plane ZS
  iintro ⟨⟨HS, HH, HC⟩, ⟨HZ, HY⟩, HL, HP, HB⟩ HK
  iapply (post_spec c U W Ws Hs Cv j b par L k hk) $$ [HH HC HZ HY HL HP HB]
  · isplitl [HH HC HY]
    · isplitl [HH]; · iexact HH
      unfold YIn
      isplitl [HC]; · iexact HC
      iexact HY
    isplitl [HZ]; · iexact HZ
    isplitl [HL]; · iexact HL
    isplitl [HP]; · iexact HP
    iexact HB
  unfold YIn
  iintro ⟨⟨HH, HC, HY⟩, HZ, HL, HB⟩
  iapply HK
  isplitl [HS HH HC]
  · isplitl [HS]; · iexact HS
    isplitl [HH]; · iexact HH
    iexact HC
  isplitl [HZ HY]
  · isplitl [HZ]; · iexact HZ
    iapply (pt_any c cc0_scratch6 _ _) $$ HY
  isplitl [HL]; · iexact HL
  iexact HB

/-- What the end of a weight tile needs and leaves. -/
theorem tileEnd_spec (j : Fin 6) (q q' : Fin 2) (L : List (Rect S3x1x1536)) (k k' : ℕ) (hk : 3 + 2 * (3 * j.val + 1) = k) (hk' : k + 2 = k') :
    iprop(QGot c U 2 ∗ WPost c W j ∗ Stg c Ws Hs Cv ∗ PlaneQ c U W Ws q j 2 ∗ PlaneZ c U W Ws q' j 1 ∗ ZS c U W Ws L ∗ ZPre c 1 j ∗ OB c U W Ws Hs Cv k 0)
      ⊢ iprop((iprop(QGot c U 2 ∗ WPost c W j ∗ Stg c Ws Hs Cv ∗ PlaneZ c U W Ws q j 2 ∗ Plane F c q' ∗ ZS c U W Ws (zsTile 1 j :: L) ∗ OB c U W Ws Hs Cv k' 0) -∗ K ⟨⟩)
        -∗ WP c (tileEnd j q q') K) := by
  unfold tileEnd
  iintro ⟨HQ, HW, HS, HP, HP', HL, HZ1, HB⟩ HK
  iapply (Entails.of_eq (wp_bind _ _ _ _ _ _).symm)
  iapply (zPost c U W Ws Hs Cv j 1 q' L k k' hk hk') $$ [HS HP' HL HZ1 HB]
  · isplitl [HS]; · iexact HS
    isplitl [HP']; · iexact HP'
    isplitl [HL]; · iexact HL
    isplitl [HZ1]; · iexact HZ1
    iexact HB
  iintro ⟨HS, HP', HL, HB⟩
  iapply (zStep c U W Ws Hs Cv j 2 q) $$ [HQ HW HS HP]
  · isplitl [HQ]; · iexact HQ
    isplitl [HW]; · iexact HW
    isplitl [HS]; · iexact HS
    iexact HP
  iintro ⟨HQ, HW, HS, HP⟩
  iapply HK
  isplitl [HQ]; · iexact HQ
  isplitl [HW]; · iexact HW
  isplitl [HS]; · iexact HS
  isplitl [HP]; · iexact HP
  isplitl [HP']; · iexact HP'
  isplitl [HL]; · iexact HL
  iexact HB

/-- The start of a weight tile. -/
theorem tileSteps_spec (j : Fin 6) (q q' : Fin 2) (L : List (Rect S3x1x1536)) (k k' : ℕ) (hk : 3 + 2 * (3 * j.val) = k) (hk' : k + 2 = k') :
    iprop(QGot c U 0 ∗ QGot c U 1 ∗ QGot c U 2 ∗ WPost c W j ∗ Stg c Ws Hs Cv ∗ PlaneQ c U W Ws q j 0 ∗ Plane F c q' ∗ ZS c U W Ws L ∗ ZPre c 0 j ∗ OB c U W Ws Hs Cv k 0)
      ⊢ iprop((iprop(QGot c U 0 ∗ QGot c U 1 ∗ QGot c U 2 ∗ WPost c W j ∗ Stg c Ws Hs Cv ∗ PlaneQ c U W Ws q j 2 ∗ PlaneZ c U W Ws q' j 1 ∗ ZS c U W Ws (zsTile 0 j :: L)
        ∗ OB c U W Ws Hs Cv k' 0) -∗ K ⟨⟩)
        -∗ WP c (tileSteps j q q') K) := by
  unfold tileSteps
  iintro ⟨HQ0, HQ1, HQ2, HW, HS, HP, HP', HL, HZ0, HB⟩ HK
  iapply (Entails.of_eq (wp_bind _ _ _ _ _ _).symm)
  iapply (zStep c U W Ws Hs Cv j 0 q) $$ [HQ0 HW HS HP]
  · isplitl [HQ0]; · iexact HQ0
    isplitl [HW]; · iexact HW
    isplitl [HS]; · iexact HS
    iexact HP
  iintro ⟨HQ0, HW, HS, HP⟩
  iapply (Entails.of_eq (wp_bind _ _ _ _ _ _).symm)
  iapply (qStep c U W Ws Hs Cv j 1 q') $$ [HQ1 HW HS HP']
  · isplitl [HQ1]; · iexact HQ1
    isplitl [HW]; · iexact HW
    isplitl [HS]; · iexact HS
    iexact HP'
  iintro ⟨HQ1, HW, HS, HP'⟩
  iapply (Entails.of_eq (wp_bind _ _ _ _ _ _).symm)
  iapply (zPost c U W Ws Hs Cv j 0 q L k k' (by rw [← hk]; simp) hk') $$ [HS HP HL HZ0 HB]
  · isplitl [HS]; · iexact HS
    isplitl [HP]; · iexact HP
    isplitl [HL]; · iexact HL
    isplitl [HZ0]; · iexact HZ0
    iexact HB
  iintro ⟨HS, HP, HL, HB⟩
  iapply (Entails.of_eq (wp_bind _ _ _ _ _ _).symm)
  iapply (zStep c U W Ws Hs Cv j 1 q') $$ [HQ1 HW HS HP']
  · isplitl [HQ1]; · iexact HQ1
    isplitl [HW]; · iexact HW
    isplitl [HS]; · iexact HS
    iexact HP'
  iintro ⟨HQ1, HW, HS, HP'⟩
  iapply (qStep c U W Ws Hs Cv j 2 q) $$ [HQ2 HW HS HP]
  · isplitl [HQ2]; · iexact HQ2
    isplitl [HW]; · iexact HW
    isplitl [HS]; · iexact HS
    iexact HP
  iintro ⟨HQ2, HW, HS, HP⟩
  iapply HK
  isplitl [HQ0]; · iexact HQ0
  isplitl [HQ1]; · iexact HQ1
  isplitl [HQ2]; · iexact HQ2
  isplitl [HW]; · iexact HW
  isplitl [HS]; · iexact HS
  isplitl [HP]; · iexact HP
  isplitl [HP']; · iexact HP'
  isplitl [HL]; · iexact HL
  iexact HB

/-- The tiles of `z`'s scales over the weight tile `j`, written in front of `L`. -/
abbrev zs3 (j : Fin 6) (L : List (Rect S3x1x1536)) : List (Rect S3x1x1536) := zsTile 2 j :: zsTile 1 j :: zsTile 0 j :: L

/-- What the loop carries into the weight tile `j`. -/
def Carry (j : Fin 6) (q q' : Fin 2) (L : List (Rect S3x1x1536)) (k : ℕ) : sProp (𝕄 F) :=
  iprop(Q3 c U ∗ WPost c W j ∗ Stg c Ws Hs Cv ∗ PlaneQ c U W Ws q j 0 ∗ Plane F c q' ∗ ZS c U W Ws L ∗ OB c U W Ws Hs Cv k 0)

/-- A weight tile during which the next one arrives. -/
theorem tile_spec (j j' : Fin 6) (q q' : Fin 2) (L : List (Rect S3x1x1536)) (k k' : ℕ) (hk : 3 + 2 * (3 * j.val) = k) (hk' : k + 6 = k')
    {p : Prog (TpuEff nD τ sig (Elt F) Λ₀ .tc) PUnit} :
    iprop(Carry c U W Ws Hs Cv j q q' L k ∗ Z3 F c j ∗ WB c W j' 3 0 ∗ Ow c)
      ⊢ iprop((iprop(Carry c U W Ws Hs Cv j' q' q (zs3 j L) k' ∗ WPost c W j ∗ Ow c) -∗ WP c p K)
        -∗ WP c (tileSteps j q q' >>= fun _ => wWaits j' >>= fun _ => tileEnd j q q' >>= fun _ => projQ j' 0 q' >>= fun _ => post j 2 q >>= fun _ => p) K) := by
  unfold Carry Q3 Z3
  iintro ⟨⟨⟨HQ0, HQ1, HQ2⟩, HW, HS, HP, HP', HL, HB⟩, ⟨HZ0, HZ1, HZ2⟩, HN, HO⟩ HK
  iapply (Entails.of_eq (wp_bind _ _ _ _ _ _).symm)
  iapply (tileSteps_spec c U W Ws Hs Cv j q q' L k (k + 2) hk rfl) $$ [HQ0 HQ1 HQ2 HW HS HP HP' HL HZ0 HB]
  · isplitl [HQ0]; · iexact HQ0
    isplitl [HQ1]; · iexact HQ1
    isplitl [HQ2]; · iexact HQ2
    isplitl [HW]; · iexact HW
    isplitl [HS]; · iexact HS
    isplitl [HP]; · iexact HP
    isplitl [HP']; · iexact HP'
    isplitl [HL]; · iexact HL
    isplitl [HZ0]; · iexact HZ0
    iexact HB
  iintro ⟨HQ0, HQ1, HQ2, HW, HS, HP, HP', HL, HB⟩
  iapply (Entails.of_eq (wp_bind _ _ _ _ _ _).symm)
  iapply (wArrive c W j') $$ [HN HO]
  · isplitl [HN]; · iexact HN
    iexact HO
  iintro ⟨HN, HO⟩
  iapply (Entails.of_eq (wp_bind _ _ _ _ _ _).symm)
  iapply (tileEnd_spec c U W Ws Hs Cv j q q' _ (k + 2) (k + 4) (by omega) rfl) $$ [HQ2 HW HS HP HP' HL HZ1 HB]
  · isplitl [HQ2]; · iexact HQ2
    isplitl [HW]; · iexact HW
    isplitl [HS]; · iexact HS
    isplitl [HP]; · iexact HP
    isplitl [HP']; · iexact HP'
    isplitl [HL]; · iexact HL
    isplitl [HZ1]; · iexact HZ1
    iexact HB
  iintro ⟨HQ2, HW, HS, HP, HP', HL, HB⟩
  iapply (Entails.of_eq (wp_bind _ _ _ _ _ _).symm)
  iapply (qStep c U W Ws Hs Cv j' 0 q') $$ [HQ0 HN HS HP']
  · isplitl [HQ0]; · iexact HQ0
    isplitl [HN]; · iexact HN
    isplitl [HS]; · iexact HS
    iexact HP'
  iintro ⟨HQ0, HN, HS, HP'⟩
  iapply (Entails.of_eq (wp_bind _ _ _ _ _ _).symm)
  iapply (zPost c U W Ws Hs Cv j 2 q _ (k + 4) k' (by rw [← hk]; simp; omega) (by omega)) $$ [HS HP HL HZ2 HB]
  · isplitl [HS]; · iexact HS
    isplitl [HP]; · iexact HP
    isplitl [HL]; · iexact HL
    isplitl [HZ2]; · iexact HZ2
    iexact HB
  iintro ⟨HS, HP, HL, HB⟩
  iapply HK
  isplitr [HW HO]
  · isplitl [HQ0 HQ1 HQ2]
    · isplitl [HQ0]; · iexact HQ0
      isplitl [HQ1]; · iexact HQ1
      iexact HQ2
    isplitl [HN]; · iexact HN
    isplitl [HS]; · iexact HS
    isplitl [HP']; · iexact HP'
    isplitl [HP]; · iexact HP
    isplitl [HL]; · iexact HL
    iexact HB
  isplitl [HW]; · iexact HW
  iexact HO

/-! ## The waits at the end -/

theorem oTotal : Transfers.sumTo oA 39 = 3 * CU + 18 * (CZ + CY) := by
  simp [Transfers.sumTo, oA]; omega

theorem ucWait_spec (b : Fin 3) (u u' : ℕ) (hu : u + CU = u') (hu' : u' ≤ 3 * CU + 18 * (CZ + CY)) :
    iprop(OB c U W Ws Hs Cv 39 u ∗ Ow c) ⊢ iprop((iprop(OB c U W Ws Hs Cv 39 u' ∗ Ow c) -∗ K ⟨⟩) -∗ WP c (ucWait b) K) := by
  subst hu
  unfold ucWait OB
  iapply (wait_batch c (src := ucSrc b) (dst := ucDst b) CU rfl (by rw [oTotal]; exact hu'))

theorem zcWait_spec (b : Fin 3) (j : Fin 6) (u : ℕ) (hu' : u + CZ ≤ 3 * CU + 18 * (CZ + CY)) :
    iprop(OB c U W Ws Hs Cv 39 u ∗ Ow c) ⊢ iprop((iprop(OB c U W Ws Hs Cv 39 (u + CZ) ∗ Ow c) -∗ K ⟨⟩) -∗ WP c (zcWait b j) K) := by
  unfold zcWait OB
  iapply (wait_batch c (src := zcSrc b j) (dst := zcDst b j) CZ rfl (by rw [oTotal]; exact hu'))

theorem yWait_spec (b : Fin 3) (j : Fin 6) (u : ℕ) (hu' : u + CY ≤ 3 * CU + 18 * (CZ + CY)) :
    iprop(OB c U W Ws Hs Cv 39 u ∗ Ow c) ⊢ iprop((iprop(OB c U W Ws Hs Cv 39 (u + CY) ∗ Ow c) -∗ K ⟨⟩) -∗ WP c (yWait b j) K) := by
  unfold yWait OB
  iapply (wait_batch c (src := ySrc b j) (dst := yDst b j) CY rfl (by rw [oTotal]; exact hu'))

theorem zcWaits_spec (l : List (Fin 6)) : ∀ (u : ℕ) (hu' : u + 3 * l.length * (CZ + CY) ≤ 3 * CU + 18 * (CZ + CY)) {K : PUnit → sProp (𝕄 F)},
    iprop(OB c U W Ws Hs Cv 39 u ∗ Ow c) ⊢ iprop((iprop(OB c U W Ws Hs Cv 39 (u + 3 * l.length * (CZ + CY)) ∗ Ow c) -∗ K ⟨⟩)
      -∗ WP c (seqAll l fun j => seqAll [0, 1, 2] fun b => do zcWait b j; yWait b j) K) := by
  induction l with
  | nil =>
    intro u hu' K
    iintro H HK
    unfold seqAll
    iapply (le_wp_ret _ _ _ _ K)
    iapply HK
    simp only [List.length_nil, Nat.mul_zero, Nat.zero_mul, Nat.add_zero]
    iexact H
  | cons j l ih =>
    intro u hu' K
    have e : u + 3 * (j :: l).length * (CZ + CY) = (u + CZ + CY + CZ + CY + CZ + CY) + 3 * l.length * (CZ + CY) := by rw [List.length_cons, show 3 * (l.length + 1) = 3 * l.length + 1 + 1 + 1 by omega]; simp only [Nat.add_mul, Nat.mul_add, Nat.one_mul, Nat.mul_one]; omega
    rw [e] at hu' ⊢
    have h0 : 0 ≤ 3 * l.length * (CZ + CY) := Nat.zero_le _
    rw [show seqAll (F := F) (j :: l) (fun j => seqAll [0, 1, 2] fun b => do zcWait b j; yWait b j)
      = ((((zcWait 0 j >>= fun _ => yWait 0 j) >>= fun _ => (zcWait 1 j >>= fun _ => yWait 1 j) >>= fun _ => (zcWait 2 j >>= fun _ => yWait 2 j) >>= fun _ => pure PUnit.unit)) >>= fun _ => seqAll l (fun j => seqAll [0, 1, 2] fun b => do zcWait b j; yWait b j)) from rfl]
    iintro H HK
    iapply (Entails.of_eq (wp_bind _ _ _ _ _ _).symm)
    iapply (Entails.of_eq (wp_bind _ _ _ _ _ _).symm)
    iapply (Entails.of_eq (wp_bind _ _ _ _ _ _).symm)
    iapply (zcWait_spec c U W Ws Hs Cv 0 j _ (by omega)) $$ H
    iintro H
    iapply (yWait_spec c U W Ws Hs Cv 0 j _ (by omega)) $$ H
    iintro H
    iapply (Entails.of_eq (wp_bind _ _ _ _ _ _).symm)
    iapply (Entails.of_eq (wp_bind _ _ _ _ _ _).symm)
    iapply (zcWait_spec c U W Ws Hs Cv 1 j _ (by omega)) $$ H
    iintro H
    iapply (yWait_spec c U W Ws Hs Cv 1 j _ (by omega)) $$ H
    iintro H
    iapply (Entails.of_eq (wp_bind _ _ _ _ _ _).symm)
    iapply (Entails.of_eq (wp_bind _ _ _ _ _ _).symm)
    iapply (zcWait_spec c U W Ws Hs Cv 2 j _ (by omega)) $$ H
    iintro H
    iapply (yWait_spec c U W Ws Hs Cv 2 j _ (by omega)) $$ H
    iintro H
    iapply (le_wp_ret _ _ _ _ _)
    ihave HH := (ih _ hu' (K := K)) $$ H
    iapply HH $$ HK

/-- A batch row's scales, sent. -/
def SPost (b : Fin 3) : sProp (𝕄 F) :=
  iprop(Pt c main_v4_2 (soSlab b).set fullShare (specSO U) ∗ Pt c cc0_scratch4 (soSlab b).set fullShare (specSO U) ∗ semVal ((c : Thread nD τ), .dma (usSem b)) 0)

theorem usWait_spec (b : Fin 3) : iprop(SSent c U b ∗ Ow c) ⊢ iprop((iprop(SPost c U b ∗ Ow c) -∗ K ⟨⟩) -∗ WP c (usWait b) K) := by
  unfold usWait SSent SPost
  iintro H HK
  iapply (wait_alone c (src := usSrc b) (dst := usDst b)) $$ H
  iintro ⟨HD, Hv, HO⟩
  ihave HD := (Entails.of_eq (deliv_sets c (usSrc b) (usDst b) (usSrc_set b) (usDst_set b) fullShare (specSO U) (specSO U))) $$ HD
  icases HD with ⟨HD, HS⟩
  iapply HK
  isplitr [HO]
  · isplitl [HD]; · iexact HD
    isplitl [HS]; · iexact HS
    iexact Hv
  iexact HO

/-- The scales of `z` on their way out, and sent. -/
def ZSent : sProp (𝕄 F) := Sent c zsSem mZs.view.dmaCredit (Deliv c vZs mZs fullShare (specZS U W Ws) (specZS U W Ws))
def ZSPost : sProp (𝕄 F) :=
  iprop(Pt c main_v4_4 Finset.univ fullShare (specZS U W Ws) ∗ Pt c cc0_scratch8 Finset.univ fullShare (specZS U W Ws) ∗ semVal ((c : Thread nD τ), .dma zsSem) 0)

theorem zsStart_spec : iprop(Pt c cc0_scratch8 Finset.univ fullShare (specZS U W Ws) ∗ Any F c main_v4_4 Finset.univ ∗ semVal ((c : Thread nD τ), .dma zsSem) 0)
      ⊢ iprop((ZSent c U W Ws -∗ K ⟨⟩) -∗ WP c zsStart K) := by
  unfold zsStart ZSent Any
  iintro ⟨HS, ⟨%f, HD⟩, Hv⟩ HK
  iapply (start_alone c (src := vZs) (dst := mZs) (q := fullShare) (fs := specZS U W Ws) (g := specZS U W Ws) (by decide) f (fun x => rfl)) $$ [HS HD Hv]
  · isplitl [HS]
    · iapply (Entails.of_eq (pt_view c vZs (View.set_whole _) fullShare (specZS U W Ws)).symm) $$ HS
    isplitl [HD]
    · iapply (Entails.of_eq (pt_view c mZs (View.set_whole _) fullShare f).symm) $$ HD
    iexact Hv
  iexact HK

theorem zsWait_spec : iprop(ZSent c U W Ws ∗ Ow c) ⊢ iprop((iprop(ZSPost c U W Ws ∗ Ow c) -∗ K ⟨⟩) -∗ WP c zsWait K) := by
  unfold zsWait ZSent ZSPost
  iintro H HK
  iapply (wait_alone c (src := vZs) (dst := mZs)) $$ H
  iintro ⟨HD, Hv, HO⟩
  ihave HD := (Entails.of_eq (deliv_sets c vZs mZs (View.set_whole _) (View.set_whole _) fullShare (specZS U W Ws) (specZS U W Ws))) $$ HD
  icases HD with ⟨HD, HS⟩
  iapply HK
  isplitr [HO]
  · isplitl [HD]; · iexact HD
    isplitl [HS]; · iexact HS
    iexact Hv
  iexact HO

end

end Cert.Kernel.Hand

end
-- ==== Proof.Body.lean ====
/-
  Hand-written, untrusted. The body, from its steps: what it needs and what it leaves.
-/
module

public import proofs.«01_k».proof.Proof.Tiles

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Three things, and six, one after another. -/
def T3 (Φ : Fin 3 → sProp (𝕄 F)) : sProp (𝕄 F) := iprop(Φ 0 ∗ Φ 1 ∗ Φ 2)
def G6 (Φ : Fin 6 → sProp (𝕄 F)) : sProp (𝕄 F) := iprop(Φ 0 ∗ Φ 1 ∗ Φ 2 ∗ Φ 3 ∗ Φ 4 ∗ Φ 5)

theorem T3_mono {Φ Ψ : Fin 3 → sProp (𝕄 F)} (h : ∀ b, Φ b ⊢ Ψ b) : T3 Φ ⊢ T3 Ψ := by
  unfold T3
  iintro ⟨H0, H1, H2⟩
  isplitl [H0]; · iapply (h 0) $$ H0
  isplitl [H1]; · iapply (h 1) $$ H1
  iapply (h 2) $$ H2

theorem G6_mono {Φ Ψ : Fin 6 → sProp (𝕄 F)} (h : ∀ b, Φ b ⊢ Ψ b) : G6 Φ ⊢ G6 Ψ := by
  unfold G6
  iintro ⟨H0, H1, H2, H3, H4, H5⟩
  isplitl [H0]; · iapply (h 0) $$ H0
  isplitl [H1]; · iapply (h 1) $$ H1
  isplitl [H2]; · iapply (h 2) $$ H2
  isplitl [H3]; · iapply (h 3) $$ H3
  isplitl [H4]; · iapply (h 4) $$ H4
  iapply (h 5) $$ H5

theorem T3_sep (Φ Ψ : Fin 3 → sProp (𝕄 F)) : iprop(T3 Φ ∗ T3 Ψ) ⊢ T3 fun b => iprop(Φ b ∗ Ψ b) := by
  unfold T3
  iintro ⟨⟨H0, H1, H2⟩, G0, G1, G2⟩
  isplitl [H0 G0]
  · isplitl [H0]; · iexact H0
    iexact G0
  isplitl [H1 G1]
  · isplitl [H1]; · iexact H1
    iexact G1
  isplitl [H2]; · iexact H2
  iexact G2

theorem T3_unsep (Φ Ψ : Fin 3 → sProp (𝕄 F)) : (T3 fun b => iprop(Φ b ∗ Ψ b)) ⊢ iprop(T3 Φ ∗ T3 Ψ) := by
  unfold T3
  iintro ⟨⟨H0, G0⟩, ⟨H1, G1⟩, H2, G2⟩
  isplitl [H0 H1 H2]
  · isplitl [H0]; · iexact H0
    isplitl [H1]; · iexact H1
    iexact H2
  isplitl [G0]; · iexact G0
  isplitl [G1]; · iexact G1
  iexact G2

theorem G6_sep (Φ Ψ : Fin 6 → sProp (𝕄 F)) : iprop(G6 Φ ∗ G6 Ψ) ⊢ G6 fun b => iprop(Φ b ∗ Ψ b) := by
  unfold G6
  iintro ⟨⟨H0, H1, H2, H3, H4, H5⟩, G0, G1, G2, G3, G4, G5⟩
  isplitl [H0 G0]
  · isplitl [H0]; · iexact H0
    iexact G0
  isplitl [H1 G1]
  · isplitl [H1]; · iexact H1
    iexact G1
  isplitl [H2 G2]
  · isplitl [H2]; · iexact H2
    iexact G2
  isplitl [H3 G3]
  · isplitl [H3]; · iexact H3
    iexact G3
  isplitl [H4 G4]
  · isplitl [H4]; · iexact H4
    iexact G4
  isplitl [H5]; · iexact H5
  iexact G5

theorem G6_unsep (Φ Ψ : Fin 6 → sProp (𝕄 F)) : (G6 fun b => iprop(Φ b ∗ Ψ b)) ⊢ iprop(G6 Φ ∗ G6 Ψ) := by
  unfold G6
  iintro ⟨⟨H0, G0⟩, ⟨H1, G1⟩, ⟨H2, G2⟩, ⟨H3, G3⟩, ⟨H4, G4⟩, H5, G5⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [G0]; · iexact G0
  isplitl [G1]; · iexact G1
  isplitl [G2]; · iexact G2
  isplitl [G3]; · iexact G3
  isplitl [G4]; · iexact G4
  iexact G5

section
variable (c : Dev nD) (U : Vec F S3x640x1536 .bf16) (W : Vec F S1536x4608 .fp8e4m3) (Ws : Vec F S1x4608 .f32) (Hs : Vec F S1x1536 .f32) (Cv : Vec F S3x640x1536 .f32)

theorem wp_seqAll_cons {α : Type} (a : α) (l : List α) (f : α → Prog (TpuEff nD τ sig (Elt F) Λ₀ .tc) PUnit) (K : PUnit → sProp (𝕄 F)) :
    WP c (seqAll (a :: l) f) K = WP c (f a) (fun _ => WP c (seqAll l f) K) := wp_bind _ _ _ _ _ _

/-! ## The steps over the groups -/

variable {K : PUnit → sProp (𝕄 F)}

theorem uSend (b : Fin 3) : UPre c U b ⊢ iprop((USent c U b -∗ K ⟨⟩) -∗ WP c (uStart b) K) := by
  unfold UPre
  exact uStart_spec c U b

theorem z3_eq (j : Fin 6) : Z3 F c j = iprop(ZPre (F := F) c 0 j ∗ ZPre c 1 j ∗ ZPre c 2 j) := rfl

theorem wSend (j : Fin 6) : WAll c W j ⊢ iprop((WB c W j 3 0 -∗ K ⟨⟩) -∗ WP c (wStarts j) K) := by
  unfold WAll
  exact wStarts_spec c W j

/-- A batch row of `u`, arrived; its transfer's source and counter are back. -/
theorem uArrive (b : Fin 3) : iprop(USent c U b ∗ Ow c) ⊢ iprop((iprop(UPost c U b ∗ Ow c) -∗ K ⟨⟩) -∗ WP c (uWait b) K) := by
  unfold UPost
  iintro H HK
  iapply (uWait_spec c U b) $$ H
  iintro ⟨H1, H2, H3, HO⟩
  iapply HK
  isplitr [HO]
  · isplitl [H1]; · iexact H1
    isplitl [H2]; · iexact H2
    iexact H3
  iexact HO

theorem quant (b : Fin 3) (k : ℕ) (hk : b.val = k) :
    iprop(UPost c U b ∗ QPre c b ∗ OB c U W Ws Hs Cv k 0) ⊢ iprop((iprop(UPost c U b ∗ QGot c U b ∗ SSent c U b ∗ OB c U W Ws Hs Cv (k + 1) 0) -∗ K ⟨⟩) -∗ WP c (quantU b) K) := by
  unfold UPost
  iintro ⟨⟨H1, H2, H3⟩, HQ, HB⟩ HK
  iapply (quantU_spec c U W Ws Hs Cv b k hk) $$ [H1 HQ HB]
  · isplitl [H1]; · iexact H1
    isplitl [HQ]; · iexact HQ
    iexact HB
  iintro ⟨H1, HQ, HS, HB⟩
  iapply HK
  isplitl [H1 H2 H3]
  · isplitl [H1]; · iexact H1
    isplitl [H2]; · iexact H2
    iexact H3
  isplitl [HQ]; · iexact HQ
  isplitl [HS]; · iexact HS
  iexact HB

theorem carry_intro (j : Fin 6) (q q' : Fin 2) (L : List (Rect S3x1x1536)) (k : ℕ) :
    iprop(QGot c U 0 ∗ QGot c U 1 ∗ QGot c U 2 ∗ WPost c W j ∗ Stg c Ws Hs Cv ∗ PlaneQ c U W Ws q j 0 ∗ Plane F c q' ∗ ZS c U W Ws L ∗ OB c U W Ws Hs Cv k 0) ⊢ Carry c U W Ws Hs Cv j q q' L k := by
  unfold Carry Q3
  iintro ⟨H0, H1, H2, H⟩
  isplitl [H0 H1 H2]
  · isplitl [H0]; · iexact H0
    isplitl [H1]; · iexact H1
    iexact H2
  iexact H

/-- The eighteen tiles cover the scales of `z`. -/
theorem mem_zs3 (b : Fin 3) (j : Fin 6) : zsTile b j ∈ zs3 5 (zs3 4 (zs3 3 (zs3 2 (zs3 1 (zs3 0 []))))) := by
  fin_cases b <;> fin_cases j <;> simp [zs3]

theorem cover_zs : ∀ i ∈ (Finset.univ : Finset S3x1x1536.Idx), ∃ r ∈ zs3 5 (zs3 4 (zs3 3 (zs3 2 (zs3 1 (zs3 0 []))))), i ∈ (vZs.access r).set := by
  intro i _
  have h0 : (i 0).val < 3 := (i 0).isLt
  have h1 : (i 1).val < 1 := (i 1).isLt
  have h2 : (i 2).val < 1536 := (i 2).isLt
  refine ⟨zsTile ⟨(i 0).val, h0⟩ ⟨(i 2).val / 256, by omega⟩, mem_zs3 _ _, ?_⟩
  rw [View.set_slice_whole]
  refine Rect.mem_set_unit.mpr fun a => ?_
  fin_cases a
  · show (i 0).val ≤ (i 0).val ∧ (i 0).val < (i 0).val + 1; omega
  · show 0 ≤ (i 1).val ∧ (i 1).val < 0 + 1; omega
  · show 256 * ((i 2).val / 256) ≤ (i 2).val ∧ (i 2).val < 256 * ((i 2).val / 256) + 256; omega

/-! ## The shared semaphore's copies, all waited for -/

/-- A batch row's codes, and a tile's, arrived. -/
def UCPost (b : Fin 3) : sProp (𝕄 F) := iprop(Pt c main_v4_1 (slab b).set fullShare (specUC U) ∗ Pt c cc0_scratch2 (slab b).set fullShare.right (specUC U))
def ZCPost (j : Fin 6) (b : Fin 3) : sProp (𝕄 F) := iprop(Pt c main_v4_3 (zcTile b j).set fullShare (specZC U W Ws) ∗ Pt c cc0_scratch7 (zcTile b j).set fullShare (specZC U W Ws))
/-- A tile of `y`, arrived. -/
def YPost (j : Fin 6) (b : Fin 3) : sProp (𝕄 F) :=
  iprop(Pt c main_v4_0 (zcTile b j).set fullShare (specY U W Ws Hs Cv) ∗ Pt c cc0_scratch9 (zcTile b j).set fullShare (specY U W Ws Hs Cv))

theorem ucDel_post (b : Fin 3) : ucDel c U b ⊢ UCPost c U b :=
  Entails.of_eq (deliv_sets c (ucSrc b) (ucDst b) (ucSrc_set b) (ucDst_set b) fullShare.right (specUC U) (specUC U))
theorem zcDel_post (j : Fin 6) (b : Fin 3) : zcDel c U W Ws b j ⊢ ZCPost c U W Ws j b :=
  Entails.of_eq (deliv_sets c (zcSrc b j) (zcDst b j) (zcSrc_set b j) (zcDst_set b j) fullShare (specZC U W Ws) (specZC U W Ws))

theorem yDel_post (j : Fin 6) (b : Fin 3) : yDel c U W Ws Hs Cv b j ⊢ YPost c U W Ws Hs Cv j b :=
  Entails.of_eq (deliv_sets c (ySrc b j) (yDst b j) (ySrc_set b j) (yDst_set b j) fullShare (specY U W Ws Hs Cv) (specY U W Ws Hs Cv))

theorem oD_list : bigSep Finset.univ (oD c U W Ws Hs Cv) = iprop(ucDel c U 0 ∗ ucDel c U 1 ∗ ucDel c U 2
    ∗ zcDel c U W Ws 0 0 ∗ yDel c U W Ws Hs Cv 0 0 ∗ zcDel c U W Ws 1 0 ∗ yDel c U W Ws Hs Cv 1 0 ∗ zcDel c U W Ws 2 0 ∗ yDel c U W Ws Hs Cv 2 0
    ∗ zcDel c U W Ws 0 1 ∗ yDel c U W Ws Hs Cv 0 1 ∗ zcDel c U W Ws 1 1 ∗ yDel c U W Ws Hs Cv 1 1 ∗ zcDel c U W Ws 2 1 ∗ yDel c U W Ws Hs Cv 2 1
    ∗ zcDel c U W Ws 0 2 ∗ yDel c U W Ws Hs Cv 0 2 ∗ zcDel c U W Ws 1 2 ∗ yDel c U W Ws Hs Cv 1 2 ∗ zcDel c U W Ws 2 2 ∗ yDel c U W Ws Hs Cv 2 2
    ∗ zcDel c U W Ws 0 3 ∗ yDel c U W Ws Hs Cv 0 3 ∗ zcDel c U W Ws 1 3 ∗ yDel c U W Ws Hs Cv 1 3 ∗ zcDel c U W Ws 2 3 ∗ yDel c U W Ws Hs Cv 2 3
    ∗ zcDel c U W Ws 0 4 ∗ yDel c U W Ws Hs Cv 0 4 ∗ zcDel c U W Ws 1 4 ∗ yDel c U W Ws Hs Cv 1 4 ∗ zcDel c U W Ws 2 4 ∗ yDel c U W Ws Hs Cv 2 4
    ∗ zcDel c U W Ws 0 5 ∗ yDel c U W Ws Hs Cv 0 5 ∗ zcDel c U W Ws 1 5 ∗ yDel c U W Ws Hs Cv 1 5 ∗ zcDel c U W Ws 2 5 ∗ yDel c U W Ws Hs Cv 2 5) := by
  rw [BI.bigSep_univ_eq_bigSepL [(0 : Fin 39), 1, 2, 3, 4, 5, 6, 7, 8, 9, 10, 11, 12, 13, 14, 15, 16, 17, 18, 19, 20, 21, 22, 23, 24, 25, 26, 27, 28, 29, 30, 31, 32, 33, 34, 35, 36, 37, 38] (by decide) (by decide)]
  rfl

/-- The two copies of a tile. -/
def tDel (j : Fin 6) (b : Fin 3) : sProp (𝕄 F) := iprop(zcDel c U W Ws b j ∗ yDel c U W Ws Hs Cv b j)

theorem tDel_post (j : Fin 6) (b : Fin 3) : tDel c U W Ws Hs Cv j b ⊢ iprop(ZCPost c U W Ws j b ∗ YPost c U W Ws Hs Cv j b) := by
  unfold tDel
  iintro ⟨HZ, HY⟩
  isplitl [HZ]
  · iapply (zcDel_post c U W Ws j b) $$ HZ
  iapply (yDel_post c U W Ws Hs Cv j b) $$ HY

theorem tDel_list (j : Fin 6) : iprop(zcDel c U W Ws 0 j ∗ yDel c U W Ws Hs Cv 0 j ∗ zcDel c U W Ws 1 j ∗ yDel c U W Ws Hs Cv 1 j ∗ zcDel c U W Ws 2 j ∗ yDel c U W Ws Hs Cv 2 j)
    ⊢ T3 (tDel c U W Ws Hs Cv j) := by
  unfold T3 tDel
  iintro ⟨H0, Y0, H1, Y1, H2, Y2⟩
  isplitl [H0 Y0]
  · isplitl [H0]; · iexact H0
    iexact Y0
  isplitl [H1 Y1]
  · isplitl [H1]; · iexact H1
    iexact Y1
  isplitl [H2]; · iexact H2
  iexact Y2

theorem oD_groups : bigSep Finset.univ (oD c U W Ws Hs Cv) ⊢ iprop(T3 (UCPost c U) ∗ G6 fun j => T3 fun b => iprop(ZCPost c U W Ws j b ∗ YPost c U W Ws Hs Cv j b)) := by
  rw [oD_list]
  have hu : ∀ b, ucDel c U b ⊢ UCPost c U b := ucDel_post c U
  have hz : ∀ j, T3 (tDel c U W Ws Hs Cv j) ⊢ T3 fun b => iprop(ZCPost c U W Ws j b ∗ YPost c U W Ws Hs Cv j b) := fun j => T3_mono (tDel_post c U W Ws Hs Cv j)
  iintro ⟨A0, A1, A2, H00, Y00, H01, Y01, H02, Y02, H10, Y10, H11, Y11, H12, Y12, H20, Y20, H21, Y21, H22, Y22, H30, Y30, H31, Y31, H32, Y32, H40, Y40, H41, Y41, H42, Y42, H50, Y50, H51, Y51, H52, Y52⟩
  isplitl [A0 A1 A2]
  · iapply (T3_mono hu)
    unfold T3
    isplitl [A0]; · iexact A0
    isplitl [A1]; · iexact A1
    iexact A2
  iapply (G6_mono hz)
  unfold G6
  isplitl [H00 Y00 H01 Y01 H02 Y02]
  · iapply (tDel_list c U W Ws Hs Cv 0)
    isplitl [H00]; · iexact H00
    isplitl [Y00]; · iexact Y00
    isplitl [H01]; · iexact H01
    isplitl [Y01]; · iexact Y01
    isplitl [H02]; · iexact H02
    iexact Y02
  isplitl [H10 Y10 H11 Y11 H12 Y12]
  · iapply (tDel_list c U W Ws Hs Cv 1)
    isplitl [H10]; · iexact H10
    isplitl [Y10]; · iexact Y10
    isplitl [H11]; · iexact H11
    isplitl [Y11]; · iexact Y11
    isplitl [H12]; · iexact H12
    iexact Y12
  isplitl [H20 Y20 H21 Y21 H22 Y22]
  · iapply (tDel_list c U W Ws Hs Cv 2)
    isplitl [H20]; · iexact H20
    isplitl [Y20]; · iexact Y20
    isplitl [H21]; · iexact H21
    isplitl [Y21]; · iexact Y21
    isplitl [H22]; · iexact H22
    iexact Y22
  isplitl [H30 Y30 H31 Y31 H32 Y32]
  · iapply (tDel_list c U W Ws Hs Cv 3)
    isplitl [H30]; · iexact H30
    isplitl [Y30]; · iexact Y30
    isplitl [H31]; · iexact H31
    isplitl [Y31]; · iexact Y31
    isplitl [H32]; · iexact H32
    iexact Y32
  isplitl [H40 Y40 H41 Y41 H42 Y42]
  · iapply (tDel_list c U W Ws Hs Cv 4)
    isplitl [H40]; · iexact H40
    isplitl [Y40]; · iexact Y40
    isplitl [H41]; · iexact H41
    isplitl [Y41]; · iexact Y41
    isplitl [H42]; · iexact H42
    iexact Y42
  iapply (tDel_list c U W Ws Hs Cv 5)
  isplitl [H50]; · iexact H50
  isplitl [Y50]; · iexact Y50
  isplitl [H51]; · iexact H51
  isplitl [Y51]; · iexact Y51
  isplitl [H52]; · iexact H52
  iexact Y52

theorem ob_collect : OB c U W Ws Hs Cv 39 (CU + CU + CU + 3 * [(0 : Fin 6), 1, 2, 3, 4, 5].length * (CZ + CY))
    ⊢ (|={Set.univ}=> iprop(T3 (UCPost c U) ∗ (G6 fun j => T3 fun b => iprop(ZCPost c U W Ws j b ∗ YPost c U W Ws Hs Cv j b)) ∗ semVal ((c : Thread nD τ), .dma oSem) 0) : sProp (𝕄 F)) := by
  rw [show CU + CU + CU + 3 * [(0 : Fin 6), 1, 2, 3, 4, 5].length * (CZ + CY) = Transfers.sumTo oA 39 from by rw [oTotal]; simp; omega]
  unfold OB
  iintro H
  imod (Transfers.mixedBatch_collect' EC (c : Thread nD τ) (sm := SemLoc.dma oSem) (fun t => by unfold oA; split; exact CU_pos; split; exacts [CZ_pos, CY_pos])) $$ H with ⟨HD, Hv⟩
  ihave HD := (oD_groups c U W Ws Hs Cv) $$ HD
  icases HD with ⟨HY, HX⟩
  imodintro
  isplitl [HY]; · iexact HY
  isplitl [HX]; · iexact HX
  iexact Hv

/-! ## The body -/

theorem zs_any : Any F c cc0_scratch8 Finset.univ ⊢ ZS c U W Ws [] := by
  unfold Any ZS
  iintro ⟨%f, H⟩
  iapply (part_nil c vZs Finset.univ (specZS U W Ws) f) $$ H

/-- What the body needs. -/
def BPre : sProp (𝕄 F) :=
  iprop(T3 (UPre c U) ∗ G6 (WAll c W) ∗ T3 (QPre c) ∗ Stg c Ws Hs Cv ∗ Plane F c 0 ∗ Plane F c 1 ∗ Any F c cc0_scratch8 Finset.univ ∗ Any F c main_v4_4 Finset.univ
    ∗ semVal ((c : Thread nD τ), .dma zsSem) 0 ∗ G6 (Z3 F c) ∗ semVal ((c : Thread nD τ), .dma oSem) 0 ∗ Ow c)

/-- What the body leaves. -/
def BPost : sProp (𝕄 F) :=
  iprop(T3 (UPost c U) ∗ G6 (WPost c W) ∗ T3 (QGot c U) ∗ Stg c Ws Hs Cv ∗ Plane F c 0 ∗ Plane F c 1 ∗ ZSPost c U W Ws ∗ T3 (SPost c U)
    ∗ T3 (UCPost c U) ∗ (G6 fun j => T3 fun b => iprop(ZCPost c U W Ws j b ∗ YPost c U W Ws Hs Cv j b)) ∗ semVal ((c : Thread nD τ), .dma oSem) 0 ∗ Ow c)

theorem body_spec : BPre c U W Ws Hs Cv ⊢ iprop((BPost c U W Ws Hs Cv -∗ K ⟨⟩) -∗ WP c bodyR K) := by
  unfold BPre T3 G6 bodyR
  iintro ⟨⟨HU0, HU1, HU2⟩, ⟨HW0, HW1, HW2, HW3, HW4, HW5⟩, ⟨HQ0, HQ1, HQ2⟩, HS, HP0, HP1, HL, HD, Hz, ⟨HZ0, HZ1, HZ2, HZ3, HZ4, HZ5⟩, Hv, HO⟩ HK
  imod (ob_alloc c U W Ws Hs Cv) $$ Hv with HB
  ihave HL := (zs_any c U W Ws) $$ HL
  iapply (Entails.of_eq (wp_bind _ _ _ _ _ _).symm)
  iapply (uSend c U 0) $$ HU0
  iintro HU0
  iapply (Entails.of_eq (wp_bind _ _ _ _ _ _).symm)
  iapply (wSend c W 0) $$ HW0
  iintro HW0
  iapply (Entails.of_eq (wp_bind _ _ _ _ _ _).symm)
  iapply (uSend c U 1) $$ HU1
  iintro HU1
  iapply (Entails.of_eq (wp_bind _ _ _ _ _ _).symm)
  iapply (uSend c U 2) $$ HU2
  iintro HU2
  iapply (Entails.of_eq (wp_bind _ _ _ _ _ _).symm)
  iapply (Entails.of_eq (wp_seqAll_cons _ _ _ _ _).symm)
  iapply (wSend c W 1) $$ HW1
  iintro HW1
  iapply (Entails.of_eq (wp_seqAll_cons _ _ _ _ _).symm)
  iapply (wSend c W 2) $$ HW2
  iintro HW2
  iapply (Entails.of_eq (wp_seqAll_cons _ _ _ _ _).symm)
  iapply (wSend c W 3) $$ HW3
  iintro HW3
  iapply (Entails.of_eq (wp_seqAll_cons _ _ _ _ _).symm)
  iapply (wSend c W 4) $$ HW4
  iintro HW4
  iapply (Entails.of_eq (wp_seqAll_cons _ _ _ _ _).symm)
  iapply (wSend c W 5) $$ HW5
  iintro HW5
  iapply (le_wp_ret _ _ _ _ _)
  iapply (Entails.of_eq (wp_bind _ _ _ _ _ _).symm)
  iapply (uArrive c U 0) $$ [HU0 HO]
  · isplitl [HU0]; · iexact HU0
    iexact HO
  iintro ⟨HU0, HO⟩
  iapply (Entails.of_eq (wp_bind _ _ _ _ _ _).symm)
  iapply (quant c U W Ws Hs Cv 0 0 rfl) $$ [HU0 HQ0 HB]
  · isplitl [HU0]; · iexact HU0
    isplitl [HQ0]; · iexact HQ0
    iexact HB
  iintro ⟨HU0, HQ0, HS0, HB⟩
  iapply (Entails.of_eq (wp_bind _ _ _ _ _ _).symm)
  iapply (wArrive c W 0) $$ [HW0 HO]
  · isplitl [HW0]; · iexact HW0
    iexact HO
  iintro ⟨HW0, HO⟩
  iapply (Entails.of_eq (wp_bind _ _ _ _ _ _).symm)
  iapply (qStep c U W Ws Hs Cv 0 0 0) $$ [HQ0 HW0 HS HP0]
  · isplitl [HQ0]; · iexact HQ0
    isplitl [HW0]; · iexact HW0
    isplitl [HS]; · iexact HS
    iexact HP0
  iintro ⟨HQ0, HW0, HS, HP0⟩
  iapply (Entails.of_eq (wp_bind _ _ _ _ _ _).symm)
  iapply (uArrive c U 1) $$ [HU1 HO]
  · isplitl [HU1]; · iexact HU1
    iexact HO
  iintro ⟨HU1, HO⟩
  iapply (Entails.of_eq (wp_bind _ _ _ _ _ _).symm)
  iapply (quant c U W Ws Hs Cv 1 1 rfl) $$ [HU1 HQ1 HB]
  · isplitl [HU1]; · iexact HU1
    isplitl [HQ1]; · iexact HQ1
    iexact HB
  iintro ⟨HU1, HQ1, HS1, HB⟩
  iapply (Entails.of_eq (wp_bind _ _ _ _ _ _).symm)
  iapply (zStep c U W Ws Hs Cv 0 0 0) $$ [HQ0 HW0 HS HP0]
  · isplitl [HQ0]; · iexact HQ0
    isplitl [HW0]; · iexact HW0
    isplitl [HS]; · iexact HS
    iexact HP0
  iintro ⟨HQ0, HW0, HS, HP0⟩
  iapply (Entails.of_eq (wp_bind _ _ _ _ _ _).symm)
  iapply (qStep c U W Ws Hs Cv 0 1 1) $$ [HQ1 HW0 HS HP1]
  · isplitl [HQ1]; · iexact HQ1
    isplitl [HW0]; · iexact HW0
    isplitl [HS]; · iexact HS
    iexact HP1
  iintro ⟨HQ1, HW0, HS, HP1⟩
  iapply (Entails.of_eq (wp_bind _ _ _ _ _ _).symm)
  iapply (uArrive c U 2) $$ [HU2 HO]
  · isplitl [HU2]; · iexact HU2
    iexact HO
  iintro ⟨HU2, HO⟩
  iapply (Entails.of_eq (wp_bind _ _ _ _ _ _).symm)
  iapply (quant c U W Ws Hs Cv 2 2 rfl) $$ [HU2 HQ2 HB]
  · isplitl [HU2]; · iexact HU2
    isplitl [HQ2]; · iexact HQ2
    iexact HB
  iintro ⟨HU2, HQ2, HS2, HB⟩
  ihave HZ0 := (Entails.of_eq (z3_eq c 0)) $$ HZ0
  icases HZ0 with ⟨HZ00, HZ01, HZ02⟩
  iapply (Entails.of_eq (wp_bind _ _ _ _ _ _).symm)
  iapply (zPost c U W Ws Hs Cv 0 0 0 [] 3 5 rfl rfl) $$ [HS HP0 HL HZ00 HB]
  · isplitl [HS]; · iexact HS
    isplitl [HP0]; · iexact HP0
    isplitl [HL]; · iexact HL
    isplitl [HZ00]; · iexact HZ00
    iexact HB
  iintro ⟨HS, HP0, HL, HB⟩
  iapply (Entails.of_eq (wp_bind _ _ _ _ _ _).symm)
  iapply (zStep c U W Ws Hs Cv 0 1 1) $$ [HQ1 HW0 HS HP1]
  · isplitl [HQ1]; · iexact HQ1
    isplitl [HW0]; · iexact HW0
    isplitl [HS]; · iexact HS
    iexact HP1
  iintro ⟨HQ1, HW0, HS, HP1⟩
  iapply (Entails.of_eq (wp_bind _ _ _ _ _ _).symm)
  iapply (qStep c U W Ws Hs Cv 0 2 0) $$ [HQ2 HW0 HS HP0]
  · isplitl [HQ2]; · iexact HQ2
    isplitl [HW0]; · iexact HW0
    isplitl [HS]; · iexact HS
    iexact HP0
  iintro ⟨HQ2, HW0, HS, HP0⟩
  iapply (Entails.of_eq (wp_bind _ _ _ _ _ _).symm)
  iapply (wArrive c W 1) $$ [HW1 HO]
  · isplitl [HW1]; · iexact HW1
    iexact HO
  iintro ⟨HW1, HO⟩
  iapply (Entails.of_eq (wp_bind _ _ _ _ _ _).symm)
  iapply (tileEnd_spec c U W Ws Hs Cv 0 0 1 _ 5 7 rfl rfl) $$ [HQ2 HW0 HS HP0 HP1 HL HZ01 HB]
  · isplitl [HQ2]; · iexact HQ2
    isplitl [HW0]; · iexact HW0
    isplitl [HS]; · iexact HS
    isplitl [HP0]; · iexact HP0
    isplitl [HP1]; · iexact HP1
    isplitl [HL]; · iexact HL
    isplitl [HZ01]; · iexact HZ01
    iexact HB
  iintro ⟨HQ2, HW0, HS, HP0, HP1, HL, HB⟩
  iapply (Entails.of_eq (wp_bind _ _ _ _ _ _).symm)
  iapply (qStep c U W Ws Hs Cv 1 0 1) $$ [HQ0 HW1 HS HP1]
  · isplitl [HQ0]; · iexact HQ0
    isplitl [HW1]; · iexact HW1
    isplitl [HS]; · iexact HS
    iexact HP1
  iintro ⟨HQ0, HW1, HS, HP1⟩
  iapply (Entails.of_eq (wp_bind _ _ _ _ _ _).symm)
  iapply (zPost c U W Ws Hs Cv 0 2 0 _ 7 9 rfl rfl) $$ [HS HP0 HL HZ02 HB]
  · isplitl [HS]; · iexact HS
    isplitl [HP0]; · iexact HP0
    isplitl [HL]; · iexact HL
    isplitl [HZ02]; · iexact HZ02
    iexact HB
  iintro ⟨HS, HP0, HL, HB⟩
  ihave HC := (carry_intro c U W Ws Hs Cv 1 1 0 (zs3 0 []) 9) $$ [HQ0 HQ1 HQ2 HW1 HS HP1 HP0 HL HB]
  · isplitl [HQ0]; · iexact HQ0
    isplitl [HQ1]; · iexact HQ1
    isplitl [HQ2]; · iexact HQ2
    isplitl [HW1]; · iexact HW1
    isplitl [HS]; · iexact HS
    isplitl [HP1]; · iexact HP1
    isplitl [HP0]; · iexact HP0
    isplitl [HL]; · iexact HL
    iexact HB
  iapply (tile_spec c U W Ws Hs Cv 1 2 1 0 _ 9 15 rfl rfl) $$ [HC HZ1 HW2 HO]
  · isplitl [HC]; · iexact HC
    isplitl [HZ1]; · iexact HZ1
    isplitl [HW2]; · iexact HW2
    iexact HO
  iintro ⟨HC, HW1, HO⟩
  iapply (tile_spec c U W Ws Hs Cv 2 3 0 1 _ 15 21 rfl rfl) $$ [HC HZ2 HW3 HO]
  · isplitl [HC]; · iexact HC
    isplitl [HZ2]; · iexact HZ2
    isplitl [HW3]; · iexact HW3
    iexact HO
  iintro ⟨HC, HW2, HO⟩
  iapply (tile_spec c U W Ws Hs Cv 3 4 1 0 _ 21 27 rfl rfl) $$ [HC HZ3 HW4 HO]
  · isplitl [HC]; · iexact HC
    isplitl [HZ3]; · iexact HZ3
    isplitl [HW4]; · iexact HW4
    iexact HO
  iintro ⟨HC, HW3, HO⟩
  iapply (tile_spec c U W Ws Hs Cv 4 5 0 1 _ 27 33 rfl rfl) $$ [HC HZ4 HW5 HO]
  · isplitl [HC]; · iexact HC
    isplitl [HZ4]; · iexact HZ4
    isplitl [HW5]; · iexact HW5
    iexact HO
  iintro ⟨HC, HW4, HO⟩
  unfold Carry Q3
  icases HC with ⟨⟨HQ0, HQ1, HQ2⟩, HW5, HS, HP1, HP0, HL, HB⟩
  ihave HZ5 := (Entails.of_eq (z3_eq c 5)) $$ HZ5
  icases HZ5 with ⟨HZ50, HZ51, HZ52⟩
  iapply (Entails.of_eq (wp_bind _ _ _ _ _ _).symm)
  iapply (tileSteps_spec c U W Ws Hs Cv 5 1 0 _ 33 35 rfl rfl) $$ [HQ0 HQ1 HQ2 HW5 HS HP1 HP0 HL HZ50 HB]
  · isplitl [HQ0]; · iexact HQ0
    isplitl [HQ1]; · iexact HQ1
    isplitl [HQ2]; · iexact HQ2
    isplitl [HW5]; · iexact HW5
    isplitl [HS]; · iexact HS
    isplitl [HP1]; · iexact HP1
    isplitl [HP0]; · iexact HP0
    isplitl [HL]; · iexact HL
    isplitl [HZ50]; · iexact HZ50
    iexact HB
  iintro ⟨HQ0, HQ1, HQ2, HW5, HS, HP1, HP0, HL, HB⟩
  iapply (Entails.of_eq (wp_bind _ _ _ _ _ _).symm)
  iapply (tileEnd_spec c U W Ws Hs Cv 5 1 0 _ 35 37 rfl rfl) $$ [HQ2 HW5 HS HP1 HP0 HL HZ51 HB]
  · isplitl [HQ2]; · iexact HQ2
    isplitl [HW5]; · iexact HW5
    isplitl [HS]; · iexact HS
    isplitl [HP1]; · iexact HP1
    isplitl [HP0]; · iexact HP0
    isplitl [HL]; · iexact HL
    isplitl [HZ51]; · iexact HZ51
    iexact HB
  iintro ⟨HQ2, HW5, HS, HP1, HP0, HL, HB⟩
  iapply (Entails.of_eq (wp_bind _ _ _ _ _ _).symm)
  iapply (zPost c U W Ws Hs Cv 5 2 1 _ 37 39 rfl rfl) $$ [HS HP1 HL HZ52 HB]
  · isplitl [HS]; · iexact HS
    isplitl [HP1]; · iexact HP1
    isplitl [HL]; · iexact HL
    isplitl [HZ52]; · iexact HZ52
    iexact HB
  iintro ⟨HS, HP1, HL, HB⟩
  unfold ZS
  ihave HL := (part_done c vZs Finset.univ (specZS U W Ws) _ cover_zs) $$ HL
  iapply (Entails.of_eq (wp_bind _ _ _ _ _ _).symm)
  iapply (zsStart_spec c U W Ws) $$ [HL HD Hz]
  · isplitl [HL]; · iexact HL
    isplitl [HD]; · iexact HD
    iexact Hz
  iintro HE
  iapply (Entails.of_eq (wp_bind _ _ _ _ _ _).symm)
  iapply (Entails.of_eq (wp_seqAll_cons _ _ _ _ _).symm)
  iapply (Entails.of_eq (wp_bind _ _ _ _ _ _).symm)
  iapply (ucWait_spec c U W Ws Hs Cv 0 0 CU (by omega) (by omega)) $$ [HB HO]
  · isplitl [HB]; · iexact HB
    iexact HO
  iintro ⟨HB, HO⟩
  iapply (usWait_spec c U 0) $$ [HS0 HO]
  · isplitl [HS0]; · iexact HS0
    iexact HO
  iintro ⟨HS0, HO⟩
  iapply (Entails.of_eq (wp_seqAll_cons _ _ _ _ _).symm)
  iapply (Entails.of_eq (wp_bind _ _ _ _ _ _).symm)
  iapply (ucWait_spec c U W Ws Hs Cv 1 CU (CU + CU) (by omega) (by omega)) $$ [HB HO]
  · isplitl [HB]; · iexact HB
    iexact HO
  iintro ⟨HB, HO⟩
  iapply (usWait_spec c U 1) $$ [HS1 HO]
  · isplitl [HS1]; · iexact HS1
    iexact HO
  iintro ⟨HS1, HO⟩
  iapply (Entails.of_eq (wp_seqAll_cons _ _ _ _ _).symm)
  iapply (Entails.of_eq (wp_bind _ _ _ _ _ _).symm)
  iapply (ucWait_spec c U W Ws Hs Cv 2 (CU + CU) (CU + CU + CU) (by omega) (by omega)) $$ [HB HO]
  · isplitl [HB]; · iexact HB
    iexact HO
  iintro ⟨HB, HO⟩
  iapply (usWait_spec c U 2) $$ [HS2 HO]
  · isplitl [HS2]; · iexact HS2
    iexact HO
  iintro ⟨HS2, HO⟩
  iapply (le_wp_ret _ _ _ _ _)
  iapply (Entails.of_eq (wp_bind _ _ _ _ _ _).symm)
  iapply (zcWaits_spec c U W Ws Hs Cv [0, 1, 2, 3, 4, 5] (CU + CU + CU) (by simp; omega)) $$ [HB HO]
  · isplitl [HB]; · iexact HB
    iexact HO
  iintro ⟨HB, HO⟩
  iapply (wp_fupd _ _ _)
  iapply (zsWait_spec c U W Ws) $$ [HE HO]
  · isplitl [HE]; · iexact HE
    iexact HO
  iintro ⟨HE, HO⟩
  imod (ob_collect c U W Ws Hs Cv) $$ HB with ⟨HY, HX, Hv⟩
  imodintro
  iapply HK
  unfold BPost T3 G6
  isplitl [HU0 HU1 HU2]
  · isplitl [HU0]; · iexact HU0
    isplitl [HU1]; · iexact HU1
    iexact HU2
  isplitl [HW0 HW1 HW2 HW3 HW4 HW5]
  · isplitl [HW0]; · iexact HW0
    isplitl [HW1]; · iexact HW1
    isplitl [HW2]; · iexact HW2
    isplitl [HW3]; · iexact HW3
    isplitl [HW4]; · iexact HW4
    iexact HW5
  isplitl [HQ0 HQ1 HQ2]
  · isplitl [HQ0]; · iexact HQ0
    isplitl [HQ1]; · iexact HQ1
    iexact HQ2
  isplitl [HS]; · iexact HS
  isplitl [HP0]; · iexact HP0
  isplitl [HP1]; · iexact HP1
  isplitl [HE]; · iexact HE
  isplitl [HS0 HS1 HS2]
  · isplitl [HS0]; · iexact HS0
    isplitl [HS1]; · iexact HS1
    iexact HS2
  isplitl [HY]; · iexact HY
  isplitl [HX]; · iexact HX
  isplitl [Hv]; · iexact Hv
  iexact HO

end

end Cert.Kernel.Hand

end
-- ==== Proof.Split.lean ====
/-
  Hand-written, untrusted. Whole buffers against the parts the body works on.
-/
module

public import proofs.«01_k».proof.Proof.Body

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (c : Dev nD)

/-! ## A buffer and its parts -/

theorem pt3 (b : Ref sig .tc) (K : Fin 3 → Finset b.ty.Idx) (hc : ∀ i, ∃ t, i ∈ K t) (hd : ∀ t t', t ≠ t' → Disjoint (K t) (K t'))
    (S : Finset b.ty.Idx) (hS : S = Finset.univ) (q : PosShare TreeShare) (f : BufAt F c b) : Pt c b S q f = T3 fun t => Pt c b (K t) q f := by
  have e : S = (Finset.univ : Finset (Fin 3)).biUnion K := by
    rw [hS]; symm; rw [Finset.eq_univ_iff_forall]; intro i; obtain ⟨t, ht⟩ := hc i; exact Finset.mem_biUnion.mpr ⟨t, Finset.mem_univ _, ht⟩
  rw [e]
  unfold Pt
  rw [pointsTo_biUnion _ _ (fun t _ t' _ h => hd t t' h), BI.bigSep_univ_eq_bigSepL [(0 : Fin 3), 1, 2] (by decide) (by decide)]
  rfl

theorem pt18 (b : Ref sig .tc) (K : Fin 6 → Fin 3 → Finset b.ty.Idx) (hc : ∀ i, ∃ j t, i ∈ K j t)
    (hd : ∀ j t j' t', (j ≠ j' ∨ t ≠ t') → Disjoint (K j t) (K j' t')) (q : PosShare TreeShare) (f : BufAt F c b) :
    Pt c b Finset.univ q f = G6 fun j => T3 fun t => Pt c b (K j t) q f := by
  have e : (Finset.univ : Finset b.ty.Idx) = (Finset.univ : Finset (Fin 6)).biUnion fun j => (Finset.univ : Finset (Fin 3)).biUnion (K j) := by
    symm; rw [Finset.eq_univ_iff_forall]; intro i; obtain ⟨j, t, ht⟩ := hc i
    exact Finset.mem_biUnion.mpr ⟨j, Finset.mem_univ _, Finset.mem_biUnion.mpr ⟨t, Finset.mem_univ _, ht⟩⟩
  have e3 : ∀ j, Pt c b ((Finset.univ : Finset (Fin 3)).biUnion (K j)) q f = T3 fun t => Pt c b (K j t) q f := by
    intro j
    unfold Pt
    rw [pointsTo_biUnion _ _ (fun t _ t' _ h => hd j t j t' (Or.inr h)), BI.bigSep_univ_eq_bigSepL [(0 : Fin 3), 1, 2] (by decide) (by decide)]
    rfl
  rw [e]
  unfold Pt
  rw [pointsTo_biUnion _ _ (fun j _ j' _ h => by
      rw [Finset.disjoint_biUnion_left]; intro t _; rw [Finset.disjoint_biUnion_right]; intro t' _; exact hd j t j' t' (Or.inl h)),
    BI.bigSep_univ_eq_bigSepL [(0 : Fin 6), 1, 2, 3, 4, 5] (by decide) (by decide)]
  simp only [← e3]
  rfl

theorem any3 (b : Ref sig .tc) (K : Fin 3 → Finset b.ty.Idx) (hc : ∀ i, ∃ t, i ∈ K t) (hd : ∀ t t', t ≠ t' → Disjoint (K t) (K t')) :
    Any F c b Finset.univ ⊢ T3 fun t => Any F c b (K t) := by
  unfold Any
  iintro ⟨%f, H⟩
  iapply (T3_mono fun t => pt_any c b (K t) f)
  iapply (Entails.of_eq (pt3 c b K hc hd Finset.univ rfl fullShare f)) $$ H

theorem any18 (b : Ref sig .tc) (K : Fin 6 → Fin 3 → Finset b.ty.Idx) (hc : ∀ i, ∃ j t, i ∈ K j t)
    (hd : ∀ j t j' t', (j ≠ j' ∨ t ≠ t') → Disjoint (K j t) (K j' t')) :
    Any F c b Finset.univ ⊢ G6 fun j => T3 fun t => Any F c b (K j t) := by
  unfold Any
  iintro ⟨%f, H⟩
  iapply (G6_mono fun j => T3_mono fun t => pt_any c b (K j t) f)
  iapply (Entails.of_eq (pt18 c b K hc hd fullShare f)) $$ H

/-! ## The parts -/

theorem ne3 {t t' : Fin 3} (h : t ≠ t') : t.val < t'.val ∨ t'.val < t.val := by omega

theorem slab_cover (i : S3x640x1536.Idx) : ∃ t : Fin 3, i ∈ (slab t).set := by
  have h0 : (i 0).val < 3 := (i 0).isLt
  have h1 : (i 1).val < 640 := (i 1).isLt
  have h2 : (i 2).val < 1536 := (i 2).isLt
  refine ⟨⟨(i 0).val, h0⟩, Rect.mem_set_unit.mpr fun a => ?_⟩
  fin_cases a
  · show (i 0).val ≤ (i 0).val ∧ (i 0).val < (i 0).val + 1; omega
  · show 0 ≤ (i 1).val ∧ (i 1).val < 0 + 640; omega
  · show 0 ≤ (i 2).val ∧ (i 2).val < 0 + 1536; omega
theorem slab_disj (t t' : Fin 3) (h : t ≠ t') : Disjoint (slab t).set (slab t').set :=
  Rect.unit_disjoint 0 (by show t.val + 1 ≤ t'.val ∨ t'.val + 1 ≤ t.val; have := ne3 h; omega)

theorem srSlab_cover (i : S3x640x128.Idx) : ∃ t : Fin 3, i ∈ (srSlab t).set := by
  have h0 : (i 0).val < 3 := (i 0).isLt
  have h1 : (i 1).val < 640 := (i 1).isLt
  have h2 : (i 2).val < 128 := (i 2).isLt
  refine ⟨⟨(i 0).val, h0⟩, Rect.mem_set_unit.mpr fun a => ?_⟩
  fin_cases a
  · show (i 0).val ≤ (i 0).val ∧ (i 0).val < (i 0).val + 1; omega
  · show 0 ≤ (i 1).val ∧ (i 1).val < 0 + 640; omega
  · show 0 ≤ (i 2).val ∧ (i 2).val < 0 + 128; omega
theorem srSlab_disj (t t' : Fin 3) (h : t ≠ t') : Disjoint (srSlab t).set (srSlab t').set :=
  Rect.unit_disjoint 0 (by show t.val + 1 ≤ t'.val ∨ t'.val + 1 ≤ t.val; have := ne3 h; omega)

theorem soSlab_cover (i : S3x5x128.Idx) : ∃ t : Fin 3, i ∈ (soSlab t).set := by
  have h0 : (i 0).val < 3 := (i 0).isLt
  have h1 : (i 1).val < 5 := (i 1).isLt
  have h2 : (i 2).val < 128 := (i 2).isLt
  refine ⟨⟨(i 0).val, h0⟩, Rect.mem_set_unit.mpr fun a => ?_⟩
  fin_cases a
  · show (i 0).val ≤ (i 0).val ∧ (i 0).val < (i 0).val + 1; omega
  · show 0 ≤ (i 1).val ∧ (i 1).val < 0 + 5; omega
  · show 0 ≤ (i 2).val ∧ (i 2).val < 0 + 128; omega
theorem soSlab_disj (t t' : Fin 3) (h : t ≠ t') : Disjoint (soSlab t).set (soSlab t').set :=
  Rect.unit_disjoint 0 (by show t.val + 1 ≤ t'.val ∨ t'.val + 1 ≤ t.val; have := ne3 h; omega)

theorem wTile_cover (i : S6x3x1536x256.Idx) : ∃ (j : Fin 6) (t : Fin 3), i ∈ (wTile j t).set := by
  have h0 : (i 0).val < 6 := (i 0).isLt
  have h1 : (i 1).val < 3 := (i 1).isLt
  have h2 : (i 2).val < 1536 := (i 2).isLt
  have h3 : (i 3).val < 256 := (i 3).isLt
  refine ⟨⟨(i 0).val, h0⟩, ⟨(i 1).val, h1⟩, Rect.mem_set_unit.mpr fun a => ?_⟩
  fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 1536; omega
  · show 0 ≤ (i 3).val ∧ (i 3).val < 0 + 256; omega
theorem wTile_disj (j : Fin 6) (t : Fin 3) (j' : Fin 6) (t' : Fin 3) (h : j ≠ j' ∨ t ≠ t') : Disjoint (wTile j t).set (wTile j' t').set := by
  rcases h with h | h
  · exact Rect.unit_disjoint 0 (by show j.val + 1 ≤ j'.val ∨ j'.val + 1 ≤ j.val; omega)
  · exact Rect.unit_disjoint 1 (by show t.val + 1 ≤ t'.val ∨ t'.val + 1 ≤ t.val; omega)

theorem whTile_cover (i : S1536x4608.Idx) : ∃ (j : Fin 6) (t : Fin 3), i ∈ (whTile j t).set := by
  have h0 : (i 0).val < 1536 := (i 0).isLt
  have h1 : (i 1).val < 4608 := (i 1).isLt
  refine ⟨⟨(i 1).val % 1536 / 256, by omega⟩, ⟨(i 1).val / 1536, by omega⟩, Rect.mem_set_unit.mpr fun a => ?_⟩
  fin_cases a
  · show 0 ≤ (i 0).val ∧ (i 0).val < 0 + 1536; omega
  · show 1536 * ((i 1).val / 1536) + 256 * ((i 1).val % 1536 / 256) ≤ (i 1).val ∧ (i 1).val < 1536 * ((i 1).val / 1536) + 256 * ((i 1).val % 1536 / 256) + 256; omega
theorem whTile_disj (j : Fin 6) (t : Fin 3) (j' : Fin 6) (t' : Fin 3) (h : j ≠ j' ∨ t ≠ t') : Disjoint (whTile j t).set (whTile j' t').set :=
  Rect.unit_disjoint 1 (by
    show 1536 * t.val + 256 * j.val + 256 ≤ 1536 * t'.val + 256 * j'.val ∨ 1536 * t'.val + 256 * j'.val + 256 ≤ 1536 * t.val + 256 * j.val
    have : j.val ≠ j'.val ∨ t.val ≠ t'.val := h.imp (fun h e => h (Fin.ext e)) (fun h e => h (Fin.ext e))
    omega)

theorem zcTile_cover (i : S3x640x1536.Idx) : ∃ (j : Fin 6) (t : Fin 3), i ∈ (zcTile t j).set := by
  have h0 : (i 0).val < 3 := (i 0).isLt
  have h1 : (i 1).val < 640 := (i 1).isLt
  have h2 : (i 2).val < 1536 := (i 2).isLt
  refine ⟨⟨(i 2).val / 256, by omega⟩, ⟨(i 0).val, h0⟩, Rect.mem_set_unit.mpr fun a => ?_⟩
  fin_cases a
  · show (i 0).val ≤ (i 0).val ∧ (i 0).val < (i 0).val + 1; omega
  · show 0 ≤ (i 1).val ∧ (i 1).val < 0 + 640; omega
  · show 256 * ((i 2).val / 256) ≤ (i 2).val ∧ (i 2).val < 256 * ((i 2).val / 256) + 256; omega
theorem zcTile_disj (j : Fin 6) (t : Fin 3) (j' : Fin 6) (t' : Fin 3) (h : j ≠ j' ∨ t ≠ t') : Disjoint (zcTile t j).set (zcTile t' j').set := by
  rcases h with h | h
  · exact Rect.unit_disjoint 2 (by show 256 * j.val + 256 ≤ 256 * j'.val ∨ 256 * j'.val + 256 ≤ 256 * j.val; omega)
  · exact Rect.unit_disjoint 0 (by show t.val + 1 ≤ t'.val ∨ t'.val + 1 ≤ t.val; omega)

theorem zTile_union : (zTile 0).set ∪ (zTile 1).set = (Finset.univ : Finset S2x640x256.Idx) := by
  rw [Finset.eq_univ_iff_forall]
  intro i
  have h0 : (i 0).val < 2 := (i 0).isLt
  have h1 : (i 1).val < 640 := (i 1).isLt
  have h2 : (i 2).val < 256 := (i 2).isLt
  rcases (show (i 0).val = 0 ∨ (i 0).val = 1 by omega) with e | e
  · refine Finset.mem_union_left _ (Rect.mem_set_unit.mpr fun a => ?_)
    fin_cases a
    · show 0 ≤ (i 0).val ∧ (i 0).val < 0 + 1; omega
    · show 0 ≤ (i 1).val ∧ (i 1).val < 0 + 640; omega
    · show 0 ≤ (i 2).val ∧ (i 2).val < 0 + 256; omega
  · refine Finset.mem_union_right _ (Rect.mem_set_unit.mpr fun a => ?_)
    fin_cases a
    · show 1 ≤ (i 0).val ∧ (i 0).val < 1 + 1; omega
    · show 0 ≤ (i 1).val ∧ (i 1).val < 0 + 640; omega
    · show 0 ≤ (i 2).val ∧ (i 2).val < 0 + 256; omega
theorem zTile_disj : Disjoint (zTile 0).set (zTile 1).set :=
  Rect.unit_disjoint 0 (Or.inl (by show 0 + 1 ≤ 1; omega))

/-! ## What the body needs, from whole buffers, and back -/

variable (U : Vec F S3x640x1536 .bf16) (W : Vec F S1536x4608 .fp8e4m3) (Ws : Vec F S1x4608 .f32) (Hs : Vec F S1x1536 .f32) (Cv : Vec F S3x640x1536 .f32)

/-- A counter at zero. -/
abbrev Z0 (s : DmaSem sig) : sProp (𝕄 F) := semVal ((c : Thread nD τ), .dma s) 0

theorem two_in_5 : Any F c cc0_scratch5 Finset.univ ⊢ iprop(Any F c cc0_scratch5 (zTile 0).set ∗ Any F c cc0_scratch5 (zTile 1).set) := by
  iintro H
  unfold Any
  icases H with ⟨%f, H⟩
  ihave H := (Entails.of_eq (show Pt c cc0_scratch5 Finset.univ fullShare f = Pt c cc0_scratch5 ((zTile 0).set ∪ (zTile 1).set) fullShare f from by rw [zTile_union])) $$ H
  ihave H := (pointsTo_union zTile_disj).1 $$ H
  icases H with ⟨H0, H1⟩
  isplitl [H0]
  · iexists f; iexact H0
  iexists f; iexact H1

theorem two_out_5 : iprop(Any F c cc0_scratch5 (zTile 0).set ∗ Any F c cc0_scratch5 (zTile 1).set) ⊢ Any F c cc0_scratch5 Finset.univ := by
  unfold Any
  iintro ⟨⟨%f, H0⟩, ⟨%g, H1⟩⟩
  ihave H := (pointsTo_join (ℓ := (c : Thread nD τ).loc cc0_scratch5) (q := fullShare) (f := f) (g := g) zTile_disj) $$ [H0 H1]
  · isplitl [H0]; · iexact H0
    iexact H1
  iexists _
  iapply (Entails.of_eq (show Pt c cc0_scratch5 ((zTile 0).set ∪ (zTile 1).set) fullShare ((zTile 1).set.piecewise g f) = Pt c cc0_scratch5 Finset.univ fullShare ((zTile 1).set.piecewise g f) from by rw [zTile_union])) $$ H

theorem two_in_6 : Any F c cc0_scratch6 Finset.univ ⊢ iprop(Any F c cc0_scratch6 (zTile 0).set ∗ Any F c cc0_scratch6 (zTile 1).set) := by
  iintro H
  unfold Any
  icases H with ⟨%f, H⟩
  ihave H := (Entails.of_eq (show Pt c cc0_scratch6 Finset.univ fullShare f = Pt c cc0_scratch6 ((zTile 0).set ∪ (zTile 1).set) fullShare f from by rw [zTile_union])) $$ H
  ihave H := (pointsTo_union zTile_disj).1 $$ H
  icases H with ⟨H0, H1⟩
  isplitl [H0]
  · iexists f; iexact H0
  iexists f; iexact H1

theorem two_out_6 : iprop(Any F c cc0_scratch6 (zTile 0).set ∗ Any F c cc0_scratch6 (zTile 1).set) ⊢ Any F c cc0_scratch6 Finset.univ := by
  unfold Any
  iintro ⟨⟨%f, H0⟩, ⟨%g, H1⟩⟩
  ihave H := (pointsTo_join (ℓ := (c : Thread nD τ).loc cc0_scratch6) (q := fullShare) (f := f) (g := g) zTile_disj) $$ [H0 H1]
  · isplitl [H0]; · iexact H0
    iexact H1
  iexists _
  iapply (Entails.of_eq (show Pt c cc0_scratch6 ((zTile 0).set ∪ (zTile 1).set) fullShare ((zTile 1).set.piecewise g f) = Pt c cc0_scratch6 Finset.univ fullShare ((zTile 1).set.piecewise g f) from by rw [zTile_union])) $$ H

theorem planes_in : iprop(Any F c cc0_scratch5 Finset.univ ∗ Any F c cc0_scratch6 Finset.univ) ⊢ iprop(Plane F c 0 ∗ Plane F c 1) := by
  unfold Plane
  iintro ⟨H5, H6⟩
  ihave H5 := (two_in_5 c) $$ H5
  icases H5 with ⟨A0, A1⟩
  ihave H6 := (two_in_6 c) $$ H6
  icases H6 with ⟨B0, B1⟩
  isplitl [A0 B0]
  · isplitl [A0]; · iexact A0
    iexact B0
  isplitl [A1]; · iexact A1
  iexact B1

theorem planes_out : iprop(Plane F c 0 ∗ Plane F c 1) ⊢ iprop(Any F c cc0_scratch5 Finset.univ ∗ Any F c cc0_scratch6 Finset.univ) := by
  unfold Plane
  iintro ⟨⟨A0, B0⟩, ⟨A1, B1⟩⟩
  isplitl [A0 A1]
  · iapply (two_out_5 c)
    isplitl [A0]; · iexact A0
    iexact A1
  iapply (two_out_6 c)
  isplitl [B0]; · iexact B0
  iexact B1

theorem u_in : iprop(Pt c main_arg0 Finset.univ fullShare U ∗ Any F c cc0_scratch0 Finset.univ ∗ T3 fun b => Z0 c (uSem b)) ⊢ T3 (UPre c U) := by
  iintro ⟨HA, HV, Hs⟩
  ihave HA := (Entails.of_eq (pt3 c main_arg0 (fun t => (slab t).set) slab_cover slab_disj Finset.univ rfl fullShare U)) $$ HA
  ihave HV := (any3 c cc0_scratch0 (fun t => (slab t).set) slab_cover slab_disj) $$ HV
  iapply (T3_sep _ _)
  isplitl [HA]; · iexact HA
  iapply (T3_sep _ _)
  isplitl [HV]; · iexact HV
  iexact Hs

theorem u_out : T3 (UPost c U) ⊢ iprop(Pt c main_arg0 Finset.univ fullShare U ∗ Any F c cc0_scratch0 Finset.univ ∗ T3 fun b => Z0 c (uSem b)) := by
  iintro H
  ihave H := (show T3 (UPost c U) ⊢ _ from T3_unsep (fun b => Pt c cc0_scratch0 (slab b).set fullShare U) (fun b => iprop(Pt c main_arg0 (slab b).set fullShare U ∗ Z0 c (uSem b)))) $$ H
  icases H with ⟨HV, H⟩
  ihave H := (T3_unsep _ _) $$ H
  icases H with ⟨HA, Hs⟩
  isplitl [HA]
  · iapply (Entails.of_eq (pt3 c main_arg0 (fun t => (slab t).set) slab_cover slab_disj Finset.univ rfl fullShare U).symm) $$ HA
  isplitl [HV]
  · iapply (pt_any c cc0_scratch0 Finset.univ U)
    iapply (Entails.of_eq (pt3 c cc0_scratch0 (fun t => (slab t).set) slab_cover slab_disj Finset.univ rfl fullShare U).symm) $$ HV
  iexact Hs

theorem w_in : iprop(Pt c main_arg1 Finset.univ fullShare W ∗ Any F c cc0_scratch1 Finset.univ ∗ G6 fun j => Z0 c (wSem j)) ⊢ G6 (WAll c W) := by
  have e : ∀ j, iprop((T3 (WPre c W j)) ∗ Z0 c (wSem j)) ⊢ WAll c W j := by
    intro j; unfold T3 WAll
    iintro ⟨⟨H0, H1, H2⟩, H⟩
    isplitl [H0]; · iexact H0
    isplitl [H1]; · iexact H1
    isplitl [H2]; · iexact H2
    iexact H
  iintro ⟨HA, HV, Hs⟩
  ihave HA := (Entails.of_eq (pt18 c main_arg1 (fun j t => (whTile j t).set) whTile_cover whTile_disj fullShare W)) $$ HA
  ihave HV := (any18 c cc0_scratch1 (fun j t => (wTile j t).set) wTile_cover wTile_disj) $$ HV
  iapply (G6_mono e)
  iapply (G6_sep _ _)
  isplitl [HA HV]
  · iapply (G6_mono fun j => T3_sep (fun t => Pt c main_arg1 (whTile j t).set fullShare W) (fun t => Any F c cc0_scratch1 (wTile j t).set))
    iapply (G6_sep _ _)
    isplitl [HA]; · iexact HA
    iexact HV
  iexact Hs

theorem w_out : G6 (WPost c W) ⊢ iprop(Pt c main_arg1 Finset.univ fullShare W ∗ Any F c cc0_scratch1 Finset.univ ∗ G6 fun j => Z0 c (wSem j)) := by
  have e : ∀ j, WPost c W j ⊢ iprop((T3 (WGot c W j)) ∗ Z0 c (wSem j)) := by
    intro j; unfold T3 WPost
    iintro ⟨H0, H1, H2, H⟩
    isplitl [H0 H1 H2]
    · isplitl [H0]; · iexact H0
      isplitl [H1]; · iexact H1
      iexact H2
    iexact H
  iintro H
  ihave H := (G6_mono e) $$ H
  ihave H := (G6_unsep _ _) $$ H
  icases H with ⟨H, Hs⟩
  ihave H := (show (G6 fun j => T3 (WGot c W j)) ⊢ _ from G6_mono fun j => T3_unsep (fun t => Pt c cc0_scratch1 (wTile j t).set fullShare (wV W)) (fun t => Pt c main_arg1 (whTile j t).set fullShare W)) $$ H
  ihave H := (G6_unsep _ _) $$ H
  icases H with ⟨HV, HA⟩
  isplitl [HA]
  · iapply (Entails.of_eq (pt18 c main_arg1 (fun j t => (whTile j t).set) whTile_cover whTile_disj fullShare W).symm) $$ HA
  isplitl [HV]
  · iapply (pt_any c cc0_scratch1 Finset.univ (wV W))
    iapply (Entails.of_eq (pt18 c cc0_scratch1 (fun j t => (wTile j t).set) wTile_cover wTile_disj fullShare (wV W)).symm) $$ HV
  iexact Hs

theorem q_in : iprop(Any F c cc0_scratch2 Finset.univ ∗ Any F c cc0_scratch3 Finset.univ ∗ Any F c cc0_scratch4 Finset.univ ∗ Any F c main_v4_1 Finset.univ
    ∗ Any F c main_v4_2 Finset.univ ∗ T3 fun b => Z0 c (usSem b)) ⊢ T3 (QPre c) := by
  iintro ⟨H2, H3, H4, HC, HD, Hs⟩
  ihave H2 := (any3 c cc0_scratch2 (fun t => (slab t).set) slab_cover slab_disj) $$ H2
  ihave H3 := (any3 c cc0_scratch3 (fun t => (srSlab t).set) srSlab_cover srSlab_disj) $$ H3
  ihave H4 := (any3 c cc0_scratch4 (fun t => (soSlab t).set) soSlab_cover soSlab_disj) $$ H4
  ihave HC := (any3 c main_v4_1 (fun t => (slab t).set) slab_cover slab_disj) $$ HC
  ihave HD := (any3 c main_v4_2 (fun t => (soSlab t).set) soSlab_cover soSlab_disj) $$ HD
  iapply (T3_sep _ _)
  isplitl [H2]; · iexact H2
  iapply (T3_sep _ _)
  isplitl [H3]; · iexact H3
  iapply (T3_sep _ _)
  isplitl [H4]; · iexact H4
  iapply (T3_sep _ _)
  isplitl [HC]; · iexact HC
  iapply (T3_sep _ _)
  isplitl [HD]; · iexact HD
  iexact Hs

theorem q_out : iprop(T3 (QGot c U) ∗ T3 (SPost c U) ∗ T3 (UCPost c U)) ⊢ iprop(Any F c cc0_scratch2 Finset.univ ∗ Any F c cc0_scratch3 Finset.univ ∗ Any F c cc0_scratch4 Finset.univ
    ∗ Pt c main_v4_1 Finset.univ fullShare (specUC U) ∗ Pt c main_v4_2 Finset.univ fullShare (specSO U) ∗ T3 fun b => Z0 c (usSem b)) := by
  iintro ⟨HQ, HS, HC⟩
  ihave HQ := (show T3 (QGot c U) ⊢ _ from T3_unsep (fun b => Pt c cc0_scratch2 (slab b).set fullShare.left (specUC U)) (fun b => Pt c cc0_scratch3 (srSlab b).set fullShare (specSR U))) $$ HQ
  icases HQ with ⟨HL, H3⟩
  ihave HS := (show T3 (SPost c U) ⊢ _ from T3_unsep (fun b => Pt c main_v4_2 (soSlab b).set fullShare (specSO U)) (fun b => iprop(Pt c cc0_scratch4 (soSlab b).set fullShare (specSO U) ∗ Z0 c (usSem b)))) $$ HS
  icases HS with ⟨HD, HS⟩
  ihave HS := (T3_unsep _ _) $$ HS
  icases HS with ⟨H4, Hs⟩
  ihave HC := (show T3 (UCPost c U) ⊢ _ from T3_unsep (fun b => Pt c main_v4_1 (slab b).set fullShare (specUC U)) (fun b => Pt c cc0_scratch2 (slab b).set fullShare.right (specUC U))) $$ HC
  icases HC with ⟨HC, HR⟩
  ihave HL := (Entails.of_eq (pt3 c cc0_scratch2 (fun t => (slab t).set) slab_cover slab_disj Finset.univ rfl fullShare.left (specUC U)).symm) $$ HL
  ihave HR := (Entails.of_eq (pt3 c cc0_scratch2 (fun t => (slab t).set) slab_cover slab_disj Finset.univ rfl fullShare.right (specUC U)).symm) $$ HR
  isplitl [HL HR]
  · iapply (pt_any c cc0_scratch2 Finset.univ (specUC U))
    iapply (pointsTo_share (PosShare.mem_left_op_right fullShare)).2
    isplitl [HL]; · iexact HL
    iexact HR
  isplitl [H3]
  · iapply (pt_any c cc0_scratch3 Finset.univ (specSR U))
    iapply (Entails.of_eq (pt3 c cc0_scratch3 (fun t => (srSlab t).set) srSlab_cover srSlab_disj Finset.univ rfl fullShare (specSR U)).symm) $$ H3
  isplitl [H4]
  · iapply (pt_any c cc0_scratch4 Finset.univ (specSO U))
    iapply (Entails.of_eq (pt3 c cc0_scratch4 (fun t => (soSlab t).set) soSlab_cover soSlab_disj Finset.univ rfl fullShare (specSO U)).symm) $$ H4
  isplitl [HC]
  · iapply (Entails.of_eq (pt3 c main_v4_1 (fun t => (slab t).set) slab_cover slab_disj Finset.univ rfl fullShare (specUC U)).symm) $$ HC
  isplitl [HD]
  · iapply (Entails.of_eq (pt3 c main_v4_2 (fun t => (soSlab t).set) soSlab_cover soSlab_disj Finset.univ rfl fullShare (specSO U)).symm) $$ HD
  iexact Hs

theorem z_in : iprop(Any F c cc0_scratch7 Finset.univ ∗ Any F c main_v4_3 Finset.univ ∗ Any F c cc0_scratch9 Finset.univ ∗ Any F c main_v4_0 Finset.univ) ⊢ G6 (Z3 F c) := by
  have e : ∀ (j : Fin 6) (b : Fin 3), iprop((Any F c cc0_scratch7 (zcTile b j).set ∗ Any F c main_v4_3 (zcTile b j).set) ∗ (Any F c cc0_scratch9 (zcTile b j).set ∗ Any F c main_v4_0 (zcTile b j).set)) ⊢ ZPre (F := F) c b j := by
    intro j b; unfold ZPre
    iintro ⟨⟨H7, HD⟩, ⟨H9, HY⟩⟩
    isplitl [H7 HD]
    · isplitl [H7]; · iexact H7
      iexact HD
    isplitl [H9]; · iexact H9
    iexact HY
  iintro ⟨H7, HD, H9, HY⟩
  ihave H7 := (any18 c cc0_scratch7 (fun j t => (zcTile t j).set) zcTile_cover zcTile_disj) $$ H7
  ihave HD := (any18 c main_v4_3 (fun j t => (zcTile t j).set) zcTile_cover zcTile_disj) $$ HD
  ihave H9 := (any18 c cc0_scratch9 (fun j t => (zcTile t j).set) zcTile_cover zcTile_disj) $$ H9
  ihave HY := (any18 c main_v4_0 (fun j t => (zcTile t j).set) zcTile_cover zcTile_disj) $$ HY
  iapply (G6_mono fun j => T3_mono (e j))
  iapply (G6_mono fun j => T3_sep (fun b => iprop(Any F c cc0_scratch7 (zcTile b j).set ∗ Any F c main_v4_3 (zcTile b j).set)) (fun b => iprop(Any F c cc0_scratch9 (zcTile b j).set ∗ Any F c main_v4_0 (zcTile b j).set)))
  iapply (G6_sep _ _)
  isplitl [H7 HD]
  · iapply (G6_mono fun j => T3_sep (fun t => Any F c cc0_scratch7 (zcTile t j).set) (fun t => Any F c main_v4_3 (zcTile t j).set))
    iapply (G6_sep _ _)
    isplitl [H7]; · iexact H7
    iexact HD
  iapply (G6_mono fun j => T3_sep (fun t => Any F c cc0_scratch9 (zcTile t j).set) (fun t => Any F c main_v4_0 (zcTile t j).set))
  iapply (G6_sep _ _)
  isplitl [H9]; · iexact H9
  iexact HY

theorem z_out : (G6 fun j => T3 fun b => iprop(ZCPost c U W Ws j b ∗ YPost c U W Ws Hs Cv j b)) ⊢ iprop((Any F c cc0_scratch7 Finset.univ ∗ Pt c main_v4_3 Finset.univ fullShare (specZC U W Ws))
    ∗ Any F c cc0_scratch9 Finset.univ ∗ Pt c main_v4_0 Finset.univ fullShare (specY U W Ws Hs Cv)) := by
  iintro H
  ihave H := (G6_mono fun j => T3_unsep (ZCPost c U W Ws j) (YPost c U W Ws Hs Cv j)) $$ H
  ihave H := (G6_unsep _ _) $$ H
  icases H with ⟨H, HY⟩
  ihave H := (show (G6 fun j => T3 (ZCPost c U W Ws j)) ⊢ _ from G6_mono fun j => T3_unsep (fun t => Pt c main_v4_3 (zcTile t j).set fullShare (specZC U W Ws)) (fun t => Pt c cc0_scratch7 (zcTile t j).set fullShare (specZC U W Ws))) $$ H
  ihave H := (G6_unsep _ _) $$ H
  icases H with ⟨HD, H7⟩
  ihave HY := (show (G6 fun j => T3 (YPost c U W Ws Hs Cv j)) ⊢ _ from G6_mono fun j => T3_unsep (fun t => Pt c main_v4_0 (zcTile t j).set fullShare (specY U W Ws Hs Cv)) (fun t => Pt c cc0_scratch9 (zcTile t j).set fullShare (specY U W Ws Hs Cv))) $$ HY
  ihave HY := (G6_unsep _ _) $$ HY
  icases HY with ⟨HE, H9⟩
  isplitl [H7 HD]
  · isplitl [H7]
    · iapply (pt_any c cc0_scratch7 Finset.univ (specZC U W Ws))
      iapply (Entails.of_eq (pt18 c cc0_scratch7 (fun j t => (zcTile t j).set) zcTile_cover zcTile_disj fullShare (specZC U W Ws)).symm) $$ H7
    iapply (Entails.of_eq (pt18 c main_v4_3 (fun j t => (zcTile t j).set) zcTile_cover zcTile_disj fullShare (specZC U W Ws)).symm) $$ HD
  isplitl [H9]
  · iapply (pt_any c cc0_scratch9 Finset.univ (specY U W Ws Hs Cv))
    iapply (Entails.of_eq (pt18 c cc0_scratch9 (fun j t => (zcTile t j).set) zcTile_cover zcTile_disj fullShare (specY U W Ws Hs Cv)).symm) $$ H9
  iapply (Entails.of_eq (pt18 c main_v4_0 (fun j t => (zcTile t j).set) zcTile_cover zcTile_disj fullShare (specY U W Ws Hs Cv)).symm) $$ HE

end

end Cert.Kernel.Hand

end
-- ==== Proof.BodyEq.lean ====
/-
  Hand-written, untrusted. The printed body is the program of `Steps.lean`.
-/
module

public import proofs.«01_k».proof.Proof.Steps
public import Idealize.ShloMosaic.Lib.Tactic

@[expose] public section

set_option maxRecDepth 65536

noncomputable section

namespace Cert.Kernel.Hand

open Idealize.ShloMosaic Idealize.ShloMosaic.Tactic Idealize.SL.Sem
open Cert.Kernel Cert.Kernel.Gen

variable {F : FTy → Type} [FloatOps F]

/-- The printed body is the restated one. -/
theorem body_eq (h : mWs.IsWhole) (h1 : mHs.IsWhole) (h2 : mCv.IsWhole) : cc0_hyena_fused (F := F) (Memref.whole main_arg0) (Memref.isWhole_whole _) (Memref.whole main_arg1) (Memref.isWhole_whole _) mWs h mHs h1 mCv h2 (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14
    = bodyR := by
  sl_kernel_rfl

end Cert.Kernel.Hand

end
-- ==== Proof.Frame.lean ====
/-
  Hand-written, untrusted. The launch: the program terminates, nothing faults, its arguments end unchanged, every
  semaphore ends at zero, and its five results hold what the specification says.
-/
module

public import proofs.«01_k».proof.Proof.Split
public import proofs.«01_k».proof.Proof.BodyEq
public import proofs.«01_k».proof.Proof.Gen.Kernel.Frame
public import Idealize.ShloMosaic.Lib.Pipeline.FrameSuffixV

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the body owns besides its staged operands -/

/-- The body's own semaphores: the inputs', the weights', the code results', the scale results' and the last one's. -/
abbrev osem0 : Fin 14 → SemLoc sig := fun j => (![.dma (uSem 0), .dma (uSem 1), .dma (uSem 2), .dma (wSem 0), .dma (wSem 1), .dma (wSem 2),
  .dma (wSem 3), .dma (wSem 4), .dma (wSem 5), .dma oSem, .dma (usSem 0), .dma (usSem 1), .dma (usSem 2), .dma zsSem] : Fin 14 → SemLoc sig) j
theorem ownSemFacts0 : Pipeline.OwnSemFacts spec0 osem0 := by decide

/-- The two arguments the body reads in place. -/
def H0 : Finset (Ref sig .tc) := {main_arg0, main_arg1}
/-- The five results the body writes in place. -/
def R0 : Finset (Ref sig .tc) := {main_v4_0, main_v4_1, main_v4_2, main_v4_3, main_v4_4}
theorem H0_sub : H0 ⊆ Pipeline.restRefs sig spec0 := by decide
theorem R0_sub : R0 ⊆ Pipeline.restRefs sig spec0 \ H0 := by decide

section
variable (c : Dev nD)

theorem ownSems_eq : (Pipeline.ownSems0 (Ix := Unit) (Name := ℕ) (U := Pipeline.UD sig nD τ) (Lvl := ℕ) (Val := Elt F) (τ := τ) osem0 c : sProp (𝕄 F))
    = iprop(Z0 c (uSem 0) ∗ Z0 c (uSem 1) ∗ Z0 c (uSem 2) ∗ Z0 c (wSem 0) ∗ Z0 c (wSem 1) ∗ Z0 c (wSem 2) ∗ Z0 c (wSem 3) ∗ Z0 c (wSem 4) ∗ Z0 c (wSem 5)
        ∗ Z0 c oSem ∗ Z0 c (usSem 0) ∗ Z0 c (usSem 1) ∗ Z0 c (usSem 2) ∗ Z0 c zsSem) := by
  rw [Pipeline.ownSems0_eq_of_list c osem0 [0, 1, 2, 3, 4, 5, 6, 7, 8, 9, 10, 11, 12, 13] (by decide) (by decide)]; rfl

theorem readPts_eq (V : (c : Dev nD) → (b : Ref sig .tc) → Buf (Elt F) ((c : Thread nD τ).loc b)) :
    (bigSep H0 (fun b => ((c : Thread nD τ).loc b) ↦{fullShare} V c b) : sProp (𝕄 F))
      = iprop(Pt c main_arg0 Finset.univ fullShare (V c main_arg0) ∗ Pt c main_arg1 Finset.univ fullShare (V c main_arg1)) := by
  rw [BI.bigSep_eq_bigSepL_of_eq [main_arg0, main_arg1] (by decide) (by decide)]; rfl

theorem writtenPts_eq (V : (c : Dev nD) → (b : Ref sig .tc) → Buf (Elt F) ((c : Thread nD τ).loc b)) :
    (bigSep R0 (fun b => ((c : Thread nD τ).loc b) ↦{fullShare} V c b) : sProp (𝕄 F))
      = iprop(Pt c main_v4_0 Finset.univ fullShare (V c main_v4_0) ∗ Pt c main_v4_1 Finset.univ fullShare (V c main_v4_1) ∗ Pt c main_v4_2 Finset.univ fullShare (V c main_v4_2)
          ∗ Pt c main_v4_3 Finset.univ fullShare (V c main_v4_3) ∗ Pt c main_v4_4 Finset.univ fullShare (V c main_v4_4)) := by
  rw [BI.bigSep_eq_bigSepL_of_eq [main_v4_0, main_v4_1, main_v4_2, main_v4_3, main_v4_4] (by decide) (by decide)]; rfl

theorem scratch_eq : (Pipeline.scopedRest (Ix := Unit) (Name := ℕ) (U := Pipeline.UD sig nD τ) (Lvl := ℕ) (Val := Elt F) spec0 c : sProp (𝕄 F))
    = iprop(Any F c cc0_scratch0 Finset.univ ∗ Any F c cc0_scratch1 Finset.univ ∗ Any F c cc0_scratch2 Finset.univ ∗ Any F c cc0_scratch3 Finset.univ
        ∗ Any F c cc0_scratch4 Finset.univ ∗ Any F c cc0_scratch5 Finset.univ ∗ Any F c cc0_scratch6 Finset.univ
        ∗ Any F c cc0_scratch7 Finset.univ ∗ Any F c cc0_scratch8 Finset.univ ∗ Any F c cc0_scratch9 Finset.univ) :=
  scopedRest0_eq c

variable (V G : (c : Dev nD) → (b : Ref sig .tc) → Buf (Elt F) ((c : Thread nD τ).loc b)) (Ws : Vec F S1x4608 .f32) (Hs : Vec F S1x1536 .f32) (Cv : Vec F S3x640x1536 .f32)

theorem enter : iprop(Pipeline.ΦDRV osem0 spec0 H0 R0 V V c ∗ Stg c Ws Hs Cv ∗ Ow c) ⊢ BPre c (V c main_arg0) (V c main_arg1) Ws Hs Cv := by
  unfold Pipeline.ΦDRV BPre
  rw [ownSems_eq, readPts_eq, writtenPts_eq, scratch_eq]
  iintro ⟨⟨⟨S0, S1, S2, S3, S4, S5, S6, S7, S8, S9⟩, ⟨Q0, Q1, Q2, Q3, Q4, Q5, Q6, Q7, Q8, Q9, Q10, Q11, Q12, Q13⟩, ⟨A0, A1⟩, ⟨RY, R0, R1, R2, R3⟩⟩, HS, HO⟩
  isplitl [S0 Q0 Q1 Q2 A0]
  · iapply (u_in c (V c main_arg0))
    isplitl [A0]; · iexact A0
    isplitl [S0]; · iexact S0
    unfold T3
    isplitl [Q0]; · iexact Q0
    isplitl [Q1]; · iexact Q1
    iexact Q2
  isplitl [S1 Q3 Q4 Q5 Q6 Q7 Q8 A1]
  · iapply (w_in c (V c main_arg1))
    isplitl [A1]; · iexact A1
    isplitl [S1]; · iexact S1
    unfold G6
    isplitl [Q3]; · iexact Q3
    isplitl [Q4]; · iexact Q4
    isplitl [Q5]; · iexact Q5
    isplitl [Q6]; · iexact Q6
    isplitl [Q7]; · iexact Q7
    iexact Q8
  isplitl [S2 S3 S4 R0 R1 Q10 Q11 Q12]
  · iapply (q_in c)
    isplitl [S2]; · iexact S2
    isplitl [S3]; · iexact S3
    isplitl [S4]; · iexact S4
    isplitl [R0]; · iapply (pt_any c main_v4_1 Finset.univ _) $$ R0
    isplitl [R1]; · iapply (pt_any c main_v4_2 Finset.univ _) $$ R1
    unfold T3
    isplitl [Q10]; · iexact Q10
    isplitl [Q11]; · iexact Q11
    iexact Q12
  isplitl [HS]; · iexact HS
  ihave HP := (planes_in c) $$ [S5 S6]
  · isplitl [S5]; · iexact S5
    iexact S6
  icases HP with ⟨P0, P1⟩
  isplitl [P0]; · iexact P0
  isplitl [P1]; · iexact P1
  isplitl [S8]; · iexact S8
  isplitl [R3]; · iapply (pt_any c main_v4_4 Finset.univ _) $$ R3
  isplitl [Q13]; · iexact Q13
  isplitl [S7 R2 S9 RY]
  · iapply (z_in c)
    isplitl [S7]; · iexact S7
    isplitl [R2]; · iapply (pt_any c main_v4_3 Finset.univ _) $$ R2
    isplitl [S9]; · iexact S9
    iapply (pt_any c main_v4_0 Finset.univ _) $$ RY
  isplitl [Q9]; · iexact Q9
  iexact HO

theorem leave (gY : G c main_v4_0 = specY (V c main_arg0) (V c main_arg1) Ws Hs Cv) (g0 : G c main_v4_1 = specUC (V c main_arg0)) (g1 : G c main_v4_2 = specSO (V c main_arg0))
    (g2 : G c main_v4_3 = specZC (V c main_arg0) (V c main_arg1) Ws) (g3 : G c main_v4_4 = specZS (V c main_arg0) (V c main_arg1) Ws) :
    BPost c (V c main_arg0) (V c main_arg1) Ws Hs Cv ⊢ iprop(Pipeline.ΦDRV osem0 spec0 H0 R0 V G c ∗ Stg c Ws Hs Cv ∗ Ow c) := by
  unfold Pipeline.ΦDRV BPost ZSPost
  rw [ownSems_eq, readPts_eq, writtenPts_eq, scratch_eq, gY, g0, g1, g2, g3]
  iintro ⟨HU, HW, HQ, HS, P0, P1, ⟨R3, S8, Q13⟩, HSO, HUC, HZ, Q9, HO⟩
  ihave HU := (u_out c (V c main_arg0)) $$ HU
  icases HU with ⟨A0, S0, HU⟩
  ihave HW := (w_out c (V c main_arg1)) $$ HW
  icases HW with ⟨A1, S1, HW⟩
  ihave HQ := (q_out c (V c main_arg0)) $$ [HQ HSO HUC]
  · isplitl [HQ]; · iexact HQ
    isplitl [HSO]; · iexact HSO
    iexact HUC
  icases HQ with ⟨S2, S3, S4, R0, R1, HQ⟩
  ihave HZ := (z_out c (V c main_arg0) (V c main_arg1) Ws Hs Cv) $$ HZ
  icases HZ with ⟨⟨S7, R2⟩, S9, RY⟩
  ihave HP := (planes_out c) $$ [P0 P1]
  · isplitl [P0]; · iexact P0
    iexact P1
  icases HP with ⟨S5, S6⟩
  unfold T3 G6
  icases HU with ⟨Q0, Q1, Q2⟩
  icases HW with ⟨Q3, Q4, Q5, Q6, Q7, Q8⟩
  icases HQ with ⟨Q10, Q11, Q12⟩
  isplitr [HS HO]
  · isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iapply (pt_any c cc0_scratch8 Finset.univ _) $$ S8
      iexact S9
    isplitl [Q0 Q1 Q2 Q3 Q4 Q5 Q6 Q7 Q8 Q9 Q10 Q11 Q12 Q13]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      iexact Q13
    isplitl [A0 A1]
    · isplitl [A0]; · iexact A0
      iexact A1
    isplitl [RY]; · iexact RY
    isplitl [R0]; · iexact R0
    isplitl [R1]; · iexact R1
    isplitl [R2]; · iexact R2
    iexact R3
  isplitl [HS]; · iexact HS
  iexact HO

end

/-! ## The proof data -/

variable (m : (ℓ : Loc nD τ sig) → Buf (Elt F) ℓ) (ρ : Dev nD → PrngReg)

/-- The column scales as the body sees them. -/
def wsAt (c : Dev nD) : Vec F S1x4608 .f32 := iblk m c 0 t0_0
/-- The filter scales as the body sees them. -/
def hsAt (c : Dev nD) : Vec F S1x1536 .f32 := iblk m c 1 t0_0
/-- The convolution sums as the body sees them. -/
def cvAt (c : Dev nD) : Vec F S3x640x1536 .f32 := iblk m c 2 t0_0

/-- What the region leaves in each buffer it writes. -/
def G (c : Dev nD) (b : Ref sig .tc) : Buf (Elt F) ((c : Thread nD τ).loc b) :=
  Function.update (Function.update (Function.update (Function.update (Function.update (V m c)
    main_v4_0 (specY (V m c main_arg0) (V m c main_arg1) (wsAt m c) (hsAt m c) (cvAt m c)))
    main_v4_1 (specUC (V m c main_arg0)))
    main_v4_2 (specSO (V m c main_arg0)))
    main_v4_3 (specZC (V m c main_arg0) (V m c main_arg1) (wsAt m c)))
    main_v4_4 (specZS (V m c main_arg0) (V m c main_arg1) (wsAt m c)) b

theorem G_Y (c : Dev nD) : G m c main_v4_0 = specY (V m c main_arg0) (V m c main_arg1) (wsAt m c) (hsAt m c) (cvAt m c) := by
  unfold G
  rw [Function.update_of_ne (by decide), Function.update_of_ne (by decide), Function.update_of_ne (by decide), Function.update_of_ne (by decide), Function.update_self]
theorem G_0 (c : Dev nD) : G m c main_v4_1 = specUC (V m c main_arg0) := by
  unfold G
  rw [Function.update_of_ne (by decide), Function.update_of_ne (by decide), Function.update_of_ne (by decide), Function.update_self]
theorem G_1 (c : Dev nD) : G m c main_v4_2 = specSO (V m c main_arg0) := by
  unfold G
  rw [Function.update_of_ne (by decide), Function.update_of_ne (by decide), Function.update_self]
theorem G_2 (c : Dev nD) : G m c main_v4_3 = specZC (V m c main_arg0) (V m c main_arg1) (wsAt m c) := by
  unfold G
  rw [Function.update_of_ne (by decide), Function.update_self]
theorem G_3 (c : Dev nD) : G m c main_v4_4 = specZS (V m c main_arg0) (V m c main_arg1) (wsAt m c) := by
  unfold G
  rw [Function.update_self]

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := Pipeline.ΦDRV osem0 spec0 H0 R0 (V m) (if t = 0 then V m else G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

def bodyPre (c : Dev nD) (t : Fin cfg0.N) : sProp (𝕄 F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp (𝕄 F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem phi_pre (c : Dev nD) : (dats m 0 c).Φ (t0_0 : Fin cfg0.N).castSucc = Pipeline.ΦDRV osem0 spec0 H0 R0 (V m) (V m) c := rfl
theorem phi_post (c : Dev nD) : (dats m 0 c).Φ (t0_0 : Fin cfg0.N).succ = Pipeline.ΦDRV osem0 spec0 H0 R0 (V m) (G m) c := rfl

theorem stg_eq0 (c : Dev nD) (X : Vec F S1x4608 .f32) : (owns (c : Thread nD τ) (st0_0 t0_0) fullShare X : sProp (𝕄 F)) = Pt c cc0_stg0_0 Finset.univ fullShare X := by
  show (owns (c : Thread nD τ) (Memref.whole cc0_stg0_0) fullShare X : sProp (𝕄 F)) = _
  rw [owns_whole]
theorem stg_eq1 (c : Dev nD) (X : Vec F S1x1536 .f32) : (owns (c : Thread nD τ) (st0_1 t0_0) fullShare X : sProp (𝕄 F)) = Pt c cc0_stg1_0 Finset.univ fullShare X := by
  show (owns (c : Thread nD τ) (Memref.whole cc0_stg1_0) fullShare X : sProp (𝕄 F)) = _
  rw [owns_whole]
theorem stg_eq2 (c : Dev nD) (X : Vec F S3x640x1536 .f32) : (owns (c : Thread nD τ) (st0_2 t0_0) fullShare X : sProp (𝕄 F)) = Pt c cc0_stg2_0 Finset.univ fullShare X := by
  show (owns (c : Thread nD τ) (Memref.whole cc0_stg2_0) fullShare X : sProp (𝕄 F)) = _
  rw [owns_whole]

theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [after0_0, after0_1, after0_2, phi_pre, phi_post, body_eq, show (iblk m c 0 t0_0 : Vec F S1x4608 .f32) = wsAt m c from rfl,
    show (iblk m c 1 t0_0 : Vec F S1x1536 .f32) = hsAt m c from rfl, show (iblk m c 2 t0_0 : Vec F S3x640x1536 .f32) = cvAt m c from rfl, stg_eq0, stg_eq1, stg_eq2]
  unfold Dat.owesAt Pipeline.owesWithin
  rw [show (dats m 0 c).owed (t0_0 : Fin cfg0.N).castSucc = 0 from rfl, show (dats m 0 c).owed (t0_0 : Fin cfg0.N).succ = 0 from rfl]
  iintro ⟨HΦ, ⟨%W, -, HW⟩, ⟨%d0, H0⟩, ⟨%d1, H1⟩, ⟨%d2, H2⟩⟩
  ihave H0 := (Entails.of_eq (show (owns (c : Thread nD τ) (st0_0 t0_0) fullShare ((dats m 0 c).before 0 t0_0 d0) : sProp (𝕄 F)) = Pt c cc0_stg0_0 Finset.univ fullShare (wsAt m c) from by
    rw [before_0 m (dats m 0 c) (A_eq m c 0) (after0_0 m c) t0_0 d0]; exact stg_eq0 c _)) $$ H0
  ihave H1 := (Entails.of_eq (show (owns (c : Thread nD τ) (st0_1 t0_0) fullShare ((dats m 0 c).before 1 t0_0 d1) : sProp (𝕄 F)) = Pt c cc0_stg1_0 Finset.univ fullShare (hsAt m c) from by
    rw [before_1 m (dats m 0 c) (A_eq m c 1) (after0_1 m c) t0_0 d1]; exact stg_eq1 c _)) $$ H1
  ihave H2 := (Entails.of_eq (show (owns (c : Thread nD τ) (st0_2 t0_0) fullShare ((dats m 0 c).before 2 t0_0 d2) : sProp (𝕄 F)) = Pt c cc0_stg2_0 Finset.univ fullShare (cvAt m c) from by
    rw [before_2 m (dats m 0 c) (A_eq m c 2) (after0_2 m c) t0_0 d2]; exact stg_eq2 c _)) $$ H2
  ihave HB := (enter c (V m) (wsAt m c) (hsAt m c) (cvAt m c)) $$ [HΦ HW H0 H1 H2]
  · isplitl [HΦ]; · iexact HΦ
    isplitl [H0 H1 H2]
    · unfold Stg
      isplitl [H0]; · iexact H0
      isplitl [H1]; · iexact H1
      iexact H2
    unfold Ow
    iexists W; iexact HW
  iapply (body_spec c (V m c main_arg0) (V m c main_arg1) (wsAt m c) (hsAt m c) (cvAt m c)) $$ HB
  iintro HB
  ihave HB := (leave c (V m) (G m) (wsAt m c) (hsAt m c) (cvAt m c) (G_Y m c) (G_0 m c) (G_1 m c) (G_2 m c) (G_3 m c)) $$ HB
  unfold Ow Stg
  icases HB with ⟨HΦ, HS, ⟨%W', HW'⟩⟩
  isplitl [HΦ]; · iexact HΦ
  isplitl [HW']
  · iexists W'; isplitr; · ipureintro; exact fun _ _ => Or.inl trivial
    iexact HW'
  iexact HS

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The buffers after the last host operation. -/
def final (c : Dev nD) (b : Ref sig .tc) : Buf (Elt F) ((c : Thread nD τ).loc b) :=
  StableHlo.after (List.flatten [hostOps1]) (Pipeline.withArrays spec0 c (Pipeline.withR (V0 m c) R0 c (G m c)) fun w => (dats m 0 c).arrAt w cfg0.N) (Proc.devRef .tc b)

set_option backward.isDefEq.respectTransparency.types false in
theorem run_main : θ_run defs (onTc (τ := τ) (main (F := F))) (s₀ m ρ)
    (fun r => (∀ c : Dev nD, ∀ b ∈ Pipeline.restRefs sig spec0, r.2.mem ((c : Thread nD τ).loc b) = final m c b)
      ∧ (∀ c : Dev nD, r.2.mem ((c : Thread nD τ).loc main_arg4) = V m c main_arg4) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmainD m) (hA := A_eq m) (hin := fun _ => .rfl) (hout := fun _ => .rfl) (hQ' := fun r h => ⟨fun c => (h.1 c).2, fun c => ((h.1 c).1 2).trans (((dats m 0 c).arrAt_in 2 rfl _).trans (A_eq m c 2)), h.2⟩)

theorem not_written (b : Ref sig .tc) (hb : b ≠ main_v5) : ∀ op ∈ (List.flatten [hostOps1] : List (HloOp τ sig (Elt F))), Proc.devRef .tc b ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb)

theorem final_kept (c : Dev nD) (b : Ref sig .tc) (hb : b ≠ main_v5) (ha : ∀ w, Pipeline.arrRef spec0 w ≠ b) (hR : b ∉ R0) : final m c b = V m c b := by
  unfold final
  rw [StableHlo.after_of_forall_not_mem _ _ (not_written b hb), Pipeline.withArrays_of_ne _ c _ _ b ha, Pipeline.withR_of_not_mem _ _ _ _ _ hR]

theorem final_written (c : Dev nD) (b : Ref sig .tc) (hb : b ≠ main_v5) (ha : ∀ w, Pipeline.arrRef spec0 w ≠ b) (hR : b ∈ R0) : final m c b = G m c b := by
  unfold final
  rw [StableHlo.after_of_forall_not_mem _ _ (not_written b hb), Pipeline.withArrays_of_ne _ c _ _ b ha, Pipeline.withR_of_mem _ _ _ _ _ hR]

/-- What the run ends with: the arguments as they were, the five results at the specification's, every counter at zero. -/
def Ends (r : PUnit × MemSt nD τ sig (Elt F)) : Prop :=
  (∀ c : Dev nD, (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.mem ((c : Thread nD τ).loc main_v4_0) = specY (m ((c : Thread nD τ).loc main_arg0)) (m ((c : Thread nD τ).loc main_arg1)) (wsAt m c) (hsAt m c) (cvAt m c)
    ∧ r.2.mem ((c : Thread nD τ).loc main_v4_1) = specUC (m ((c : Thread nD τ).loc main_arg0))
    ∧ r.2.mem ((c : Thread nD τ).loc main_v5) = final m c main_v5
    ∧ r.2.mem ((c : Thread nD τ).loc main_v4_3) = specZC (m ((c : Thread nD τ).loc main_arg0)) (m ((c : Thread nD τ).loc main_arg1)) (wsAt m c)
    ∧ r.2.mem ((c : Thread nD τ).loc main_v4_4) = specZS (m ((c : Thread nD τ).loc main_arg0)) (m ((c : Thread nD τ).loc main_arg1)) (wsAt m c))
  ∧ r.2.sem = fun _ => 0

theorem run_ends : θ_run defs (onTc (τ := τ) (main (F := F))) (s₀ m ρ) (Ends m) :=
  (θ_run defs _ _).mono (fun r ⟨h, h4, hz⟩ => ⟨fun c => by
    have k : ∀ b, b ∈ Pipeline.restRefs sig spec0 → b ≠ main_v5 → (∀ w, Pipeline.arrRef spec0 w ≠ b) → b ∉ R0 → r.2.mem ((c : Thread nD τ).loc b) = V m c b :=
      fun b hb h2 ha hR => (h c b hb).trans (final_kept m c b h2 ha hR)
    have w : ∀ b, b ∈ Pipeline.restRefs sig spec0 → b ≠ main_v5 → (∀ w, Pipeline.arrRef spec0 w ≠ b) → b ∈ R0 → r.2.mem ((c : Thread nD τ).loc b) = G m c b :=
      fun b hb h2 ha hR => (h c b hb).trans (final_written m c b h2 ha hR)
    refine ⟨⟨?_, ?_, ?_, ?_, ?_⟩, ?_, ?_, ?_, ?_, ?_⟩
    · exact (k main_arg0 (by decide) (by decide) (by decide) (by decide)).trans (V_main_arg0 m c)
    · exact (k main_arg1 (by decide) (by decide) (by decide) (by decide)).trans (V_main_arg1 m c)
    · exact (k main_arg2 (by decide) (by decide) (by decide) (by decide)).trans (V_main_arg2 m c)
    · exact (k main_arg3 (by decide) (by decide) (by decide) (by decide)).trans (V_main_arg3 m c)
    · exact (h4 c).trans (V_main_arg4 m c)
    · rw [w main_v4_0 (by decide) (by decide) (by decide) (by decide), G_Y, V_main_arg0, V_main_arg1]
    · rw [w main_v4_1 (by decide) (by decide) (by decide) (by decide), G_0, V_main_arg0]
    · exact h c main_v5 (by decide)
    · rw [w main_v4_3 (by decide) (by decide) (by decide) (by decide), G_2, V_main_arg0, V_main_arg1]
    · rw [w main_v4_4 (by decide) (by decide) (by decide) (by decide), G_3, V_main_arg0, V_main_arg1], hz⟩) (run_main m ρ)

/-- The frame: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).1, h.2⟩) (run_ends m ρ)

end Cert.Kernel.Hand

end
-- ==== Proof.Same.lean ====
/-
  Hand-written, untrusted. The idealized kernel is the kernel's own text.
-/
module

public import proofs.«01_k».proof.Proof.Gen.Kernel.Frame
public import proofs.«01_k».proof.Proof.Gen.KernelIdeal.Frame

@[expose] public section

set_option maxRecDepth 16384

noncomputable section

namespace Cert.Same

open Idealize.ShloMosaic Idealize.ShloMosaic.TcCoe Idealize.ShloMosaic.Tactic

variable {F : FTy → Type} [FloatOps F]

theorem sig_eq : Cert.KernelIdeal.sig = Cert.Kernel.sig := rfl

theorem defs₀_eq : (Cert.KernelIdeal.defs₀ (F := F)) = (Cert.Kernel.defs₀ (F := F)) := by sl_kernel_rfl

theorem defs_eq : (Cert.KernelIdeal.defs (F := F)) = (Cert.Kernel.defs (F := F)) := by sl_kernel_rfl

theorem main_eq : (Cert.KernelIdeal.main (F := F)) = (Cert.Kernel.main (F := F)) := by sl_kernel_rfl

theorem run_eq : θ_run (Cert.KernelIdeal.defs (F := F)) (onTc (τ := Cert.KernelIdeal.τ) (Cert.KernelIdeal.main (F := F)))
    = θ_run (Cert.Kernel.defs (F := F)) (onTc (τ := Cert.Kernel.τ) (Cert.Kernel.main (F := F))) := by sl_kernel_rfl

end Cert.Same

end
-- ==== Proof.Scale.lean ====
/-
  Hand-written, untrusted. The scale and its inverse at one quotient `x`, as the kernel finds them and as the reference
  does, over the extended reals.

  The kernel searches the biased exponent in eight halving steps; the reference takes the greatest power of two that is
  at most `x` among those from 2^(-126) to 2^126. Both end in the power of two above, or in 1 outside the range, and
  both flush the inverse of 2^127 to zero.
-/
module

public import proofs.«01_k».proof.Proof.Gen.KernelIdeal
public import Idealize.ShloMosaic.Lib.Pointwise
public import Idealize.ShloMosaic.PureOps.Ideal.Laws

@[expose] public section

noncomputable section

namespace Cert.Value

open Idealize.ShloMosaic

/-! ## Powers of two and their words -/

/-- The word whose exponent field is `m`. -/
def expWord (m : BitVec 32) : EReal := Ideal.ofBits .f32 (IntOp.shli .vector m 23#32)

/-- `2 ^ (m - 127)`. -/
def pw (m : Nat) : ℝ := (2 : ℝ) ^ ((m : Int) - 127)

theorem pw_pos (m : Nat) : 0 < pw m := by unfold pw; positivity

theorem pw_le {m n : Nat} (h : m ≤ n) : pw m ≤ pw n := by
  unfold pw
  exact zpow_le_zpow_right₀ (by norm_num) (by omega)

theorem pw_lt {m n : Nat} (h : m < n) : pw m < pw n := by
  unfold pw
  exact zpow_lt_zpow_right₀ (by norm_num) (by omega)

theorem pw_add (m : Nat) : pw m + pw m = pw (m + 1) := by
  unfold pw
  rw [← two_mul, ← zpow_one_add₀ (by norm_num)]
  congr 1
  push_cast
  omega

theorem pw_inv (m : Nat) (h : m ≤ 254) : (pw m)⁻¹ = pw (254 - m) := by
  unfold pw
  rw [← zpow_neg]
  congr 1
  omega

theorem pw_127 : pw 127 = 1 := by simp [pw]

theorem expWord_fields : ∀ m : Fin 255, ((IntOp.shli .vector (BitVec.ofNat 32 m.val) 23#32).extractLsb' 31 1 == 1#1) = false
    ∧ ((IntOp.shli .vector (BitVec.ofNat 32 m.val) 23#32).extractLsb' 23 8).toNat = m.val
    ∧ ((IntOp.shli .vector (BitVec.ofNat 32 m.val) 23#32).extractLsb' 0 23).toNat = 0 := by decide

theorem expWord_zero : expWord (BitVec.ofNat 32 0) = 0 := by
  obtain ⟨h1, h2, h3⟩ := expWord_fields ⟨0, by omega⟩
  simp only [] at h1 h2 h3
  unfold expWord Ideal.ofBits Ideal.ieee
  simp [h1, h2, h3]

theorem expWord_pos (m : Nat) (h0 : 0 < m) (h : m ≤ 254) : expWord (BitVec.ofNat 32 m) = ((pw m : ℝ) : EReal) := by
  obtain ⟨h1, h2, h3⟩ := expWord_fields ⟨m, by omega⟩
  simp only [] at h1 h2 h3
  unfold expWord Ideal.ofBits Ideal.ieee
  simp only [h1, h2, h3]
  rw [if_neg (by omega), if_neg (by omega)]
  rw [EReal.coe_eq_coe_iff]
  unfold pw
  rw [show ((m : Int) - 127) = 23 + ((m : Int) - (2 ^ (8 - 1) - 1) - (23 : Nat)) by norm_num, zpow_add₀ (by norm_num)]
  norm_num

/-! ## The kernel's search at one quotient -/

/-- What a search step compares with `x` at `t`. -/
def bound (t : BitVec 32) : EReal := expWord (IntOp.minsi t 254#32)

def stepAt (x : EReal) (ex k : BitVec 32) : BitVec 32 :=
  Scalar.select (FloatOps.cmpf (F := Ideal) (φ := .f32) .oge x (bound (IntOp.addi ex k))) (IntOp.addi ex k) ex

def searchAt (x : EReal) : BitVec 32 :=
  stepAt x (stepAt x (stepAt x (stepAt x (stepAt x (stepAt x (stepAt x (stepAt x 0#32 128#32) 64#32) 32#32) 16#32) 8#32) 4#32) 2#32) 1#32

def expoAt (x : EReal) : BitVec 32 :=
  Scalar.select (IntOp.ori (IntOp.cmpi .eq (searchAt x) 0#32) (IntOp.cmpi .eq (searchAt x) 255#32)) 126#32 (searchAt x)

/-- The kernel's scale at `x`. -/
def kScale (x : EReal) : EReal := expWord (IntOp.addi (expoAt x) 1#32)

/-- The kernel's inverse scale at `x`. -/
def kInv (x : EReal) : EReal := expWord (IntOp.subi 253#32 (expoAt x))

theorem minsi_254 : ∀ m : Fin 256, IntOp.minsi (BitVec.ofNat 32 m.val) 254#32 = BitVec.ofNat 32 (min m.val 254) := by decide

theorem bound_eq (m : Nat) (h0 : 0 < m) (h : m ≤ 255) : bound (BitVec.ofNat 32 m) = ((pw (min m 254) : ℝ) : EReal) := by
  unfold bound
  rw [minsi_254 ⟨m, by omega⟩]
  exact expWord_pos _ (by simp only []; omega) (by simp only []; omega)

/-- Where a search stands: at `n` with `k` to go, the power at `n` is at most `x` and the one `k` further is not. -/
def At (x : EReal) (n k : Nat) : Prop :=
  n + k ≤ 256 ∧ (n = 0 ∨ ((pw (min n 254) : ℝ) : EReal) ≤ x) ∧ (n + k = 256 ∨ ¬ ((pw (min (n + k) 254) : ℝ) : EReal) ≤ x)

theorem step_at (x : EReal) (n k : Nat) (hk : 0 < k) (h : At x n (k + k)) :
    ∃ n', stepAt x (BitVec.ofNat 32 n) (BitVec.ofNat 32 k) = BitVec.ofNat 32 n' ∧ At x n' k := by
  obtain ⟨h1, h2, h3⟩ := h
  have e : IntOp.addi (BitVec.ofNat 32 n) (BitVec.ofNat 32 k) = BitVec.ofNat 32 (n + k) := by
    simp [IntOp.addi, BitVec.ofNat_add]
  have hb := bound_eq (n + k) (by omega) (by omega)
  by_cases hx : ((pw (min (n + k) 254) : ℝ) : EReal) ≤ x
  · refine ⟨n + k, ?_, by omega, .inr hx, ?_⟩
    · unfold stepAt
      rw [e, hb]
      simp [Ideal.cmpf_def, Ideal.cmp, hx, Scalar.select]
    · rw [show n + k + k = n + (k + k) by omega]
      exact h3
  · refine ⟨n, ?_, by omega, h2, .inr hx⟩
    unfold stepAt
    rw [e, hb]
    simp [Ideal.cmpf_def, Ideal.cmp, hx, Scalar.select]

theorem search_at (x : EReal) : ∃ n, searchAt x = BitVec.ofNat 32 n ∧ At x n 1 := by
  unfold searchAt
  obtain ⟨n0, e0, h0⟩ := step_at x 0 128 (by omega) ⟨by omega, .inl rfl, .inl rfl⟩
  obtain ⟨n1, e1, h1⟩ := step_at x n0 64 (by omega) h0
  obtain ⟨n2, e2, h2⟩ := step_at x n1 32 (by omega) h1
  obtain ⟨n3, e3, h3⟩ := step_at x n2 16 (by omega) h2
  obtain ⟨n4, e4, h4⟩ := step_at x n3 8 (by omega) h3
  obtain ⟨n5, e5, h5⟩ := step_at x n4 4 (by omega) h4
  obtain ⟨n6, e6, h6⟩ := step_at x n5 2 (by omega) h5
  obtain ⟨n7, e7, h7⟩ := step_at x n6 1 (by omega) h6
  exact ⟨n7, by rw [e0, e1, e2, e3, e4, e5, e6, e7], h7⟩

/-- The kernel's two values: by the search's end `n`. -/
theorem kernel_at (x : EReal) : ∃ n, At x n 1 ∧ n ≠ 254 ∧ n ≤ 255 ∧
    kScale x = (if n = 0 ∨ n = 255 then 1 else ((pw (n + 1) : ℝ) : EReal)) ∧
    kInv x = (if n = 0 ∨ n = 255 then 1 else if n = 253 then 0 else ((pw (253 - n) : ℝ) : EReal)) := by
  obtain ⟨n, e, h⟩ := search_at x
  have hn : n ≤ 255 := by have := h.1; omega
  have h254 : n ≠ 254 := by
    rintro rfl
    obtain ⟨-, h2, h3⟩ := h
    rcases h2 with h2 | h2
    · omega
    · rcases h3 with h3 | h3
      · omega
      · exact h3 h2
  refine ⟨n, h, h254, hn, ?_, ?_⟩
  · unfold kScale expoAt
    rw [e]
    split
    · next hc =>
      have : IntOp.addi (Scalar.select (IntOp.ori (IntOp.cmpi .eq (BitVec.ofNat 32 n) 0#32) (IntOp.cmpi .eq (BitVec.ofNat 32 n) 255#32)) 126#32 (BitVec.ofNat 32 n)) 1#32
          = BitVec.ofNat 32 127 := by
        rcases hc with rfl | rfl <;> decide
      rw [this, expWord_pos 127 (by omega) (by omega), pw_127]
      rfl
    · next hc =>
      have : ∀ n : Fin 255, n.val ≠ 0 → IntOp.addi (Scalar.select (IntOp.ori (IntOp.cmpi .eq (BitVec.ofNat 32 n.val) 0#32) (IntOp.cmpi .eq (BitVec.ofNat 32 n.val) 255#32)) 126#32 (BitVec.ofNat 32 n.val)) 1#32
          = BitVec.ofNat 32 (n.val + 1) := by decide
      rw [this ⟨n, by omega⟩ (by simp only []; omega)]
      exact expWord_pos _ (by omega) (by simp only []; omega)
  · unfold kInv expoAt
    rw [e]
    split
    · next hc =>
      have : IntOp.subi 253#32 (Scalar.select (IntOp.ori (IntOp.cmpi .eq (BitVec.ofNat 32 n) 0#32) (IntOp.cmpi .eq (BitVec.ofNat 32 n) 255#32)) 126#32 (BitVec.ofNat 32 n))
          = BitVec.ofNat 32 127 := by
        rcases hc with rfl | rfl <;> decide
      rw [this, expWord_pos 127 (by omega) (by omega), pw_127]
      rfl
    · next hc =>
      have : ∀ n : Fin 254, n.val ≠ 0 → IntOp.subi 253#32 (Scalar.select (IntOp.ori (IntOp.cmpi .eq (BitVec.ofNat 32 n.val) 0#32) (IntOp.cmpi .eq (BitVec.ofNat 32 n.val) 255#32)) 126#32 (BitVec.ofNat 32 n.val))
          = BitVec.ofNat 32 (253 - n.val) := by decide
      rw [this ⟨n, by omega⟩ (by simp only []; omega)]
      split
      · next h253 => subst h253; exact expWord_zero
      · exact expWord_pos _ (by simp only []; omega) (by simp only []; omega)

/-! ## The reference at one quotient -/

/-- The reference's `k`-th power of two. -/
def power (k : Fin 253) : EReal :=
  FloatOps.exp2 (F := Ideal) (φ := .f32) (FloatOps.sitofp (F := Ideal) .f32 (IntOp.subi (BitVec.ofNat 32 k.val) 126#32))

/-- The greatest of them that is at most `x`, or zero. -/
def rBelow (x : EReal) : EReal :=
  Finset.univ.fold max (Ideal.ofBits .f32 0xFF800000#32) fun k : Fin 253 =>
    Scalar.select (FloatOps.cmpf (F := Ideal) (φ := .f32) .ole (power k) x) (power k) (Ideal.ofBits .f32 0x00000000#32)

/-- The reference's scale at `x`. -/
def rScale (x : EReal) : EReal :=
  Scalar.select (IntOp.andi (FloatOps.cmpf (F := Ideal) (φ := .f32) .ogt (rBelow x) (Ideal.ofBits .f32 0x00000000#32))
    (FloatOps.cmpf (F := Ideal) (φ := .f32) .olt x (Ideal.ofBits .f32 0x7F000000#32)))
    (rBelow x + rBelow x) (Ideal.ofBits .f32 0x3F800000#32)

/-- The reference's inverse scale at `x`. -/
def rInv (x : EReal) : EReal :=
  Scalar.select (FloatOps.cmpf (F := Ideal) (φ := .f32) .ogt (rScale x) (Ideal.ofBits .f32 0x7E800000#32)) (Ideal.ofBits .f32 0x00000000#32)
    (Ideal.div (Ideal.ofBits .f32 0x3F800000#32) (rScale x))

theorem ofBits_neg_inf : Ideal.ofBits .f32 0xFF800000#32 = ⊥ := by
  have h : ((0xFF800000#32).extractLsb' 31 1 == 1#1) = true ∧ ((0xFF800000#32).extractLsb' 23 8).toNat = 255 ∧ ((0xFF800000#32).extractLsb' 0 23).toNat = 0 := by decide
  unfold Ideal.ofBits Ideal.ieee
  simp [h.1, h.2.1, h.2.2]

theorem ofBits_one : Ideal.ofBits .f32 0x3F800000#32 = 1 := by
  have := expWord_pos 127 (by omega) (by omega)
  rw [pw_127] at this
  exact this

theorem ofBits_254 : Ideal.ofBits .f32 0x7F000000#32 = ((pw 254 : ℝ) : EReal) := expWord_pos 254 (by omega) (by omega)

theorem ofBits_253 : Ideal.ofBits .f32 0x7E800000#32 = ((pw 253 : ℝ) : EReal) := expWord_pos 253 (by omega) (by omega)

theorem power_eq (k : Fin 253) : power k = ((pw (k.val + 1) : ℝ) : EReal) := by
  have h : ∀ k : Fin 253, (IntOp.subi (BitVec.ofNat 32 k.val) 126#32).toInt = (k.val : Int) - 126 := by decide
  show Ideal.exp2 (((IntOp.subi (BitVec.ofNat 32 k.val) 126#32).toInt : ℝ) : EReal) = _
  rw [h, Ideal.exp2_coe, EReal.coe_eq_coe_iff]
  show (2 : ℝ) ^ ((((k.val : Int) - 126 : Int)) : ℝ) = _
  rw [Real.rpow_intCast]
  unfold pw
  congr 1
  push_cast
  omega

theorem le_pw (x : EReal) (k : Fin 253) :
    Scalar.select (FloatOps.cmpf (F := Ideal) (φ := .f32) .ole (power k) x) (power k) (Ideal.ofBits .f32 0x00000000#32)
      = if ((pw (k.val + 1) : ℝ) : EReal) ≤ x then ((pw (k.val + 1) : ℝ) : EReal) else 0 := by
  rw [Ideal.cmpf_def, power_eq, Ideal.ofBits_zero_f32]
  by_cases h : ((pw (k.val + 1) : ℝ) : EReal) ≤ x <;> simp [Ideal.cmp, Scalar.select, h]

theorem coe_le {m n : Nat} (h : m ≤ n) : ((pw m : ℝ) : EReal) ≤ ((pw n : ℝ) : EReal) := EReal.coe_le_coe_iff.mpr (pw_le h)
theorem coe_pos (m : Nat) : (0 : EReal) < ((pw m : ℝ) : EReal) := EReal.coe_pos.mpr (pw_pos m)

/-- The greatest power of two below, by the search's end. -/
theorem below_at (x : EReal) (n : Nat) (h : At x n 1) (h' : n ≤ 253) : rBelow x = if n = 0 then 0 else ((pw n : ℝ) : EReal) := by
  obtain ⟨-, h2, h3⟩ := h
  have h3' : ¬ ((pw (n + 1) : ℝ) : EReal) ≤ x := by
    rcases h3 with h3 | h3
    · omega
    · rwa [Nat.min_eq_left (by omega)] at h3
  have hlt : ∀ k : Fin 253, ((pw (k.val + 1) : ℝ) : EReal) ≤ x → k.val + 1 ≤ n := by
    intro k hk
    by_contra hc
    exact h3' ((coe_le (by omega)).trans hk)
  unfold rBelow
  simp only [le_pw]
  rw [ofBits_neg_inf]
  apply le_antisymm
  · refine (Finset.fold_max_le _).mpr ⟨bot_le, fun k _ => ?_⟩
    split
    · next hk =>
      have := hlt k hk
      rw [if_neg (by omega)]
      exact coe_le this
    · split
      · exact le_rfl
      · exact (coe_pos n).le
  · refine (Finset.le_fold_max _).mpr (.inr ?_)
    by_cases h0 : n = 0
    · refine ⟨0, Finset.mem_univ _, ?_⟩
      rw [if_pos h0]
      split
      · exact (coe_pos _).le
      · exact le_rfl
    · refine ⟨⟨n - 1, by omega⟩, Finset.mem_univ _, ?_⟩
      rcases h2 with h2 | h2
      · omega
      rw [Nat.min_eq_left (by omega)] at h2
      simp only [show n - 1 + 1 = n by omega]
      rw [if_neg h0, if_pos h2]

/-- The two scales are one. -/
theorem scale_eq (x : EReal) : kScale x = rScale x := by
  obtain ⟨n, h, h254, hn, hs, -⟩ := kernel_at x
  rw [hs]
  unfold rScale
  simp only [Ideal.cmpf_def, Ideal.ofBits_zero_f32, ofBits_254, ofBits_one]
  by_cases h255 : n = 255
  · subst h255
    have hx : ¬ x < ((pw 254 : ℝ) : EReal) := by
      rcases h.2.1 with h2 | h2
      · omega
      · exact not_lt.mpr h2
    simp [Ideal.cmp, hx, Scalar.select, IntOp.andi]
  · have hx : x < ((pw 254 : ℝ) : EReal) := by
      rcases h.2.2 with h3 | h3
      · omega
      · rw [Nat.min_eq_left (by omega)] at h3
        exact lt_of_lt_of_le (not_le.mp h3) (coe_le (by omega))
    rw [below_at x n h (by omega)]
    by_cases h0 : n = 0
    · subst h0
      simp [Ideal.cmp, Scalar.select, IntOp.andi]
    · rw [if_neg (by omega), if_neg h0, ← EReal.coe_add, pw_add]
      have hp := coe_pos n
      simp [Ideal.cmp, hx, hp, Scalar.select, IntOp.andi]

/-- The two inverses are one. -/
theorem inv_eq (x : EReal) : kInv x = rInv x := by
  unfold rInv
  rw [← scale_eq x]
  obtain ⟨n, h, h254, hn, hs, hi⟩ := kernel_at x
  rw [hs, hi]
  simp only [Ideal.cmpf_def, Ideal.ofBits_zero_f32, ofBits_253, ofBits_one]
  by_cases hc : n = 0 ∨ n = 255
  · rw [if_pos hc, if_pos hc]
    have : ¬ ((pw 253 : ℝ) : EReal) < 1 := by
      rw [← EReal.coe_one, ← pw_127]
      exact not_lt.mpr (coe_le (by omega))
    simp [Ideal.cmp, Scalar.select, this, Ideal.div]
  · rw [if_neg hc, if_neg hc]
    by_cases h253 : n = 253
    · subst h253
      have : ((pw 253 : ℝ) : EReal) < ((pw 254 : ℝ) : EReal) := EReal.coe_lt_coe_iff.mpr (pw_lt (by omega))
      simp [Ideal.cmp, Scalar.select, this]
    · have : ¬ ((pw 253 : ℝ) : EReal) < ((pw (n + 1) : ℝ) : EReal) := not_lt.mpr (coe_le (by omega))
      rw [if_neg h253]
      have hne : ((pw (n + 1) : ℝ) : EReal) ≠ 0 := (coe_pos _).ne'
      simp [Ideal.cmp, Scalar.select, this, Ideal.div, hne]
      rw [← EReal.coe_inv, pw_inv _ (by omega)]
      congr 2
      omega

/-! ## What both programs compute -/

section Meaning
variable (U : (⟨3, ![3, 640, 1536]⟩ : Shape).Idx → EReal) (W : (⟨2, ![1536, 4608]⟩ : Shape).Idx → EReal) (Ws : (⟨2, ![1, 4608]⟩ : Shape).Idx → EReal)

/-- The magnitude. -/
def mag (x : EReal) : EReal := FloatOps.absf (F := Ideal) (φ := .f32) x

/-- The clip to the format's range. -/
def clip (x : EReal) : EReal := min (Ideal.ofBits .f32 0x43E00000#32) (max (Ideal.ofBits .f32 0xC3E00000#32) x)

/-- A token's greatest magnitude over 448. -/
def uM (b : Fin 3) (s : Fin 640) : EReal :=
  (Finset.univ.fold max (Ideal.ofBits .f32 0xFF800000#32) fun d : Fin 1536 => mag (U (ix3 b s d))) * Ideal.ofBits .f32 0x3B124925#32

/-- Its scale and its codes. -/
def uS (b : Fin 3) (s : Fin 640) : EReal := rScale (uM U b s)
def uC (b : Fin 3) (s : Fin 640) (d : Fin 1536) : EReal := clip (U (ix3 b s d) * rInv (uM U b s))

/-- The three projections, side by side. -/
def pr (b : Fin 3) (s : Fin 640) (c : Fin 4608) : EReal := (∑ d : Fin 1536, uC U b s d * W (ix2 d c)) * uS U b s * Ws (ix2 0 c)

/-- `z = k · v`. -/
def zV (b : Fin 3) (s : Fin 640) (d : Fin 1536) : EReal := pr U W Ws b s ⟨1536 + d.val, by omega⟩ * pr U W Ws b s ⟨3072 + d.val, by omega⟩

/-- A channel's greatest magnitude over 448. -/
def zM (b : Fin 3) (d : Fin 1536) : EReal :=
  (Finset.univ.fold max (Ideal.ofBits .f32 0xFF800000#32) fun s : Fin 640 => mag (zV U W Ws b s d)) * Ideal.ofBits .f32 0x3B124925#32

/-- Its scale and its codes. -/
def zS (b : Fin 3) (d : Fin 1536) : EReal := rScale (zM U W Ws b d)
def zC (b : Fin 3) (s : Fin 640) (d : Fin 1536) : EReal := clip (zV U W Ws b s d * rInv (zM U W Ws b d))

/-- The result `y`, from the convolution sums and the filters' scales. -/
def yV (Hs : (⟨2, ![1, 1536]⟩ : Shape).Idx → EReal) (Cv : (⟨3, ![3, 640, 1536]⟩ : Shape).Idx → EReal) (b : Fin 3) (s : Fin 640) (d : Fin 1536) : EReal :=
  pr U W Ws b s ⟨d.val, by omega⟩ * (Cv (ix3 b s d) * Hs (ix2 0 d) * zS U W Ws b d)

end Meaning

end Cert.Value

end
-- ==== Proof.KerValue.lean ====
/-
  Hand-written, untrusted. What the kernel's buffers hold at the end, read at an index.
-/
module

public import proofs.«01_k».proof.Proof.Spec
public import proofs.«01_k».proof.Proof.Scale

@[expose] public section

set_option maxRecDepth 16384

noncomputable section

namespace Cert.Value.Ker

open Idealize.ShloMosaic Cert.Kernel Cert.Kernel.Gen Cert.Kernel.Hand

/-! ## The steps at an index -/

theorem searchStep_at (S : Shape) (x : FVec Ideal S .f32) (ex : IVec S 32) (k : BitVec 32) (i : S.Idx) :
    searchStep S x ex k i = stepAt (x i) (ex i) k := rfl
theorem search_at (S : Shape) (x : FVec Ideal S .f32) (i : S.Idx) : search S x i = searchAt (x i) := by
  unfold search searchAt
  simp only [searchStep_at]
  rfl
theorem expo_at (S : Shape) (x : FVec Ideal S .f32) (i : S.Idx) : expo S x i = expoAt (x i) := by
  unfold expoAt
  rw [← search_at]
  rfl
theorem scaleOf_at (S : Shape) (x : FVec Ideal S .f32) (i : S.Idx) : scaleOf S x i = rScale (x i) := by
  rw [← scale_eq]
  unfold kScale
  rw [← expo_at]
  rfl
theorem invOf_at (S : Shape) (x : FVec Ideal S .f32) (i : S.Idx) : invOf S x i = rInv (x i) := by
  rw [← inv_eq]
  unfold kInv
  rw [← expo_at]
  rfl

theorem absTile_at (v : Vec Ideal S1x128x128 .bf16) (s l : Fin 128) : absTile v (ix2 s l) = mag (v (ix3 0 s l)) := by
  pointwise [absTile]
  rfl

theorem rowX_at (m : FVec Ideal S128x128 .bf16) (s l : Fin 128) : rowX m (ix2 s l) =
    (Finset.univ.fold max (Ideal.ofBits .f32 0xFF800000#32) fun k : Fin 128 => m (ix2 s k)) * Ideal.ofBits .f32 0x3B124925#32 := by
  pointwise [rowX]

theorem scaleRow_at (sc : FVec Ideal S128x128 .f32) (l : Fin 128) : scaleRow sc (ix3 0 0 l) = sc (ix2 l 0) := by
  pointwise [scaleRow]

theorem colX_at (z : FVec Ideal S640x256 .f32) (d : Fin 256) : colX z (ix2 0 d) =
    (Finset.univ.fold max (Ideal.ofBits .f32 0xFF800000#32) fun s : Fin 640 => mag (z (ix2 s d))) * Ideal.ofBits .f32 0x3B124925#32 := by
  unfold mag
  pointwise [colX]

/-- The clip's ends are the same numbers in both formats. -/
theorem top_eq : Ideal.ofBits .bf16 0x43E0#16 = Ideal.ofBits .f32 0x43E00000#32 := by
  have h : ((0x43E0#16).extractLsb' 15 1 == 1#1) = false ∧ ((0x43E0#16).extractLsb' 7 8).toNat = 135 ∧ ((0x43E0#16).extractLsb' 0 7).toNat = 96 := by decide
  have h' : ((0x43E00000#32).extractLsb' 31 1 == 1#1) = false ∧ ((0x43E00000#32).extractLsb' 23 8).toNat = 135 ∧ ((0x43E00000#32).extractLsb' 0 23).toNat = 6291456 := by decide
  unfold Ideal.ofBits Ideal.ieee
  simp only [h.1, h.2.1, h.2.2, h'.1, h'.2.1, h'.2.2]
  norm_num
theorem bot_eq : Ideal.ofBits .bf16 0xC3E0#16 = Ideal.ofBits .f32 0xC3E00000#32 := by
  have h : ((0xC3E0#16).extractLsb' 15 1 == 1#1) = true ∧ ((0xC3E0#16).extractLsb' 7 8).toNat = 135 ∧ ((0xC3E0#16).extractLsb' 0 7).toNat = 96 := by decide
  have h' : ((0xC3E00000#32).extractLsb' 31 1 == 1#1) = true ∧ ((0xC3E00000#32).extractLsb' 23 8).toNat = 135 ∧ ((0xC3E00000#32).extractLsb' 0 23).toNat = 6291456 := by decide
  unfold Ideal.ofBits Ideal.ieee
  simp only [h.1, h.2.1, h.2.2, h'.1, h'.2.1, h'.2.2]
  norm_num

theorem codeTile_at (inv : FVec Ideal S128x128 .bf16) (v : Vec Ideal S1x128x128 .bf16) (s l : Fin 128) :
    codeTile inv v (ix3 0 s l) = clip (v (ix3 0 s l) * inv (ix2 s l)) := by
  unfold clip
  rw [← top_eq, ← bot_eq, min_comm, max_comm]
  pointwise [codeTile]

theorem yTile_at (h : Fin 2) (q ct : Vec Ideal S1x128x128 .f32) (hs : Vec Ideal S1x256 .f32) (zs : FVec Ideal S1x256 .f32) (s l : Fin 128) :
    yTile h q ct hs zs (ix3 0 s l) = q (ix3 0 s l) * (ct (ix3 0 s l) * hs (ix2 0 ⟨128 * h.val + l.val, by omega⟩) * zs (ix2 0 ⟨128 * h.val + l.val, by omega⟩)) := by
  pointwise [yTile]

theorem zCodeTile_at (z : FVec Ideal S640x256 .f32) (s : Fin 640) (d : Fin 256) :
    zCodeTile z (ix3 0 s d) = clip (z (ix2 s d) * rInv (colX z (ix2 0 d))) := by
  rw [← invOf_at]
  unfold clip
  pointwise [zCodeTile]

theorem projTile_at (u : Vec Ideal S1x640x1536 .fp8e4m3) (w : Vec Ideal S1x1x1536x256 .fp8e4m3) (us : Vec Ideal S1x640x128 .f32) (ws : Vec Ideal S1x256 .f32)
    (S : Fin 640 → EReal) (hs : ∀ s l, us (ix3 0 s l) = S s) (s : Fin 640) (c : Fin 256) :
    projTile u w us ws (ix2 s c) = (∑ d : Fin 1536, u (ix3 0 s d) * w (ix4 0 0 d c)) * S s * ws (ix2 0 c) := by
  pointwise [projTile, hs]
  split <;> rfl

end Cert.Value.Ker

end
-- ==== Proof.KerEnd.lean ====
/-
  Hand-written, untrusted. What the kernel's results hold, the tiles put together.
-/
module

public import proofs.«01_k».proof.Proof.KerValue
public import Idealize.ShloMosaic.Lib.ValueLayout

@[expose] public section

set_option maxRecDepth 16384

noncomputable section

namespace Cert.Value.Ker

open Idealize.ShloMosaic Cert.Kernel Cert.Kernel.Gen Cert.Kernel.Hand

/-! ## The tiles' places -/

theorem uTile_emb (b : Fin 3) (r : Fin 5) (c : Fin 12) (s l : Fin 128) :
    (uTile b r c).emb (ix3 0 s l) = ix3 b ⟨128 * r.val + s.val, by omega⟩ ⟨128 * c.val + l.val, by omega⟩ := by
  funext a; fin_cases a <;> exact Fin.ext (by simp [Rect.emb_apply])
theorem srTile_emb (b : Fin 3) (r : Fin 5) (s l : Fin 128) :
    (srTile b r).emb (ix3 0 s l) = ix3 b ⟨128 * r.val + s.val, by omega⟩ l := by
  funext a; fin_cases a <;> exact Fin.ext (by simp [Rect.emb_apply])
theorem soTile_emb (b : Fin 3) (r : Fin 5) (l : Fin 128) : (soTile b r).emb (ix3 0 0 l) = ix3 b r l := by
  funext a; fin_cases a <;> exact Fin.ext (by simp [Rect.emb_apply])
theorem slab_emb (b : Fin 3) (s : Fin 640) (d : Fin 1536) : (slab b).emb (ix3 0 s d) = ix3 b s d := by
  funext a; fin_cases a <;> exact Fin.ext (by simp [Rect.emb_apply])
theorem srSlab_emb (b : Fin 3) (s : Fin 640) (l : Fin 128) : (srSlab b).emb (ix3 0 s l) = ix3 b s l := by
  funext a; fin_cases a <;> exact Fin.ext (by simp [Rect.emb_apply])
theorem wsTile_emb (j : Fin 6) (p : Fin 3) (c : Fin 256) : (wsTile j p).emb (ix2 0 c) = ix2 0 ⟨1536 * p.val + 256 * j.val + c.val, by omega⟩ := by
  funext a; fin_cases a <;> exact Fin.ext (by simp [Rect.emb_apply])
theorem whTile_emb (j : Fin 6) (p : Fin 3) (d : Fin 1536) (c : Fin 256) :
    (whTile j p).emb (ix2 d c) = ix2 d ⟨1536 * p.val + 256 * j.val + c.val, by omega⟩ := by
  funext a; fin_cases a <;> exact Fin.ext (by simp [Rect.emb_apply])
theorem wDst_emb (j : Fin 6) (p : Fin 3) (d : Fin 1536) (c : Fin 256) : (wDst j p).view.emb (ix2 d c) = (wTile j p).emb (ix4 0 0 d c) := by
  show (wTile j p).emb (Shape.reshapeEquiv (s := S1x1x1536x256) (s' := S1536x256) (by decide) (ix2 d c)) = _
  exact congrArg (wTile j p).emb (ValueIdx.reshapeEquiv_ix2_11ab (by decide) d c)
theorem zcTile_emb (b : Fin 3) (j : Fin 6) (s : Fin 640) (c : Fin 256) : (zcTile b j).emb (ix3 0 s c) = ix3 b s ⟨256 * j.val + c.val, by omega⟩ := by
  funext a; fin_cases a <;> exact Fin.ext (by simp [Rect.emb_apply])
theorem zsTile_emb (b : Fin 3) (j : Fin 6) (c : Fin 256) : (zsTile b j).emb (ix3 0 0 c) = ix3 b 0 ⟨256 * j.val + c.val, by omega⟩ := by
  funext a; fin_cases a <;> exact Fin.ext (by simp [Rect.emb_apply])

theorem qB_emb (n : Fin 5) (h : Fin 2) (s l : Fin 128) :
    (qB n h).emb (ix3 0 s l) = ix3 0 ⟨128 * n.val + s.val, by omega⟩ ⟨128 * h.val + l.val, by omega⟩ := by
  funext a; fin_cases a <;> exact Fin.ext (by simp [Rect.emb_apply])
theorem hsTile_emb (j : Fin 6) (c : Fin 256) : (hsTile j).emb (ix2 0 c) = ix2 0 ⟨256 * j.val + c.val, by omega⟩ := by
  funext a; fin_cases a <;> exact Fin.ext (by simp [Rect.emb_apply])

section Ends
variable (U : Vec Ideal S3x640x1536 .bf16) (W : Vec Ideal S1536x4608 .fp8e4m3) (Ws : Vec Ideal S1x4608 .f32) (Hs : Vec Ideal S1x1536 .f32) (Cv : Vec Ideal S3x640x1536 .f32)

/-! ## The greatest magnitude of a token, found lane block by lane block -/

theorem uT_at (b : Fin 3) (r : Fin 5) (c : Fin 12) (s l : Fin 128) :
    uT U b r c (ix3 0 s l) = U (ix3 b ⟨128 * r.val + s.val, by omega⟩ ⟨128 * c.val + l.val, by omega⟩) := by
  unfold uT
  rw [uTile_emb]

theorem maxAbsV_le (b : Fin 3) (r : Fin 5) (s l : Fin 128) (a : EReal) (L : List (Fin 12)) (m : FVec Ideal S128x128 .bf16) :
    (maxAbsV U b r L m (ix2 s l) : EReal) ≤ a ↔ (m (ix2 s l) : EReal) ≤ a ∧ ∀ c ∈ L, mag (uT U b r c (ix3 0 s l)) ≤ a := by
  induction L generalizing m with
  | nil => simp [maxAbsV]
  | cons c L ih =>
    have e : (maximumf m (absTile (uT U b r c)) (ix2 s l) : EReal) = max (m (ix2 s l) : EReal) (mag (uT U b r c (ix3 0 s l))) := by
      rw [← absTile_at]; rfl
    rw [maxAbsV, ih, e]
    simp only [List.mem_cons, forall_eq_or_imp, max_le_iff, and_assoc]

theorem blocks : ∀ c : Fin 12, c = 0 ∨ c ∈ ([1, 2, 3, 4, 5, 6, 7, 8, 9, 10, 11] : List (Fin 12)) := by decide

theorem xU_at (b : Fin 3) (r : Fin 5) (s l : Fin 128) : xU U b r (ix2 s l) = uM U b ⟨128 * r.val + s.val, by omega⟩ := by
  unfold xU uM
  rw [rowX_at]
  congr 1
  refine eq_of_forall_ge_iff fun a => ?_
  rw [Finset.fold_max_le, Finset.fold_max_le]
  refine and_congr_right fun _ => ⟨fun h d _ => ?_, fun h k _ => ?_⟩
  · have hk := (maxAbsV_le U b r s ⟨d.val % 128, by omega⟩ a _ _).mp (h ⟨d.val % 128, by omega⟩ (Finset.mem_univ _))
    have key : mag (uT U b r ⟨d.val / 128, by omega⟩ (ix3 0 s ⟨d.val % 128, by omega⟩)) ≤ a := by
      rcases blocks ⟨d.val / 128, by omega⟩ with h0 | h1
      · rw [h0, ← absTile_at]
        exact hk.1
      · exact hk.2 _ h1
    rw [uT_at] at key
    have e : (⟨128 * (d.val / 128) + d.val % 128, by omega⟩ : Fin 1536) = d := Fin.ext (by simp only []; omega)
    simp only [e] at key
    exact key
  · refine (maxAbsV_le U b r s k a _ _).mpr ⟨?_, fun c _ => ?_⟩
    · rw [absTile_at, uT_at]
      exact h _ (Finset.mem_univ _)
    · rw [uT_at]
      exact h _ (Finset.mem_univ _)

/-! ## The scales and the codes of `u` -/

/-- A token is the `s % 128`-th of block `s / 128`. -/
theorem token (s : Fin 640) : (⟨128 * (s.val / 128) + s.val % 128, by omega⟩ : Fin 640) = s := Fin.ext (by simp only []; omega)
theorem lane (d : Fin 1536) : (⟨128 * (d.val / 128) + d.val % 128, by omega⟩ : Fin 1536) = d := Fin.ext (by simp only []; omega)

theorem scale_at (b : Fin 3) (r : Fin 5) (s l : Fin 128) : scaleOf S128x128 (xU U b r) (ix2 s l) = uS U b ⟨128 * r.val + s.val, by omega⟩ := by
  rw [scaleOf_at, xU_at]
  rfl

theorem specSR_ix (b : Fin 3) (s : Fin 640) (l : Fin 128) : specSR U (ix3 b s l) = uS U b s := by
  have h := specSR_at U b ⟨s.val / 128, by omega⟩ (ix3 0 ⟨s.val % 128, by omega⟩ l)
  rw [srTile_emb] at h
  simp only [token] at h
  rw [h]
  refine Eq.trans ?_ ((scale_at U b ⟨s.val / 128, by omega⟩ ⟨s.val % 128, by omega⟩ l).trans (by simp only [token]))
  generalize scaleOf (F := Ideal) S128x128 _ = y
  pointwise

theorem specSO_ix (b : Fin 3) (r : Fin 5) (l : Fin 128) : specSO U (ix3 b r l) = uS U b ⟨128 * r.val + l.val, by omega⟩ := by
  have h := specSO_at U b r (ix3 0 0 l)
  rw [soTile_emb] at h
  rw [h, scaleRow_at, scale_at]

theorem specUC_ix (b : Fin 3) (s : Fin 640) (d : Fin 1536) : specUC U (ix3 b s d) = uC U b s d := by
  have h := specUC_at U b ⟨s.val / 128, by omega⟩ ⟨d.val / 128, by omega⟩ (ix3 0 ⟨s.val % 128, by omega⟩ ⟨d.val % 128, by omega⟩)
  rw [uTile_emb] at h
  simp only [token, lane] at h
  rw [h, codeTile_at, uT_at]
  have e : (truncf .bf16 (invOf S128x128 (xU U b ⟨s.val / 128, by omega⟩)) bitsLt_bf16_f32 : FVec Ideal S128x128 .bf16) (ix2 ⟨s.val % 128, by omega⟩ ⟨d.val % 128, by omega⟩)
      = rInv (uM U b ⟨128 * (s.val / 128) + s.val % 128, by omega⟩) := (invOf_at _ _ _).trans (by rw [xU_at])
  rw [e]
  simp only [token, lane]
  rfl

/-! ## The projections -/

theorem wV_ix (j : Fin 6) (p : Fin 3) (d : Fin 1536) (c : Fin 256) :
    wV W ((wTile j p).emb (ix4 0 0 d c)) = W (ix2 d ⟨1536 * p.val + 256 * j.val + c.val, by omega⟩) := by
  rw [← wDst_emb, wV_at, whTile_emb]

theorem prj_ix (j : Fin 6) (b : Fin 3) (p : Fin 3) (s : Fin 640) (c : Fin 256) :
    prj U W Ws j b p (ix2 s c) = pr U W Ws b s ⟨1536 * p.val + 256 * j.val + c.val, by omega⟩ := by
  unfold prj
  rw [projTile_at _ _ _ _ (fun s => uS U b s) (fun s l => by rw [srSlab_emb, specSR_ix])]
  unfold pr
  simp only [slab_emb, specUC_ix, wV_ix, wsTile_emb]

theorem z_ix (j : Fin 6) (b : Fin 3) (s : Fin 640) (c : Fin 256) :
    shapeCast S640x256 (zL U W Ws j b) shapeCasts_S1x640x256_S640x256 (ix2 s c) = zV U W Ws b s ⟨256 * j.val + c.val, by omega⟩ := by
  have e : shapeCast S640x256 (zL U W Ws j b) shapeCasts_S1x640x256_S640x256 (ix2 s c) = prj U W Ws j b 1 (ix2 s c) * prj U W Ws j b 2 (ix2 s c) := by
    unfold zL
    generalize prj U W Ws j b 1 = k
    generalize prj U W Ws j b 2 = v
    pointwise
  rw [e, prj_ix, prj_ix]
  unfold zV
  congr 2 <;> exact Fin.ext (by simp only []; omega)

theorem zX_ix (j : Fin 6) (b : Fin 3) (c : Fin 256) :
    colX (shapeCast S640x256 (zL U W Ws j b) shapeCasts_S1x640x256_S640x256) (ix2 0 c) = zM U W Ws b ⟨256 * j.val + c.val, by omega⟩ := by
  rw [colX_at]
  unfold zM
  exact congrArg (· * _) (Finset.fold_congr fun s _ => congrArg mag (z_ix U W Ws j b s c))

theorem channel (d : Fin 1536) : (⟨256 * (d.val / 256) + d.val % 256, by omega⟩ : Fin 1536) = d := Fin.ext (by simp only []; omega)

theorem specZC_ix (b : Fin 3) (s : Fin 640) (d : Fin 1536) : specZC U W Ws (ix3 b s d) = zC U W Ws b s d := by
  have h := specZC_at U W Ws b ⟨d.val / 256, by omega⟩ (ix3 0 s ⟨d.val % 256, by omega⟩)
  rw [zcTile_emb] at h
  simp only [channel] at h
  rw [h, zCodeTile_at, z_ix, zX_ix]
  simp only [channel]
  rfl

theorem specZS_ix (b : Fin 3) (d : Fin 1536) : specZS U W Ws (ix3 b 0 d) = zS U W Ws b d := by
  have h := specZS_at U W Ws b ⟨d.val / 256, by omega⟩ (ix3 0 0 ⟨d.val % 256, by omega⟩)
  rw [zsTile_emb] at h
  simp only [channel] at h
  rw [h]
  have e : scaleOf S1x256 (colX (shapeCast S640x256 (zL U W Ws ⟨d.val / 256, by omega⟩ b) shapeCasts_S1x640x256_S640x256)) (ix2 0 ⟨d.val % 256, by omega⟩) = zS U W Ws b d := by
    rw [scaleOf_at, zX_ix]
    simp only [channel]
    rfl
  rw [← e]
  generalize scaleOf (F := Ideal) S1x256 _ = y
  pointwise

/-! ## The result `y` -/

theorem zScale_ix (j : Fin 6) (b : Fin 3) (c : Fin 256) :
    scaleOf S1x256 (colX (shapeCast S640x256 (zL U W Ws j b) shapeCasts_S1x640x256_S640x256)) (ix2 0 c) = zS U W Ws b ⟨256 * j.val + c.val, by omega⟩ := by
  rw [scaleOf_at, zX_ix]
  rfl

theorem qL_ix (j : Fin 6) (b : Fin 3) (s : Fin 640) (c : Fin 256) : qL U W Ws j b (ix3 0 s c) = pr U W Ws b s ⟨256 * j.val + c.val, by omega⟩ := by
  have e : qL U W Ws j b (ix3 0 s c) = prj U W Ws j b 0 (ix2 s c) := by
    unfold qL
    generalize prj U W Ws j b 0 = x
    pointwise
  rw [e, prj_ix]
  congr 1
  exact Fin.ext (by simp)

theorem yVal_ix (b : Fin 3) (n : Fin 5) (j : Fin 6) (h : Fin 2) (s l : Fin 128) (t : Fin 640) (d : Fin 1536)
    (ht : 128 * n.val + s.val = t.val) (hd : 256 * j.val + (128 * h.val + l.val) = d.val) :
    yVal U W Ws Hs Cv b n j h (ix3 0 s l) = yV U W Ws Hs Cv b t d := by
  have lt : 128 * n.val + s.val < 640 := by omega
  have ld : 256 * j.val + (128 * h.val + l.val) < 1536 := by omega
  obtain rfl : t = ⟨128 * n.val + s.val, lt⟩ := Fin.ext ht.symm
  obtain rfl : d = ⟨256 * j.val + (128 * h.val + l.val), ld⟩ := Fin.ext hd.symm
  unfold yVal yV
  rw [yTile_at, zScale_ix, qB_emb, qL_ix, hsTile_emb, uTile_emb]
  have e : (⟨128 * (laneOf j h).val + l.val, by omega⟩ : Fin 1536) = ⟨256 * j.val + (128 * h.val + l.val), by omega⟩ := Fin.ext (by simp only; omega)
  rw [e]

theorem specY_ix (b : Fin 3) (s : Fin 640) (d : Fin 1536) : specY U W Ws Hs Cv (ix3 b s d) = yV U W Ws Hs Cv b s d := by
  have h := specY_at U W Ws Hs Cv b ⟨s.val / 128, by omega⟩ ⟨d.val / 256, by omega⟩ ⟨d.val % 256 / 128, by omega⟩ (ix3 0 ⟨s.val % 128, by omega⟩ ⟨d.val % 128, by omega⟩)
  rw [uTile_emb, yVal_ix U W Ws Hs Cv b _ _ _ _ _ s d (by simp only; omega) (by simp only; omega)] at h
  have e : (⟨128 * (laneOf ⟨d.val / 256, by omega⟩ ⟨d.val % 256 / 128, by omega⟩).val + d.val % 128, by simp only; omega⟩ : Fin 1536) = d := Fin.ext (by simp only; omega)
  simp only [token] at h
  rw [← h]
  exact congrArg (fun x => specY U W Ws Hs Cv (ix3 b s x)) e.symm

end Ends

end Cert.Value.Ker

end
-- ==== Proof.KerRun.lean ====
/-
  Hand-written, untrusted. The kernel's run at the ideal values: what its results hold at the end, as functions of the
  arguments.
-/
module

public import proofs.«01_k».proof.Proof.KerEnd
public import proofs.«01_k».proof.Proof.Frame
public import Idealize.ShloMosaic.Lib.Claim
public import Idealize.ShloMosaic.Lib.Pipeline.ValueKit

@[expose] public section

set_option maxRecDepth 16384

noncomputable section

namespace Cert.Value.Ker

open Idealize.ShloMosaic Idealize.ShloMosaic.TcCoe Idealize.SL.Sem Cert.Kernel Cert.Kernel.Gen Cert.Kernel.Hand

variable (m : (ℓ : Loc nD τ sig) → Buf (Elt Ideal) ℓ) (g : Dev nD → PrngReg)

/-- The weights' scales as one row. -/
def wsRow (w : Vec Ideal S4608 .f32) : Vec Ideal S1x4608 .f32 := fun y => w (ix1 (y 1))

/-- The filters' scales as one row, 16 channels to a filter. -/
def hsRow (h : Vec Ideal S96 .f32) : Vec Ideal S1x1536 .f32 := fun y => h (ix1 ⟨(y 1).val / 16, by have : (y 1).val < 1536 := (y 1).isLt; omega⟩)

theorem at_0 : win0_0.index t0_0 = ![0, 0] := by decide
theorem at_1 : win0_1.index t0_0 = ![0, 0] := by decide
theorem at_2 : win0_2.index t0_0 = ![0, 0, 0] := by decide

/-- The weights' scales' row as the region finds it: the argument, reshaped. -/
theorem V_ws (c : Dev nD) : V m c main_v3 = shapeCast S1x4608 (m ((c : Thread nD τ).loc main_arg2)) shapeCasts_S4608_S1x4608 := by
  show StableHlo.after (List.flatten [hostOps0]) (fun b => m (c, b)) (Proc.devRef .tc main_v3) = _
  simp only [hostOps0, List.flatten_cons, List.flatten_nil, List.append_nil, StableHlo.after_cons, StableHlo.after_nil]
  rw [StableHlo.reshape_result, StableHlo.reshape_result_ne (h := by decide), StableHlo.reshape_result_ne (h := by decide), StableHlo.unary_result_ne (h := by decide)]
  rfl

/-- The filters' scales' row as the region finds it. -/
theorem V_hs (c : Dev nD) : V m c main_v2 = shapeCast S1x1536 (shapeCast S1536 (broadcastInDim S96x16 ![0] bcast_S96_S96x16_0 (m ((c : Thread nD τ).loc main_arg3))) shapeCasts_S96x16_S1536) shapeCasts_S1536_S1x1536 := by
  show StableHlo.after (List.flatten [hostOps0]) (fun b => m (c, b)) (Proc.devRef .tc main_v2) = _
  simp only [hostOps0, List.flatten_cons, List.flatten_nil, List.append_nil, StableHlo.after_cons, StableHlo.after_nil]
  rw [StableHlo.reshape_result_ne (h := by decide), StableHlo.reshape_result, StableHlo.reshape_result, StableHlo.unary_result]
  rfl

/-- The scales' row in one window is the whole row. -/
theorem row_read (X : Vec Ideal S1x4608 .f32) : ((win0_0.blk t0_0).view.read (Elt Ideal) X : Vec Ideal S1x4608 .f32) = X := by
  funext y
  blk_ext [at_0]
/-- So is the filters' scales'. -/
theorem hs_read (X : Vec Ideal S1x1536 .f32) : ((win0_1.blk t0_0).view.read (Elt Ideal) X : Vec Ideal S1x1536 .f32) = X := by
  funext y
  blk_ext [at_1]
/-- The convolution sums in one window are all of them. -/
theorem cv_read (X : Vec Ideal S3x640x1536 .f32) : ((win0_2.blk t0_0).view.read (Elt Ideal) X : Vec Ideal S3x640x1536 .f32) = X := by
  funext y
  blk_ext [at_2]

/-- A vector reshaped to one row. -/
theorem row_of (w : Vec Ideal S4608 .f32) : shapeCast S1x4608 w shapeCasts_S4608_S1x4608 = wsRow w := by
  funext y
  unfold wsRow
  idx_vars y
  obtain rfl : y0 = 0 := Subsingleton.elim _ _
  refine congrArg w (Shape.reshapeEquiv_eq_of_rowMajor _ ?_)
  rw [Shape.rowMajor_val_one, Shape.rowMajor_val_two]
  show y1.val = 0 * 4608 + y1.val
  omega

/-- The filters' scales, each for its 16 channels, reshaped to one row. -/
theorem row_hs (h : Vec Ideal S96 .f32) : shapeCast S1x1536 (shapeCast S1536 (broadcastInDim S96x16 ![0] bcast_S96_S96x16_0 h) shapeCasts_S96x16_S1536) shapeCasts_S1536_S1x1536 = hsRow h := by
  funext y
  unfold hsRow
  idx_vars y
  obtain rfl : y0 = 0 := Subsingleton.elim _ _
  have e : broadcastInDim S96x16 ![0] bcast_S96_S96x16_0 h (ix2 ⟨y1.val / 16, by omega⟩ ⟨y1.val % 16, by omega⟩) = h (ix1 ⟨y1.val / 16, by omega⟩) := by
    pointwise
  refine Eq.trans ?_ e
  generalize broadcastInDim S96x16 ![0] bcast_S96_S96x16_0 h = x
  have e1 : shapeCast S1536 x shapeCasts_S96x16_S1536 (ix1 y1) = x (ix2 ⟨y1.val / 16, by omega⟩ ⟨y1.val % 16, by omega⟩) := by
    refine congrArg x (Shape.reshapeEquiv_eq_of_rowMajor _ ?_)
    rw [Shape.rowMajor_val_two, Shape.rowMajor_val_one]
    show y1.val / 16 * 16 + y1.val % 16 = y1.val
    omega
  refine Eq.trans ?_ e1
  generalize shapeCast S1536 x shapeCasts_S96x16_S1536 = z
  refine congrArg z (Shape.reshapeEquiv_eq_of_rowMajor _ ?_)
  rw [Shape.rowMajor_val_one, Shape.rowMajor_val_two]
  show y1.val = 0 * 1536 + y1.val
  omega

theorem wsAt_eq (c : Dev nD) : wsAt m c = wsRow (m ((c : Thread nD τ).loc main_arg2)) :=
  (row_read (V m c main_v3)).trans ((V_ws m c).trans (row_of _))
theorem hsAt_eq (c : Dev nD) : hsAt m c = hsRow (m ((c : Thread nD τ).loc main_arg3)) :=
  (hs_read (V m c main_v2)).trans ((V_hs m c).trans (row_hs _))
theorem cvAt_eq (c : Dev nD) : cvAt m c = m ((c : Thread nD τ).loc main_arg4) :=
  (cv_read (V m c main_arg4)).trans (V_main_arg4 m c)

theorem final_us (c : Dev nD) : final m c main_v5 = shapeCast S3x640x1 (specSO (m ((c : Thread nD τ).loc main_arg0))) shapeCasts_S3x5x128_S3x640x1 := by
  unfold final hostOps1
  simp only [List.flatten_cons, List.flatten_nil, List.append_nil]
  rw [StableHlo.after_cons, StableHlo.after_nil, StableHlo.reshape_result, Pipeline.withArrays_of_ne _ c _ _ _ (by decide), Pipeline.withR_of_mem _ _ _ _ _ (by decide), G_1, V_main_arg0]
  rfl

/-- The scales of `u` as the result holds them. -/
theorem us_ix (U : Vec Ideal S3x640x1536 .bf16) (b : Fin 3) (s : Fin 640) :
    shapeCast S3x640x1 (specSO U) shapeCasts_S3x5x128_S3x640x1 (ix3 b s 0) = uS U b s := by
  have e : shapeCast S3x640x1 (specSO U) shapeCasts_S3x5x128_S3x640x1 (ix3 b s 0) = specSO U (ix3 b ⟨s.val / 128, by omega⟩ ⟨s.val % 128, by omega⟩) := by
    generalize specSO U = y
    refine congrArg y (Shape.reshapeEquiv_eq_of_rowMajor _ ?_)
    rw [Shape.rowMajor_val_three, Shape.rowMajor_val_three]
    show (b.val * 5 + s.val / 128) * 128 + s.val % 128 = (b.val * 640 + s.val) * 1 + 0
    omega
  rw [e, specSO_ix]
  simp only [token]

end Cert.Value.Ker

end
-- ==== Proof.RefValue.lean ====
/-
  Hand-written, untrusted. What the reference computes, read at an index.
-/
module

public import proofs.«01_k».proof.Proof.Gen.ReferenceIdeal.Frame
public import proofs.«01_k».proof.Proof.Scale

@[expose] public section

set_option maxRecDepth 16384

noncomputable section

namespace Cert.Value.Ref

open Idealize.ShloMosaic Cert.ReferenceIdeal Cert.ReferenceIdeal.Gen

/-! ## The reference's steps on one batch row -/

/-- A batch row, widened. -/
def wide (v : Vec Ideal S1x640x1536 .bf16) : FVec Ideal S640x1536 .f32 := extf .f32 (shapeCast S640x1536 v shapeCasts_S1x640x1536_S640x1536) bitsLt_bf16_f32

/-- Its tokens' greatest magnitudes over 448. -/
def rowsMax (x : FVec Ideal S640x1536 .f32) : FVec Ideal S640x1 .f32 :=
  mulf (shapeCast S640x1 (multiReduction .maximumf [1] S640 (absf x) 0xFF800000#32 reduces_S640x1536_S640 (.inl rfl) rfl) shapeCasts_S640_S640x1)
    (broadcast S640x1 (Scalar.ofBits .f32 0x3B124925#32))

/-- The powers of two, in a row. -/
def powsR : FVec Ideal S1x253 .f32 := exp2 (sitofp .f32 (subi (iota .tc S1x253 32 [1] iota_S1x253_d1_w32) (broadcast S1x253 126#32)))

/-- The greatest power of two that is at most each token's quotient. -/
def belowR (m : FVec Ideal S640x1 .f32) : FVec Ideal S640x1 .f32 :=
  shapeCast S640x1 (multiReduction .maximumf [1] S640 (select (cmpf .ole (broadcastTo S640x253 powsR broadcasts_S1x253_S640x253) (broadcastTo S640x253 m broadcasts_S640x1_S640x253))
    (broadcastTo S640x253 (shapeCast S1x253 powsR shapeCasts_S1x253_S1x253) broadcasts_S1x253_S640x253) (broadcast S640x253 (Scalar.ofBits .f32 0x00000000#32)))
    0xFF800000#32 reduces_S640x253_S640 (.inl rfl) rfl) shapeCasts_S640_S640x1

/-- A token's scale. -/
def scaleR (m : FVec Ideal S640x1 .f32) : FVec Ideal S640x1 .f32 :=
  select (andi (cmpf .ogt (belowR m) (broadcast S640x1 (Scalar.ofBits .f32 0x00000000#32))) (cmpf .olt m (broadcast S640x1 (Scalar.ofBits .f32 0x7F000000#32))))
    (addf (belowR m) (belowR m)) (broadcast S640x1 (Scalar.ofBits .f32 0x3F800000#32))

/-- Its inverse. -/
def invR (sc : FVec Ideal S640x1 .f32) : FVec Ideal S640x1 .f32 :=
  select (cmpf .ogt sc (broadcast S640x1 (Scalar.ofBits .f32 0x7E800000#32))) (broadcast S640x1 (Scalar.ofBits .f32 0x00000000#32))
    (divf (broadcast S640x1 (Scalar.ofBits .f32 0x3F800000#32)) sc)

/-- Values times inverse scales, clipped. -/
def clipped (x inv : FVec Ideal S640x1536 .f32) : FVec Ideal S640x1536 .fp8e4m3 :=
  truncf .fp8e4m3 (minimumf (broadcast S640x1536 (Scalar.ofBits .f32 0x43E00000#32)) (maximumf (broadcast S640x1536 (Scalar.ofBits .f32 0xC3E00000#32)) (mulf x inv)))
    bitsLt_fp8e4m3_f32

/-- The scales and the codes of a batch row of `u`. -/
def rUS (v : Vec Ideal S1x640x1536 .bf16) : FVec Ideal S640x1 .f32 := scaleR (rowsMax (wide v))
def rUC (v : Vec Ideal S1x640x1536 .bf16) : FVec Ideal S640x1536 .fp8e4m3 := clipped (wide v) (broadcastTo S640x1536 (invR (rUS v)) broadcasts_S640x1_S640x1536)

/-- The channels' greatest magnitudes over 448. -/
def colsMax (z : FVec Ideal S640x1536 .f32) : FVec Ideal S1x1536 .f32 :=
  mulf (shapeCast S1x1536 (multiReduction .maximumf [0] S1536 (absf z) 0xFF800000#32 reduces_S640x1536_S1536 (.inl rfl) rfl) shapeCasts_S1536_S1x1536)
    (broadcast S1x1536 (Scalar.ofBits .f32 0x3B124925#32))

/-- The powers of two, in a column. -/
def powsC : FVec Ideal S253x1 .f32 := exp2 (sitofp .f32 (subi (iota .tc S253x1 32 [0] iota_S253x1_d0_w32) (broadcast S253x1 126#32)))

/-- The greatest power of two that is at most each channel's quotient. -/
def belowC (m : FVec Ideal S1x1536 .f32) : FVec Ideal S1x1536 .f32 :=
  shapeCast S1x1536 (multiReduction .maximumf [0] S1536 (select (cmpf .ole (broadcastTo S253x1536 powsC broadcasts_S253x1_S253x1536) (broadcastTo S253x1536 m broadcasts_S1x1536_S253x1536))
    (broadcastTo S253x1536 (shapeCast S253x1 powsC shapeCasts_S253x1_S253x1) broadcasts_S253x1_S253x1536) (broadcast S253x1536 (Scalar.ofBits .f32 0x00000000#32)))
    0xFF800000#32 reduces_S253x1536_S1536 (.inl rfl) rfl) shapeCasts_S1536_S1x1536

/-- A channel's scale. -/
def scaleC (m : FVec Ideal S1x1536 .f32) : FVec Ideal S1x1536 .f32 :=
  select (andi (cmpf .ogt (belowC m) (broadcast S1x1536 (Scalar.ofBits .f32 0x00000000#32))) (cmpf .olt m (broadcast S1x1536 (Scalar.ofBits .f32 0x7F000000#32))))
    (addf (belowC m) (belowC m)) (broadcast S1x1536 (Scalar.ofBits .f32 0x3F800000#32))

/-- Its inverse. -/
def invC (sc : FVec Ideal S1x1536 .f32) : FVec Ideal S1x1536 .f32 :=
  select (cmpf .ogt sc (broadcast S1x1536 (Scalar.ofBits .f32 0x7E800000#32))) (broadcast S1x1536 (Scalar.ofBits .f32 0x00000000#32))
    (divf (broadcast S1x1536 (Scalar.ofBits .f32 0x3F800000#32)) sc)

/-- The three projections, side by side. -/
def rP (v : Vec Ideal S1x640x1536 .bf16) (W : Vec Ideal S1536x4608 .fp8e4m3) (Ws : Vec Ideal S1x4608 .f32) : FVec Ideal S640x4608 .f32 :=
  mulf (mulf (matmul (φ₁ := .fp8e4m3) (φ₂ := .fp8e4m3) dot_S640x1536_S1536x4608_S640x4608_1_0_0_1_n_n none (rUC v) W (constant S640x4608 .f32 0x00000000#32))
    (broadcastTo S640x4608 (rUS v) broadcasts_S640x1_S640x4608)) (broadcastTo S640x4608 (shapeCast S1x4608 Ws shapeCasts_S1x4608_S1x4608) broadcasts_S1x4608_S640x4608)

/-- `z = k · v`, its scales and its codes. -/
def rZ (v : Vec Ideal S1x640x1536 .bf16) (W : Vec Ideal S1536x4608 .fp8e4m3) (Ws : Vec Ideal S1x4608 .f32) : FVec Ideal S640x1536 .f32 :=
  mulf (extractStridedSlice S640x1536 ![0, 1536] (rP v W Ws) slices_S640x4608_o0_1536_S640x1536) (extractStridedSlice S640x1536 ![0, 3072] (rP v W Ws) slices_S640x4608_o0_3072_S640x1536)
def rZS (v : Vec Ideal S1x640x1536 .bf16) (W : Vec Ideal S1536x4608 .fp8e4m3) (Ws : Vec Ideal S1x4608 .f32) : FVec Ideal S1x1536 .f32 := scaleC (colsMax (rZ v W Ws))
def rZC (v : Vec Ideal S1x640x1536 .bf16) (W : Vec Ideal S1536x4608 .fp8e4m3) (Ws : Vec Ideal S1x4608 .f32) : FVec Ideal S640x1536 .fp8e4m3 :=
  clipped (rZ v W Ws) (broadcastTo S640x1536 (invC (rZS v W Ws)) broadcasts_S1x1536_S640x1536)

/-- `q`, and a batch row of `y` from its convolution sums `C` and the filters' scales `H`. -/
def rQ (v : Vec Ideal S1x640x1536 .bf16) (W : Vec Ideal S1536x4608 .fp8e4m3) (Ws : Vec Ideal S1x4608 .f32) : FVec Ideal S640x1536 .f32 :=
  extractStridedSlice S640x1536 ![0, 0] (rP v W Ws) slices_S640x4608_o0_0_S640x1536
def rY (v : Vec Ideal S1x640x1536 .bf16) (W : Vec Ideal S1536x4608 .fp8e4m3) (Ws : Vec Ideal S1x4608 .f32) (C : Vec Ideal S1x640x1536 .f32) (H : Vec Ideal S1x1536 .f32) : FVec Ideal S640x1536 .bf16 :=
  truncf .bf16 (mulf (rQ v W Ws) (mulf (mulf (shapeCast S640x1536 C shapeCasts_S1x640x1536_S640x1536)
      (broadcastTo S640x1536 (shapeCast S1x1536 H shapeCasts_S1x1536_S1x1536) broadcasts_S1x1536_S640x1536))
    (broadcastTo S640x1536 (rZS v W Ws) broadcasts_S1x1536_S640x1536))) bitsLt_bf16_f32

/-! ## The printed values of the three rows -/

section Rows
variable (v : Vec Ideal S1x640x1536 .bf16) (W : Vec Ideal S1536x4608 .fp8e4m3) (Ws : Vec Ideal S1x4608 .f32)

theorem us0 : k0_pay3 v = rUS v := rfl
theorem uc0 : k0_pay4 v = rUC v := rfl
theorem q0 : k0_pay8 (rUS v) (rUC v) W Ws = rQ v W Ws := rfl
theorem z0 : k0_pay9 (rUS v) (rUC v) W Ws = rZ v W Ws := rfl
theorem m0 : k0_pay10 (rUS v) (rUC v) W Ws = colsMax (rZ v W Ws) := by unfold k0_pay10; rw [z0]; rfl
theorem b0 : k0_pay11 (rUS v) (rUC v) W Ws = belowC (colsMax (rZ v W Ws)) := by unfold k0_pay11; rw [m0]; rfl
theorem c0 : k0_pay14 (k0_pay11 (rUS v) (rUC v) W Ws) (k0_pay12 (rUS v) (rUC v) W Ws) (k0_pay13 (rUS v) (rUC v) W Ws) = rZS v W Ws := by
  unfold k0_pay12 k0_pay13; rw [b0, m0]; rfl
theorem zc0 : k0_pay15 (k0_pay9 (rUS v) (rUC v) W Ws) (k0_pay11 (rUS v) (rUC v) W Ws) (k0_pay12 (rUS v) (rUC v) W Ws) (k0_pay13 (rUS v) (rUC v) W Ws)
    = shapeCast S1x640x1536 (rZC v W Ws) shapeCasts_S640x1536_S1x640x1536 := by
  unfold k0_pay15; rw [c0, z0]; rfl
theorem y0 (C : Vec Ideal S1x640x1536 .f32) (H : Vec Ideal S1x1536 .f32) : k0_pay17 (k0_pay8 (rUS v) (rUC v) W Ws) (k0_pay11 (rUS v) (rUC v) W Ws) (k0_pay12 (rUS v) (rUC v) W Ws) (k0_pay13 (rUS v) (rUC v) W Ws) C H
    = shapeCast S1x640x1536 (rY v W Ws C H) shapeCasts_S640x1536_S1x640x1536 := by
  unfold k0_pay17; rw [c0, q0]; rfl

theorem us1 : k0_pay19 v = rUS v := rfl
theorem uc1 : k0_pay20 v = rUC v := rfl
theorem q1 : k0_pay24 (rUS v) (rUC v) W Ws = rQ v W Ws := rfl
theorem z1 : k0_pay25 (rUS v) (rUC v) W Ws = rZ v W Ws := rfl
theorem m1 : k0_pay26 (rUS v) (rUC v) W Ws = colsMax (rZ v W Ws) := by unfold k0_pay26; rw [z1]; rfl
theorem b1 : k0_pay27 (rUS v) (rUC v) W Ws = belowC (colsMax (rZ v W Ws)) := by unfold k0_pay27; rw [m1]; rfl
theorem c1 : k0_pay29 (k0_pay27 (rUS v) (rUC v) W Ws) (k0_pay28 (rUS v) (rUC v) W Ws) = rZS v W Ws := by
  unfold k0_pay28; rw [b1, m1]; rfl
theorem zc1 : k0_pay30 (k0_pay25 (rUS v) (rUC v) W Ws) (k0_pay27 (rUS v) (rUC v) W Ws) (k0_pay28 (rUS v) (rUC v) W Ws)
    = shapeCast S1x640x1536 (rZC v W Ws) shapeCasts_S640x1536_S1x640x1536 := by
  unfold k0_pay30; rw [c1, z1]; rfl
theorem y1 (C : Vec Ideal S1x640x1536 .f32) (H : Vec Ideal S1x1536 .f32) : k0_pay32 (k0_pay24 (rUS v) (rUC v) W Ws) (k0_pay27 (rUS v) (rUC v) W Ws) (k0_pay28 (rUS v) (rUC v) W Ws) C H
    = shapeCast S1x640x1536 (rY v W Ws C H) shapeCasts_S640x1536_S1x640x1536 := by
  unfold k0_pay32; rw [c1, q1]; rfl

theorem us2 : k0_pay34 v = rUS v := rfl
theorem uc2 : k0_pay35 v = rUC v := rfl
theorem q2 : k0_pay39 (rUS v) (rUC v) W Ws = rQ v W Ws := rfl
theorem z2 : k0_pay40 (rUS v) (rUC v) W Ws = rZ v W Ws := rfl
theorem m2 : k0_pay41 (rUS v) (rUC v) W Ws = colsMax (rZ v W Ws) := by unfold k0_pay41; rw [z2]; rfl
theorem b2 : k0_pay42 (rUS v) (rUC v) W Ws = belowC (colsMax (rZ v W Ws)) := by unfold k0_pay42; rw [m2]; rfl
theorem c2 : k0_pay45 (k0_pay43 (rUS v) (rUC v) W Ws) (k0_pay44 (rUS v) (rUC v) W Ws) = rZS v W Ws := by
  unfold k0_pay43 k0_pay44; rw [b2, m2]; rfl
theorem zc2 : k0_pay46 (k0_pay40 (rUS v) (rUC v) W Ws) (k0_pay43 (rUS v) (rUC v) W Ws) (k0_pay44 (rUS v) (rUC v) W Ws)
    = shapeCast S1x640x1536 (rZC v W Ws) shapeCasts_S640x1536_S1x640x1536 := by
  unfold k0_pay46; rw [c2, z2]; rfl
theorem y2 (C : Vec Ideal S1x640x1536 .f32) (H : Vec Ideal S1x1536 .f32) : k0_pay1 (k0_pay48 (k0_pay39 (rUS v) (rUC v) W Ws) (k0_pay43 (rUS v) (rUC v) W Ws) (k0_pay44 (rUS v) (rUC v) W Ws) C H)
    = shapeCast S1x640x1536 (rY v W Ws C H) shapeCasts_S640x1536_S1x640x1536 := by
  unfold k0_pay48; rw [c2, q2]; rfl

end Rows

/-! ## The steps at an index -/

theorem powsR_at (k : Fin 253) : powsR (ix2 0 k) = power k := by
  unfold power
  pointwise [powsR]
theorem powsC_at (k : Fin 253) : powsC (ix2 k 0) = power k := by
  unfold power
  pointwise [powsC]
theorem belowR_at (m : FVec Ideal S640x1 .f32) (s : Fin 640) : belowR m (ix2 s 0) = rBelow (m (ix2 s 0)) := by
  unfold rBelow
  pointwise [belowR, powsR_at]
theorem belowC_at (m : FVec Ideal S1x1536 .f32) (d : Fin 1536) : belowC m (ix2 0 d) = rBelow (m (ix2 0 d)) := by
  unfold rBelow
  pointwise [belowC, powsC_at]
theorem scaleR_at (m : FVec Ideal S640x1 .f32) (s : Fin 640) : scaleR m (ix2 s 0) = rScale (m (ix2 s 0)) := by
  unfold rScale
  pointwise [scaleR, belowR_at]
theorem scaleC_at (m : FVec Ideal S1x1536 .f32) (d : Fin 1536) : scaleC m (ix2 0 d) = rScale (m (ix2 0 d)) := by
  unfold rScale
  pointwise [scaleC, belowC_at]
theorem clipped_at (x inv : FVec Ideal S640x1536 .f32) (s : Fin 640) (d : Fin 1536) : clipped x inv (ix2 s d) = clip (x (ix2 s d) * inv (ix2 s d)) := rfl

/-! ## The results, row by row -/

section Out
variable (x0 : Vec Ideal S3x640x1536 .bf16) (x1 : Vec Ideal S1536x4608 .fp8e4m3) (x2 : Vec Ideal S1x4608 .f32) (x3 : Vec Ideal S1x1536 .f32) (x4 : Vec Ideal S3x640x1536 .f32)

/-- A batch row of `u`, read off the whole. -/
def slabOf (b : Fin 3) : Vec Ideal S1x640x1536 .bf16 := fun x => x0 (ix3 b (x 1) (x 2))

theorem ld_0 : View.ld x0 r0_0 = slabOf x0 0 := by
  funext x; idx_vars x; unfold slabOf; pointwise
theorem ld_1 : View.ld x0 r0_6 = slabOf x0 1 := by
  funext x; idx_vars x; unfold slabOf; pointwise
theorem ld_2 : View.ld x0 r0_9 = slabOf x0 2 := by
  funext x; idx_vars x; unfold slabOf; pointwise
/-- A batch row of the convolution sums, read off the whole. -/
def cvOf (b : Fin 3) : Vec Ideal S1x640x1536 .f32 := fun x => x4 (ix3 b (x 1) (x 2))

theorem ldc_0 : View.ld x4 r0_0 = cvOf x4 0 := by
  funext x; idx_vars x; unfold cvOf; pointwise
theorem ldc_1 : View.ld x4 r0_6 = cvOf x4 1 := by
  funext x; idx_vars x; unfold cvOf; pointwise
theorem ldc_2 : View.ld x4 r0_9 = cvOf x4 2 := by
  funext x; idx_vars x; unfold cvOf; pointwise
theorem ld_hs : View.ld x3 r0_5 = x3 := by
  funext x; idx_vars x
  obtain rfl : x0 = 0 := Subsingleton.elim _ _
  pointwise
theorem ld_w : View.ld x1 r0_2 = x1 := by
  funext x; idx_vars x; pointwise
theorem ld_ws : View.ld x2 r0_3 = x2 := by
  funext x; idx_vars x
  obtain rfl : x0 = 0 := Subsingleton.elim _ _
  pointwise

theorem rowsMax_at (b : Fin 3) (s : Fin 640) : rowsMax (wide (slabOf x0 b)) (ix2 s 0) = uM x0 b s := by
  unfold uM mag
  pointwise [rowsMax, wide, slabOf]

end Out

end Cert.Value.Ref

end
-- ==== Proof.RefOut.lean ====
/-
  Hand-written, untrusted. What the reference leaves in its five results.
-/
module

public import proofs.«01_k».proof.Proof.RefValue

@[expose] public section

set_option maxRecDepth 16384

noncomputable section

namespace Cert.Value.Ref

open Idealize.ShloMosaic Cert.ReferenceIdeal Cert.ReferenceIdeal.Gen

/-! ## The rows' results at an index -/

section Out
variable (x0 : Vec Ideal S3x640x1536 .bf16) (x1 : Vec Ideal S1536x4608 .fp8e4m3) (x2 : Vec Ideal S1x4608 .f32) (x3 : Vec Ideal S1x1536 .f32) (x4 : Vec Ideal S3x640x1536 .f32)

theorem wide_at (b : Fin 3) (s : Fin 640) (d : Fin 1536) : wide (slabOf x0 b) (ix2 s d) = x0 (ix3 b s d) := by
  pointwise [wide, slabOf]

theorem rUS_at (b : Fin 3) (s : Fin 640) : rUS (slabOf x0 b) (ix2 s 0) = uS x0 b s := by
  unfold rUS uS
  rw [scaleR_at, rowsMax_at]

theorem invR_at (sc : FVec Ideal S640x1 .f32) (m : EReal) (s : Fin 640) (h : sc (ix2 s 0) = rScale m) : invR sc (ix2 s 0) = rInv m := by
  unfold rInv
  rw [← h]
  pointwise [invR]

theorem invC_at (sc : FVec Ideal S1x1536 .f32) (m : EReal) (d : Fin 1536) (h : sc (ix2 0 d) = rScale m) : invC sc (ix2 0 d) = rInv m := by
  unfold rInv
  rw [← h]
  pointwise [invC]

theorem overRows_at (x : FVec Ideal S640x1 .f32) (s : Fin 640) (d : Fin 1536) :
    broadcastTo S640x1536 x broadcasts_S640x1_S640x1536 (ix2 s d) = x (ix2 s 0) := by
  pointwise

theorem overCols_at (x : FVec Ideal S1x1536 .f32) (s : Fin 640) (d : Fin 1536) :
    broadcastTo S640x1536 x broadcasts_S1x1536_S640x1536 (ix2 s d) = x (ix2 0 d) := by
  pointwise

theorem rUC_at (b : Fin 3) (s : Fin 640) (d : Fin 1536) : rUC (slabOf x0 b) (ix2 s d) = uC x0 b s d := by
  unfold rUC uC
  rw [clipped_at, overRows_at, wide_at, invR_at _ (uM x0 b s) s (by rw [rUS_at]; rfl)]

theorem rP_at (b : Fin 3) (s : Fin 640) (c : Fin 4608) : rP (slabOf x0 b) x1 x2 (ix2 s c) = pr x0 x1 x2 b s c := by
  unfold pr
  pointwise [rP, rUS_at, rUC_at]

theorem rZ_at (b : Fin 3) (s : Fin 640) (d : Fin 1536) : rZ (slabOf x0 b) x1 x2 (ix2 s d) = zV x0 x1 x2 b s d := by
  unfold zV
  rw [← rP_at, ← rP_at]
  pointwise [rZ]

theorem colsMax_at (z : FVec Ideal S640x1536 .f32) (d : Fin 1536) : colsMax z (ix2 0 d) =
    (Finset.univ.fold max (Ideal.ofBits .f32 0xFF800000#32) fun s : Fin 640 => mag (z (ix2 s d))) * Ideal.ofBits .f32 0x3B124925#32 := by
  unfold mag
  pointwise [colsMax]

theorem rZM_at (b : Fin 3) (d : Fin 1536) : colsMax (rZ (slabOf x0 b) x1 x2) (ix2 0 d) = zM x0 x1 x2 b d := by
  unfold zM
  rw [colsMax_at]
  simp only [rZ_at]

theorem rZS_at (b : Fin 3) (d : Fin 1536) : rZS (slabOf x0 b) x1 x2 (ix2 0 d) = zS x0 x1 x2 b d := by
  unfold rZS zS
  rw [scaleC_at, rZM_at]

theorem rZC_at (b : Fin 3) (s : Fin 640) (d : Fin 1536) : rZC (slabOf x0 b) x1 x2 (ix2 s d) = zC x0 x1 x2 b s d := by
  unfold rZC zC
  rw [clipped_at, overCols_at, rZ_at, invC_at _ (zM x0 x1 x2 b d) d (by rw [rZS_at]; rfl)]

theorem rQ_at (b : Fin 3) (s : Fin 640) (d : Fin 1536) : rQ (slabOf x0 b) x1 x2 (ix2 s d) = pr x0 x1 x2 b s ⟨d.val, by omega⟩ := by
  rw [← rP_at]
  pointwise [rQ]

theorem y_at (q c z : FVec Ideal S640x1536 .f32) (s : Fin 640) (d : Fin 1536) :
    (truncf .bf16 (mulf q (mulf c z)) bitsLt_bf16_f32 : FVec Ideal S640x1536 .bf16) (ix2 s d) = q (ix2 s d) * (c (ix2 s d) * z (ix2 s d)) := rfl

theorem conv_at (b : Fin 3) (s : Fin 640) (d : Fin 1536) :
    (mulf (shapeCast S640x1536 (cvOf x4 b) shapeCasts_S1x640x1536_S640x1536)
      (broadcastTo S640x1536 (shapeCast S1x1536 x3 shapeCasts_S1x1536_S1x1536) broadcasts_S1x1536_S640x1536) : FVec Ideal S640x1536 .f32) (ix2 s d) = x4 (ix3 b s d) * x3 (ix2 0 d) := by
  pointwise [cvOf]

theorem rY_at (b : Fin 3) (s : Fin 640) (d : Fin 1536) : rY (slabOf x0 b) x1 x2 (cvOf x4 b) x3 (ix2 s d) = yV x0 x1 x2 x3 x4 b s d := by
  unfold rY yV
  rw [y_at, overCols_at, rQ_at, conv_at, rZS_at]

end Out

end Cert.Value.Ref

end
-- ==== Proof.RefEnd.lean ====
/-
  Hand-written, untrusted. What the reference leaves in its five results, the batch rows put together.
-/
module

public import proofs.«01_k».proof.Proof.RefOut

@[expose] public section

set_option maxRecDepth 16384

noncomputable section

namespace Cert.Value.Ref

open Idealize.ShloMosaic Cert.ReferenceIdeal Cert.ReferenceIdeal.Gen

section Rows
variable (x0 : Vec Ideal S3x640x1536 .bf16) (x1 : Vec Ideal S1536x4608 .fp8e4m3) (x2 : Vec Ideal S1x4608 .f32) (x3 : Vec Ideal S1x1536 .f32) (x4 : Vec Ideal S3x640x1536 .f32)

/-! ## A row of each result, in its place -/

theorem slabEmb (b : Fin 3) (h) (s : Fin 640) (d : Fin 1536) :
    (Rect.unit (s := S3x640x1536) ![b.val, 0, 0] S1x640x1536.size h).emb (ix3 0 s d) = ix3 b s d := by
  funext a; fin_cases a <;> exact Fin.ext (by simp [Rect.emb_apply])
theorem usEmb (b : Fin 3) (h) (s : Fin 640) :
    (Rect.unit (s := S3x640x1) ![b.val, 0, 0] S1x640x1.size h).emb (ix3 0 s 0) = ix3 b s 0 := by
  funext a; fin_cases a <;> exact Fin.ext (by simp [Rect.emb_apply])
theorem zsEmb (b : Fin 3) (h) (d : Fin 1536) :
    (Rect.unit (s := S3x1x1536) ![b.val, 0, 0] S1x1x1536.size h).emb (ix3 0 0 d) = ix3 b 0 d := by
  funext a; fin_cases a <;> exact Fin.ext (by simp [Rect.emb_apply])

/-- The five results as functions of an index. -/
def gY : Vec Ideal S3x640x1536 .bf16 := fun y => yV x0 x1 x2 x3 x4 (y 0) (y 1) (y 2)
def gUC : Vec Ideal S3x640x1536 .fp8e4m3 := fun y => uC x0 (y 0) (y 1) (y 2)
def gUS : Vec Ideal S3x640x1 .f32 := fun y => uS x0 (y 0) (y 1)
def gZC : Vec Ideal S3x640x1536 .fp8e4m3 := fun y => zC x0 x1 x2 (y 0) (y 1) (y 2)
def gZS : Vec Ideal S3x1x1536 .f32 := fun y => zS x0 x1 x2 (y 0) (y 2)

theorem rowY (b : Fin 3) (h) (i : S1x640x1536.Idx) : shapeCast S1x640x1536 (rY (slabOf x0 b) x1 x2 (cvOf x4 b) x3) shapeCasts_S640x1536_S1x640x1536 i
    = gY x0 x1 x2 x3 x4 ((Rect.unit (s := S3x640x1536) ![b.val, 0, 0] S1x640x1536.size h).emb i) := by
  idx_vars i
  obtain rfl : i0 = 0 := Subsingleton.elim _ _
  rw [slabEmb]
  pointwise [gY, rY_at]

theorem rowUC (b : Fin 3) (h) (i : S1x640x1536.Idx) : shapeCast S1x640x1536 (rUC (slabOf x0 b)) shapeCasts_S640x1536_S1x640x1536 i
    = gUC x0 ((Rect.unit (s := S3x640x1536) ![b.val, 0, 0] S1x640x1536.size h).emb i) := by
  idx_vars i
  obtain rfl : i0 = 0 := Subsingleton.elim _ _
  rw [slabEmb]
  pointwise [gUC, rUC_at]

theorem rowZC (b : Fin 3) (h) (i : S1x640x1536.Idx) : shapeCast S1x640x1536 (rZC (slabOf x0 b) x1 x2) shapeCasts_S640x1536_S1x640x1536 i
    = gZC x0 x1 x2 ((Rect.unit (s := S3x640x1536) ![b.val, 0, 0] S1x640x1536.size h).emb i) := by
  idx_vars i
  obtain rfl : i0 = 0 := Subsingleton.elim _ _
  rw [slabEmb]
  pointwise [gZC, rZC_at]

theorem rowUS (b : Fin 3) (h) (i : S1x640x1.Idx) : shapeCast S1x640x1 (rUS (slabOf x0 b)) shapeCasts_S640x1_S1x640x1 i
    = gUS x0 ((Rect.unit (s := S3x640x1) ![b.val, 0, 0] S1x640x1.size h).emb i) := by
  idx_vars i
  obtain rfl : i0 = 0 := Subsingleton.elim _ _
  obtain rfl : i2 = 0 := Subsingleton.elim _ _
  rw [usEmb]
  pointwise [gUS, rUS_at]

theorem rowZS (b : Fin 3) (h) (i : S1x1x1536.Idx) : shapeCast S1x1x1536 (rZS (slabOf x0 b) x1 x2) shapeCasts_S1x1536_S1x1x1536 i
    = gZS x0 x1 x2 ((Rect.unit (s := S3x1x1536) ![b.val, 0, 0] S1x1x1536.size h).emb i) := by
  idx_vars i
  obtain rfl : i0 = 0 := Subsingleton.elim _ _
  obtain rfl : i1 = 0 := Subsingleton.elim _ _
  rw [zsEmb]
  pointwise [gZS, rZS_at]

/-! ## The results -/

theorem us0' : k0_pay49 x0 x1 x2 x3 x4 = rUS (slabOf x0 0) := by
  unfold k0_pay49
  rw [ld_0, us0]
theorem uc0' : k0_pay50 x0 x1 x2 x3 x4 = rUC (slabOf x0 0) := by
  unfold k0_pay50
  rw [ld_0, uc0]
theorem us1' : k0_pay54 x0 x1 x2 x3 x4 = rUS (slabOf x0 1) := by
  unfold k0_pay54
  rw [ld_1, us1]
theorem uc1' : k0_pay55 x0 x1 x2 x3 x4 = rUC (slabOf x0 1) := by
  unfold k0_pay55
  rw [ld_1, uc1]
theorem us2' : k0_pay58 x0 x1 x2 x3 x4 = rUS (slabOf x0 2) := by
  unfold k0_pay58
  rw [ld_2, us2]
theorem uc2' : k0_pay59 x0 x1 x2 x3 x4 = rUC (slabOf x0 2) := by
  unfold k0_pay59
  rw [ld_2, uc2]

theorem out5_eq : out0_5 x0 x1 x2 x3 x4 = gY x0 x1 x2 x3 x4 := by
  funext y
  unfold out0_5
  refine View.canon_apply_of_pieces (gY x0 x1 x2 x3 x4) _ ?_ y (cover0_5 _ _ _ y)
  intro p hp
  simp only [List.mem_cons, List.not_mem_nil, or_false] at hp
  rcases hp with rfl | rfl | rfl
  · intro x
    refine Eq.trans ?_ (rowY x0 x1 x2 x3 x4 2 inb_S3x640x1536_S1x640x1536_2_0_0 x)
    dsimp only
    unfold k0_pay60 k0_pay61
    rw [us2', uc2', ld_w, ld_ws, ld_hs, ldc_2, y2]
  · intro x
    refine Eq.trans ?_ (rowY x0 x1 x2 x3 x4 1 inb_S3x640x1536_S1x640x1536_1_0_0 x)
    dsimp only
    unfold k0_pay56 k0_pay57
    rw [us1', uc1', ld_w, ld_ws, ld_hs, ldc_1, y1]
  · intro x
    refine Eq.trans ?_ (rowY x0 x1 x2 x3 x4 0 inb_S3x640x1536_S1x640x1536_0_0_0 x)
    dsimp only
    unfold k0_pay51 k0_pay52 k0_pay53
    rw [us0', uc0', ld_w, ld_ws, ld_hs, ldc_0, y0]

theorem out6_eq : out0_6 x0 x1 x2 x3 x4 = gUC x0 := by
  funext y
  unfold out0_6
  refine View.canon_apply_of_pieces (gUC x0) _ ?_ y (cover0_6 _ _ _ y)
  intro p hp
  simp only [List.mem_cons, List.not_mem_nil, or_false] at hp
  rcases hp with rfl | rfl | rfl
  · intro x
    refine Eq.trans ?_ (rowUC x0 2 inb_S3x640x1536_S1x640x1536_2_0_0 x)
    dsimp only
    unfold k0_pay36
    rw [uc2']
  · intro x
    refine Eq.trans ?_ (rowUC x0 1 inb_S3x640x1536_S1x640x1536_1_0_0 x)
    dsimp only
    unfold k0_pay21
    rw [uc1']
  · intro x
    refine Eq.trans ?_ (rowUC x0 0 inb_S3x640x1536_S1x640x1536_0_0_0 x)
    dsimp only
    unfold k0_pay5
    rw [uc0']

theorem out7_eq : out0_7 x0 x1 x2 x3 x4 = gUS x0 := by
  funext y
  unfold out0_7
  refine View.canon_apply_of_pieces (gUS x0) _ ?_ y (cover0_7 _ _ _ y)
  intro p hp
  simp only [List.mem_cons, List.not_mem_nil, or_false] at hp
  rcases hp with rfl | rfl | rfl
  · intro x
    refine Eq.trans ?_ (rowUS x0 2 inb_S3x640x1_S1x640x1_2_0_0 x)
    dsimp only
    unfold k0_pay37
    rw [us2']
  · intro x
    refine Eq.trans ?_ (rowUS x0 1 inb_S3x640x1_S1x640x1_1_0_0 x)
    dsimp only
    unfold k0_pay22
    rw [us1']
  · intro x
    refine Eq.trans ?_ (rowUS x0 0 inb_S3x640x1_S1x640x1_0_0_0 x)
    dsimp only
    unfold k0_pay6
    rw [us0']

theorem out8_eq : out0_8 x0 x1 x2 x3 x4 = gZC x0 x1 x2 := by
  funext y
  unfold out0_8
  refine View.canon_apply_of_pieces (gZC x0 x1 x2) _ ?_ y (cover0_8 _ _ _ y)
  intro p hp
  simp only [List.mem_cons, List.not_mem_nil, or_false] at hp
  rcases hp with rfl | rfl | rfl
  · intro x
    refine Eq.trans ?_ (rowZC x0 x1 x2 2 inb_S3x640x1536_S1x640x1536_2_0_0 x)
    dsimp only
    unfold k0_pay60 k0_pay61
    rw [us2', uc2', ld_w, ld_ws, zc2]
  · intro x
    refine Eq.trans ?_ (rowZC x0 x1 x2 1 inb_S3x640x1536_S1x640x1536_1_0_0 x)
    dsimp only
    unfold k0_pay56 k0_pay57
    rw [us1', uc1', ld_w, ld_ws, zc1]
  · intro x
    refine Eq.trans ?_ (rowZC x0 x1 x2 0 inb_S3x640x1536_S1x640x1536_0_0_0 x)
    dsimp only
    unfold k0_pay51 k0_pay52 k0_pay53
    rw [us0', uc0', ld_w, ld_ws, zc0]

theorem out9_eq : out0_9 x0 x1 x2 x3 x4 = gZS x0 x1 x2 := by
  funext y
  unfold out0_9
  refine View.canon_apply_of_pieces (gZS x0 x1 x2) _ ?_ y (cover0_9 _ _ _ y)
  intro p hp
  simp only [List.mem_cons, List.not_mem_nil, or_false] at hp
  rcases hp with rfl | rfl | rfl
  · intro x
    refine Eq.trans ?_ (rowZS x0 x1 x2 2 inb_S3x1x1536_S1x1x1536_2_0_0 x)
    dsimp only
    unfold k0_pay60 k0_pay61 k0_pay47
    rw [us2', uc2', ld_w, ld_ws, c2]
  · intro x
    refine Eq.trans ?_ (rowZS x0 x1 x2 1 inb_S3x1x1536_S1x1x1536_1_0_0 x)
    dsimp only
    unfold k0_pay56 k0_pay57 k0_pay31
    rw [us1', uc1', ld_w, ld_ws, c1]
  · intro x
    refine Eq.trans ?_ (rowZS x0 x1 x2 0 inb_S3x1x1536_S1x1x1536_0_0_0 x)
    dsimp only
    unfold k0_pay51 k0_pay52 k0_pay53 k0_pay16
    rw [us0', uc0', ld_w, ld_ws, c0]

end Rows

end Cert.Value.Ref

end
-- ==== Proof.RefRun.lean ====
/-
  Hand-written, untrusted. The reference's run: what its results hold at the end, as functions of the arguments.
-/
module

public import proofs.«01_k».proof.Proof.RefEnd
public import Idealize.ShloMosaic.Lib.Claim
public import Idealize.ShloMosaic.Lib.Pipeline.ValueKit

@[expose] public section

set_option maxRecDepth 16384

noncomputable section

namespace Cert.Value.Ref

open Idealize.ShloMosaic Idealize.ShloMosaic.TcCoe Idealize.SL.Sem Cert.ReferenceIdeal Cert.ReferenceIdeal.Gen

variable (m : (ℓ : Loc nD τ sig) → Buf (Elt Ideal) ℓ) (g : Dev nD → PrngReg)

/-- The weights' scales as one row. -/
def wsRow (w : Vec Ideal S4608 .f32) : Vec Ideal S1x4608 .f32 := fun y => w (ix1 (y 1))

/-- The filters' scales as one row, 16 channels to a filter. -/
def hsRow (h : Vec Ideal S96 .f32) : Vec Ideal S1x1536 .f32 := fun y => h (ix1 ⟨(y 1).val / 16, by have : (y 1).val < 1536 := (y 1).isLt; omega⟩)

/-- The filters' scales, each for its 16 channels, reshaped to one row. -/
theorem row_hs (h : Vec Ideal S96 .f32) : shapeCast S1x1536 (broadcastInDim S96x16 ![0, 1] bcast_S96x1_S96x16_0_1 (broadcastInDim S96x1 ![0] bcast_S96_S96x1_0 h)) shapeCasts_S96x16_S1x1536 = hsRow h := by
  funext y
  unfold hsRow
  idx_vars y
  obtain rfl : y0 = 0 := Subsingleton.elim _ _
  have e : broadcastInDim S96x16 ![0, 1] bcast_S96x1_S96x16_0_1 (broadcastInDim S96x1 ![0] bcast_S96_S96x1_0 h) (ix2 ⟨y1.val / 16, by omega⟩ ⟨y1.val % 16, by omega⟩)
      = h (ix1 ⟨y1.val / 16, by omega⟩) := by
    pointwise
  refine Eq.trans ?_ e
  generalize broadcastInDim S96x16 ![0, 1] bcast_S96x1_S96x16_0_1 (broadcastInDim S96x1 ![0] bcast_S96_S96x1_0 h) = x
  refine congrArg x (Shape.reshapeEquiv_eq_of_rowMajor _ ?_)
  rw [Shape.rowMajor_val_two, Shape.rowMajor_val_two]
  show y1.val / 16 * 16 + y1.val % 16 = 0 * 1536 + y1.val
  omega

theorem at_0 : win0_0.index t0_0 = ![0, 0, 0] := by decide
theorem at_1 : win0_1.index t0_0 = ![0, 0] := by decide
theorem at_2 : win0_2.index t0_0 = ![0, 0] := by decide
theorem at_3 : win0_3.index t0_0 = ![0, 0] := by decide
theorem at_4 : win0_4.index t0_0 = ![0, 0, 0] := by decide

theorem blk_0 (c : Dev nD) : (iblk m c 0 t0_0 : Vec Ideal S3x640x1536 .bf16) = m ((c : Thread nD τ).loc main_arg0) := by
  funext y
  blk_ext [iblk, V, at_0]

theorem blk_1 (c : Dev nD) : (iblk m c 1 t0_0 : Vec Ideal S1536x4608 .fp8e4m3) = m ((c : Thread nD τ).loc main_arg1) := by
  funext y
  blk_ext [iblk, V, at_1]

theorem blk_2 (c : Dev nD) : (iblk m c 2 t0_0 : Vec Ideal S1x4608 .f32) = wsRow (m ((c : Thread nD τ).loc main_arg2)) := by
  funext y
  unfold wsRow
  idx_vars y
  obtain rfl : y0 = 0 := Subsingleton.elim _ _
  blk_simp [iblk]
  entry_read
  pointwise
  blk_ext [at_2]

/-- The filters' scales in one window are the whole row. -/
theorem hs_read (X : Vec Ideal S1x1536 .f32) : ((win0_3.blk t0_0).view.read (Elt Ideal) X : Vec Ideal S1x1536 .f32) = X := by
  funext y
  blk_ext [at_3]

/-- The filters' scales' row as the region finds it. -/
theorem V_hs (c : Dev nD) : V m c main_v2 = shapeCast S1x1536 (broadcastInDim S96x16 ![0, 1] bcast_S96x1_S96x16_0_1 (broadcastInDim S96x1 ![0] bcast_S96_S96x1_0 (m ((c : Thread nD τ).loc main_arg3)))) shapeCasts_S96x16_S1x1536 := by
  entry_read
  rfl

theorem blk_3 (c : Dev nD) : (iblk m c 3 t0_0 : Vec Ideal S1x1536 .f32) = hsRow (m ((c : Thread nD τ).loc main_arg3)) :=
  (hs_read (V m c main_v2)).trans ((V_hs m c).trans (row_hs _))

theorem blk_4 (c : Dev nD) : (iblk m c 4 t0_0 : Vec Ideal S3x640x1536 .f32) = m ((c : Thread nD τ).loc main_arg4) := by
  funext y
  blk_ext [iblk, V, at_4]

theorem arr_5 (c : Dev nD) : (dats m 0 c).arrAt 5 (cfgs 0).N
    = gY (m ((c : Thread nD τ).loc main_arg0)) (m ((c : Thread nD τ).loc main_arg1)) (wsRow (m ((c : Thread nD τ).loc main_arg2))) (hsRow (m ((c : Thread nD τ).loc main_arg3))) (m ((c : Thread nD τ).loc main_arg4)) := by
  refine (dats m 0 c).arrAt_eq_of_after_last 5 t0_0 (by decide +kernel) _ fun j => ?_
  rw [after0_5, blk_0, blk_1, blk_2, blk_3, blk_4, out5_eq]
  blk_simp

theorem arr_6 (c : Dev nD) : (dats m 0 c).arrAt 6 (cfgs 0).N
    = gUC (m ((c : Thread nD τ).loc main_arg0)) := by
  refine (dats m 0 c).arrAt_eq_of_after_last 6 t0_0 (by decide +kernel) _ fun j => ?_
  rw [after0_6, blk_0, out6_eq]
  blk_simp

theorem arr_7 (c : Dev nD) : (dats m 0 c).arrAt 7 (cfgs 0).N
    = gUS (m ((c : Thread nD τ).loc main_arg0)) := by
  refine (dats m 0 c).arrAt_eq_of_after_last 7 t0_0 (by decide +kernel) _ fun j => ?_
  rw [after0_7, blk_0, out7_eq]
  blk_simp

theorem arr_8 (c : Dev nD) : (dats m 0 c).arrAt 8 (cfgs 0).N
    = gZC (m ((c : Thread nD τ).loc main_arg0)) (m ((c : Thread nD τ).loc main_arg1)) (wsRow (m ((c : Thread nD τ).loc main_arg2))) := by
  refine (dats m 0 c).arrAt_eq_of_after_last 8 t0_0 (by decide +kernel) _ fun j => ?_
  rw [after0_8, blk_0, blk_1, blk_2, out8_eq]
  blk_simp

theorem arr_9 (c : Dev nD) : (dats m 0 c).arrAt 9 (cfgs 0).N
    = gZS (m ((c : Thread nD τ).loc main_arg0)) (m ((c : Thread nD τ).loc main_arg1)) (wsRow (m ((c : Thread nD τ).loc main_arg2))) := by
  refine (dats m 0 c).arrAt_eq_of_after_last 9 t0_0 (by decide +kernel) _ fun j => ?_
  rw [after0_9, blk_0, blk_1, blk_2, out9_eq]
  blk_simp

/-- The reference's run. -/
theorem run : θ_run defs (onTc (τ := τ) (main (F := Ideal))) ⟨m, fun _ => 0, g⟩ (fun r => ∀ c : Dev nD,
      r.2.mem ((c.tc : Thread nD τ).loc main_v4_0)
          = gY (m ((c.tc : Thread nD τ).loc main_arg0)) (m ((c.tc : Thread nD τ).loc main_arg1)) (wsRow (m ((c.tc : Thread nD τ).loc main_arg2))) (hsRow (m ((c.tc : Thread nD τ).loc main_arg3))) (m ((c.tc : Thread nD τ).loc main_arg4))
      ∧ r.2.mem ((c.tc : Thread nD τ).loc main_v4_1)
          = gUC (m ((c.tc : Thread nD τ).loc main_arg0))
      ∧ r.2.mem ((c.tc : Thread nD τ).loc main_v4_2)
          = gUS (m ((c.tc : Thread nD τ).loc main_arg0))
      ∧ r.2.mem ((c.tc : Thread nD τ).loc main_v4_3)
          = gZC (m ((c.tc : Thread nD τ).loc main_arg0)) (m ((c.tc : Thread nD τ).loc main_arg1)) (wsRow (m ((c.tc : Thread nD τ).loc main_arg2)))
      ∧ r.2.mem ((c.tc : Thread nD τ).loc main_v4_4)
          = gZS (m ((c.tc : Thread nD τ).loc main_arg0)) (m ((c.tc : Thread nD τ).loc main_arg1)) (wsRow (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m g) (unchanged m g))
  obtain ⟨h, hu⟩ := h
  refine ⟨?_, ?_, ?_, ?_, ?_, hu c⟩
  · exact ((h c).1 5).trans (arr_5 m c)
  · exact ((h c).1 6).trans (arr_6 m c)
  · exact ((h c).1 7).trans (arr_7 m c)
  · exact ((h c).1 8).trans (arr_8 m c)
  · exact ((h c).1 9).trans (arr_9 m c)

end Cert.Value.Ref

end
-- ==== Proof.Algebraic.lean ====
/-
  Hand-written, untrusted. The value claim: at the ideal values the kernel and the reference end with equal results.
-/
module

public import proofs.«01_k».proof.Defs
public import proofs.«01_k».proof.Proof.Same
public import proofs.«01_k».proof.Proof.KerRun
public import proofs.«01_k».proof.Proof.RefRun

@[expose] public section

set_option maxRecDepth 16384

noncomputable section

namespace Cert.Value

open Idealize.ShloMosaic Idealize.ShloMosaic.TcCoe Idealize.SL.Sem

section Results
variable (U : Vec Ideal Cert.Kernel.S3x640x1536 .bf16) (W : Vec Ideal Cert.Kernel.S1536x4608 .fp8e4m3) (Ws : Vec Ideal Cert.Kernel.S1x4608 .f32)
  (Hs : Vec Ideal Cert.Kernel.S1x1536 .f32) (Cv : Vec Ideal Cert.Kernel.S3x640x1536 .f32)

theorem outputs : Cert.Kernel.Hand.specY U W Ws Hs Cv = Ref.gY U W Ws Hs Cv := by
  funext y
  idx_vars y
  exact Ker.specY_ix U W Ws Hs Cv y0 y1 y2

theorem codes : Cert.Kernel.Hand.specUC U = Ref.gUC U := by
  funext y
  idx_vars y
  exact Ker.specUC_ix U y0 y1 y2

theorem scales : shapeCast Cert.Kernel.S3x640x1 (Cert.Kernel.Hand.specSO U) Cert.Kernel.Gen.shapeCasts_S3x5x128_S3x640x1 = Ref.gUS U := by
  funext y
  idx_vars y
  obtain rfl : y2 = 0 := Subsingleton.elim _ _
  exact Ker.us_ix U y0 y1

theorem zcodes : Cert.Kernel.Hand.specZC U W Ws = Ref.gZC U W Ws := by
  funext y
  idx_vars y
  exact Ker.specZC_ix U W Ws y0 y1 y2

theorem zscales : Cert.Kernel.Hand.specZS U W Ws = Ref.gZS U W Ws := by
  funext y
  idx_vars y
  obtain rfl : y1 = 0 := Subsingleton.elim _ _
  exact Ker.specZS_ix U W Ws y0 y2

end Results

section KernelRun
open Cert.Kernel Cert.Kernel.Gen Cert.Kernel.Hand
variable (m : (ℓ : Loc nD τ sig) → Buf (Elt Ideal) ℓ) (g : Dev nD → PrngReg)

/-- The kernel's run. -/
theorem kernel_run : θ_run defs (onTc (τ := τ) (main (F := Ideal))) ⟨m, fun _ => 0, g⟩ (fun r => ∀ c : Dev nD,
      r.2.mem ((c.tc : Thread nD τ).loc main_v4_0)
          = Ref.gY (m ((c.tc : Thread nD τ).loc main_arg0)) (m ((c.tc : Thread nD τ).loc main_arg1)) (Ref.wsRow (m ((c.tc : Thread nD τ).loc main_arg2))) (Ref.hsRow (m ((c.tc : Thread nD τ).loc main_arg3))) (m ((c.tc : Thread nD τ).loc main_arg4))
      ∧ r.2.mem ((c.tc : Thread nD τ).loc main_v4_1)
          = Ref.gUC (m ((c.tc : Thread nD τ).loc main_arg0))
      ∧ r.2.mem ((c.tc : Thread nD τ).loc main_v5)
          = Ref.gUS (m ((c.tc : Thread nD τ).loc main_arg0))
      ∧ r.2.mem ((c.tc : Thread nD τ).loc main_v4_3)
          = Ref.gZC (m ((c.tc : Thread nD τ).loc main_arg0)) (m ((c.tc : Thread nD τ).loc main_arg1)) (Ref.wsRow (m ((c.tc : Thread nD τ).loc main_arg2)))
      ∧ r.2.mem ((c.tc : Thread nD τ).loc main_v4_4)
          = Ref.gZS (m ((c.tc : Thread nD τ).loc main_arg0)) (m ((c.tc : Thread nD τ).loc main_arg1)) (Ref.wsRow (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_ends (F := Ideal) m g)
  obtain ⟨⟨a0, a1, a2, a3, a4⟩, hy, h0, h1, h2, h3⟩ := h.1 c
  refine ⟨hy.trans ?_, h0.trans (codes _), h1.trans ((Ker.final_us m c).trans (scales _)), h2.trans ?_, h3.trans ?_, a0, a1, a2, a3, a4⟩
  · rw [Ker.wsAt_eq, Ker.hsAt_eq, Ker.cvAt_eq]
    exact outputs _ _ _ _ _
  · rw [Ker.wsAt_eq]
    exact zcodes _ _ _
  · rw [Ker.wsAt_eq]
    exact zscales _ _ _

end KernelRun

section IdealRun
open Cert.KernelIdeal
variable (m : (ℓ : Loc nD τ sig) → Buf (Elt Ideal) ℓ) (g : Dev nD → PrngReg)

/-- The idealized kernel is the kernel's own text, so it runs the same. -/
theorem ideal_run : θ_run defs (onTc (τ := τ) (main (F := Ideal))) ⟨m, fun _ => 0, g⟩ (fun r => ∀ c : Dev nD,
      r.2.mem ((c.tc : Thread nD τ).loc main_v4_0)
          = Ref.gY (m ((c.tc : Thread nD τ).loc main_arg0)) (m ((c.tc : Thread nD τ).loc main_arg1)) (Ref.wsRow (m ((c.tc : Thread nD τ).loc main_arg2))) (Ref.hsRow (m ((c.tc : Thread nD τ).loc main_arg3))) (m ((c.tc : Thread nD τ).loc main_arg4))
      ∧ r.2.mem ((c.tc : Thread nD τ).loc main_v4_1)
          = Ref.gUC (m ((c.tc : Thread nD τ).loc main_arg0))
      ∧ r.2.mem ((c.tc : Thread nD τ).loc main_v5)
          = Ref.gUS (m ((c.tc : Thread nD τ).loc main_arg0))
      ∧ r.2.mem ((c.tc : Thread nD τ).loc main_v4_3)
          = Ref.gZC (m ((c.tc : Thread nD τ).loc main_arg0)) (m ((c.tc : Thread nD τ).loc main_arg1)) (Ref.wsRow (m ((c.tc : Thread nD τ).loc main_arg2)))
      ∧ r.2.mem ((c.tc : Thread nD τ).loc main_v4_4)
          = Ref.gZS (m ((c.tc : Thread nD τ).loc main_arg0)) (m ((c.tc : Thread nD τ).loc main_arg1)) (Ref.wsRow (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  rw [Cert.Same.run_eq]
  exact kernel_run m g

end IdealRun

theorem algebraic : Cert.algebraic_KernelIdeal_ReferenceIdeal (hKernelIdeal := Cert.KernelIdeal.Gen.facts) (hReferenceIdeal := Cert.ReferenceIdeal.Gen.facts) := by
  intro m g m' g' _ same
  refine ⟨_, _, _, _, _, ideal_run m g, (θ_run _ _ _).mono (fun r h c => ?_) (Ref.run m' g')⟩
  have h := h c
  obtain ⟨s0, s1, s2, s3, s4⟩ := same c
  rw [s0, s1, s2, s3, s4] at h
  obtain ⟨hy, h0, h1, h2, h3, a0, a1, a2, a3, a4⟩ := h
  exact ⟨hy, h0, h1, h2, h3, a0.trans s0.symm, a1.trans s1.symm, a2.trans s2.symm, a3.trans s3.symm, a4.trans s4.symm⟩

end Cert.Value

end
-- ==== Proof.lean ====
/-
  Hand-written, untrusted. The claims of `01_k`: the kernel and its idealization run to the end, leave their arguments
  alone and end with every semaphore at zero; so does the reference; and at the ideal values both end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frame
public import proofs.«01_k».proof.Proof.Same
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The idealized kernel's frame: it is the kernel's own text, so the kernel's frame at the ideal values is it. -/
theorem frame_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) := by
  rw [Cert.Same.run_eq]
  exact Cert.Kernel.Hand.frame (F := Ideal) m g

theorem claim : Cert.Claim := ⟨Cert.Kernel.Gen.facts, Cert.KernelIdeal.Gen.facts, Cert.ReferenceIdeal.Gen.facts,
  fun m g _ => Cert.Kernel.Hand.frame m g, fun m g _ => frame_ideal m g, fun m g _ => Cert.ReferenceIdeal.Gen.frame m g, trivial,
  Cert.Value.algebraic⟩

end Cert.Proof

end
